-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_finite_queries [hPre_finite_queries : Cert.Pre_finite_queries.Facts] (m : (ℓ : Loc Cert.StatsIdeal.nD Cert.StatsIdeal.τ Cert.StatsIdeal.sig) → Buf (Elt Ideal) ℓ) : Prop :=
  ∀ c : Dev Cert.StatsIdeal.nD,
    (Cert.Pre_finite_queries.fn (F := Ideal) (m ((c.tc : Thread Cert.StatsIdeal.nD Cert.StatsIdeal.τ).loc Cert.StatsIdeal.main_arg0))) = (fun _ => 1#1)

def Pre_StatsReferenceIdeal (m : (ℓ : Loc Cert.StatsReferenceIdeal.nD Cert.StatsReferenceIdeal.τ Cert.StatsReferenceIdeal.sig) → Buf (Elt Ideal) ℓ) : Prop :=
  True

def Pre_StatsReferenceIdeal_finite_queries [hPre_finite_queries : Cert.Pre_finite_queries.Facts] (m : (ℓ : Loc Cert.StatsReferenceIdeal.nD Cert.StatsReferenceIdeal.τ Cert.StatsReferenceIdeal.sig) → Buf (Elt Ideal) ℓ) : Prop :=
  ∀ c : Dev Cert.StatsReferenceIdeal.nD,
    (Cert.Pre_finite_queries.fn (F := Ideal) (m ((c.tc : Thread Cert.StatsReferenceIdeal.nD Cert.StatsReferenceIdeal.τ).loc Cert.StatsReferenceIdeal.main_arg0))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ r.2.sem = fun _ => 0)

def quiescent_StatsIdeal_pre_finite_queries [hStatsIdeal : Cert.StatsIdeal.Facts] [hPre_finite_queries : Cert.Pre_finite_queries.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_finite_queries m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0))
      ∧ r.2.sem = fun _ => 0)

def quiescent_StatsReferenceIdeal_pre_finite_queries [hStatsReferenceIdeal : Cert.StatsReferenceIdeal.Facts] [hPre_finite_queries : Cert.Pre_finite_queries.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal_finite_queries m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def preserves_Stats_StatsIdeal : Prop :=
  IdealRules.named_const.Statement Cert.StatsIdeal.κ "third" .f32 0x3EAAAAAB#32 ((3⁻¹ : ℝ) : EReal)
  ∧ IdealRules.named_const.Statement Cert.StatsIdeal.κ "fifth" .f32 0x3E4CCCCD#32 ((5⁻¹ : ℝ) : EReal)

def algebraic_StatsIdeal_StatsReferenceIdeal_pre_finite_queries [hStatsIdeal : Cert.StatsIdeal.Facts] [hStatsReferenceIdeal : Cert.StatsReferenceIdeal.Facts] [hPre_finite_queries : Cert.Pre_finite_queries.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal_finite_queries m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v86) = v0 c
          ∧ r.2.mem ((c.tc : Thread Cert.StatsReferenceIdeal.nD Cert.StatsReferenceIdeal.τ).loc Cert.StatsReferenceIdeal.main_v87) = v1 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0))

def preserves_Post_PostIdeal : Prop :=
  IdealRules.named_const.Statement Cert.PostIdeal.κ "low" .f32 0xF149F2CA#32 ⊥

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)) (v3 : (c : Dev Cert.PostIdeal.nD) → Buf (Elt Ideal) ((c.tc : Thread Cert.PostIdeal.nD Cert.PostIdeal.τ).loc Cert.PostIdeal.main_v0_3)) (v4 : (c : Dev Cert.PostIdeal.nD) → Buf (Elt Ideal) ((c.tc : Thread Cert.PostIdeal.nD Cert.PostIdeal.τ).loc Cert.PostIdeal.main_v0_4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_v0_3) = v3 c
          ∧ r.2.mem ((c.tc : Thread Cert.PostIdeal.nD Cert.PostIdeal.τ).loc Cert.PostIdeal.main_v0_4) = v4 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v141) = v0 c
          ∧ r.2.mem ((c.tc : Thread Cert.PostReferenceIdeal.nD Cert.PostReferenceIdeal.τ).loc Cert.PostReferenceIdeal.main_v142) = v1 c
          ∧ r.2.mem ((c.tc : Thread Cert.PostReferenceIdeal.nD Cert.PostReferenceIdeal.τ).loc Cert.PostReferenceIdeal.main_v144) = v2 c
          ∧ r.2.mem ((c.tc : Thread Cert.PostReferenceIdeal.nD Cert.PostReferenceIdeal.τ).loc Cert.PostReferenceIdeal.main_v146) = v3 c
          ∧ r.2.mem ((c.tc : Thread Cert.PostReferenceIdeal.nD Cert.PostReferenceIdeal.τ).loc Cert.PostReferenceIdeal.main_v149) = v4 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1))

def Claim : Prop :=
  ∃ (hKernel : Cert.Kernel.Facts) (hKernelIdeal : Cert.KernelIdeal.Facts) (hReferenceIdeal : Cert.ReferenceIdeal.Facts) (hStats : Cert.Stats.Facts) (hStatsIdeal : Cert.StatsIdeal.Facts) (hStatsReferenceIdeal : Cert.StatsReferenceIdeal.Facts) (hPost : Cert.Post.Facts) (hPostIdeal : Cert.PostIdeal.Facts) (hPostReferenceIdeal : Cert.PostReferenceIdeal.Facts) (hPre_finite : Cert.Pre_finite.Facts) (hPre_finite_queries : Cert.Pre_finite_queries.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Stats (hStats := hStats)
    ∧ quiescent_StatsIdeal (hStatsIdeal := hStatsIdeal)
    ∧ quiescent_StatsIdeal_pre_finite_queries (hStatsIdeal := hStatsIdeal) (hPre_finite_queries := hPre_finite_queries)
    ∧ quiescent_StatsReferenceIdeal (hStatsReferenceIdeal := hStatsReferenceIdeal)
    ∧ quiescent_StatsReferenceIdeal_pre_finite_queries (hStatsReferenceIdeal := hStatsReferenceIdeal) (hPre_finite_queries := hPre_finite_queries)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Stats_StatsIdeal
    ∧ algebraic_StatsIdeal_StatsReferenceIdeal_pre_finite_queries (hStatsIdeal := hStatsIdeal) (hStatsReferenceIdeal := hStatsReferenceIdeal) (hPre_finite_queries := hPre_finite_queries)
    ∧ preserves_Post_PostIdeal
    ∧ algebraic_PostIdeal_PostReferenceIdeal (hPostIdeal := hPostIdeal) (hPostReferenceIdeal := hPostReferenceIdeal)
-- ==== Pre_finite.lean ====
abbrev S2x2048x1024 : Shape := ⟨3, ![2, 2048, 1024]⟩
abbrev S1024x1024 : Shape := ⟨2, ![1024, 1024]⟩
abbrev S1024 : Shape := ⟨1, ![1024]⟩
abbrev S2x2048x1 : Shape := ⟨3, ![2, 2048, 1]⟩
abbrev S2x1x1 : Shape := ⟨3, ![2, 1, 1]⟩
abbrev S_ : Shape := ⟨0, ![]⟩

class Facts : Prop where
  bcast_S_S2x2048x1 : S_.BroadcastsInDim S2x2048x1 (![] : Fin 0 → Fin S2x2048x1.rank)
  reducesTo_S2x2048x1_S_d0_1_2 : S2x2048x1.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part6 {F : FTy → Type} [FloatOps F] (main_arg18 : FVec F S1024 .f32) (main_v99 : IVec S_ 1) (main_v100 : FVec F S1024 .f32) (main_cst_40 : FVec F S_ .f32) : IVec S_ 1 :=
  let main_v101 : FVec F S1024 .f32 := broadcastInDim S1024 ![] bcast_S_S1024 main_cst_40
  let main_v102 : IVec S1024 1 := cmpf .olt main_v100 main_v101
  let main_c_41 : IVec S_ 1 := constantI S_ 1 1#1
  let main_v103 : IVec S_ 1 := (fun x v => Host.reduce IntOp.andi x v reducesTo_S1024_S_d0 h_S_) main_v102 main_c_41
  let main_v104 : IVec S_ 1 := andi main_v99 main_v103
  let main_v105 : FVec F S1024 .f32 := Host.absf main_arg18
  let main_cst_42 : FVec F S_ .f32 := constant S_ .f32 0x7F800000#32
  let main_v106 : FVec F S1024 .f32 := broadcastInDim S1024 ![] bcast_S_S1024 main_cst_42
  let main_v107 : IVec S1024 1 := cmpf .olt main_v105 main_v106
  let main_c_43 : IVec S_ 1 := constantI S_ 1 1#1
  let main_v108 : IVec S_ 1 := (fun x v => Host.reduce IntOp.andi x v reducesTo_S1024_S_d0 h_S_) main_v107 main_c_43
  let main_v109 : IVec S_ 1 := andi main_v104 main_v108
  main_v109

def fn_part5 {F : FTy → Type} [FloatOps F] (main_arg14 : FVec F S1024 .f32) (main_arg15 : FVec F S1024 .f32) (main_arg16 : FVec F S1024 .f32) (main_arg17 : FVec F S1024 .f32) (main_arg18 : FVec F S1024 .f32) (main_v79 : IVec S_ 1) (main_v83 : IVec S_ 1) : IVec S_ 1 :=
  let main_v84 : IVec S_ 1 := andi main_v79 main_v83
  let main_v85 : FVec F S1024 .f32 := Host.absf main_arg14
  let main_cst_34 : FVec F S_ .f32 := constant S_ .f32 0x7F800000#32
  let main_v86 : FVec F S1024 .f32 := broadcastInDim S1024 ![] bcast_S_S1024 main_cst_34
  let main_v87 : IVec S1024 1 := cmpf .olt main_v85 main_v86
  let main_c_35 : IVec S_ 1 := constantI S_ 1 1#1
  let main_v88 : IVec S_ 1 := (fun x v => Host.reduce IntOp.andi x v reducesTo_S1024_S_d0 h_S_) main_v87 main_c_35
  let main_v89 : IVec S_ 1 := andi main_v84 main_v88
  let main_v90 : FVec F S1024 .f32 := Host.absf main_arg15
  let main_cst_36 : FVec F S_ .f32 := constant S_ .f32 0x7F800000#32
  let main_v91 : FVec F S1024 .f32 := broadcastInDim S1024 ![] bcast_S_S1024 main_cst_36
  let main_v92 : IVec S1024 1 := cmpf .olt main_v90 main_v91
  let main_c_37 : IVec S_ 1 := constantI S_ 1 1#1
  let main_v93 : IVec S_ 1 := (fun x v => Host.reduce IntOp.andi x v reducesTo_S1024_S_d0 h_S_) main_v92 main_c_37
  let main_v94 : IVec S_ 1 := andi main_v89 main_v93
  let main_v95 : FVec F S1024 .f32 := Host.absf main_arg16
  let main_cst_38 : FVec F S_ .f32 := constant S_ .f32 0x7F800000#32
  let main_v96 : FVec F S1024 .f32 := broadcastInDim S1024 ![] bcast_S_S1024 main_cst_38
  let main_v97 : IVec S1024 1 := cmpf .olt main_v95 main_v96
  let main_c_39 : IVec S_ 1 := constantI S_ 1 1#1
  let main_v98 : IVec S_ 1 := (fun x v => Host.reduce IntOp.andi x v reducesTo_S1024_S_d0 h_S_) main_v97 main_c_39
  let main_v99 : IVec S_ 1 := andi main_v94 main_v98
  let main_v100 : FVec F S1024 .f32 := Host.absf main_arg17
  let main_cst_40 : FVec F S_ .f32 := constant S_ .f32 0x7F800000#32
  fn_part6 (F := F) main_arg18 main_v99 main_v100 main_cst_40

def fn_part4 {F : FTy → Type} [FloatOps F] (main_arg11 : FVec F S1024x1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v64 : IVec S_ 1) (main_v65 : FVec F S1024 .f32) (main_v66 : FVec F S1024 .f32) : IVec S_ 1 :=
  let main_v67 : IVec S1024 1 := cmpf .olt main_v65 main_v66
  let main_c_27 : IVec S_ 1 := constantI S_ 1 1#1
  let main_v68 : IVec S_ 1 := (fun x v => Host.reduce IntOp.andi x v reducesTo_S1024_S_d0 h_S_) main_v67 main_c_27
  let main_v69 : IVec S_ 1 := andi main_v64 main_v68
  let main_v70 : FVec F S1024x1024 .f32 := Host.absf main_arg11
  let main_cst_28 : FVec F S_ .f32 := constant S_ .f32 0x7F800000#32
  let main_v71 : FVec F S1024x1024 .f32 := broadcastInDim S1024x1024 ![] bcast_S_S1024x1024 main_cst_28
  let main_v72 : IVec S1024x1024 1 := cmpf .olt main_v70 main_v71
  let main_c_29 : IVec S_ 1 := constantI S_ 1 1#1
  let main_v73 : IVec S_ 1 := (fun x v => Host.reduce IntOp.andi x v reducesTo_S1024x1024_S_d0_1 h_S_) main_v72 main_c_29
  let main_v74 : IVec S_ 1 := andi main_v69 main_v73
  let main_v75 : FVec F S1024 .f32 := Host.absf main_arg12
  let main_cst_30 : FVec F S_ .f32 := constant S_ .f32 0x7F800000#32
  let main_v76 : FVec F S1024 .f32 := broadcastInDim S1024 ![] bcast_S_S1024 main_cst_30
  let main_v77 : IVec S1024 1 := cmpf .olt main_v75 main_v76
  let main_c_31 : IVec S_ 1 := constantI S_ 1 1#1
  let main_v78 : IVec S_ 1 := (fun x v => Host.reduce IntOp.andi x v reducesTo_S1024_S_d0 h_S_) main_v77 main_c_31
  let main_v79 : IVec S_ 1 := andi main_v74 main_v78
  let main_v80 : FVec F S1024 .f32 := Host.absf main_arg13
  let main_cst_32 : FVec F S_ .f32 := constant S_ .f32 0x7F800000#32
  let main_v81 : FVec F S1024 .f32 := broadcastInDim S1024 ![] bcast_S_S1024 main_cst_32
  let main_v82 : IVec S1024 1 := cmpf .olt main_v80 main_v81
  let main_c_33 : IVec S_ 1 := constantI S_ 1 1#1
  let main_v83 : IVec S_ 1 := (fun x v => Host.reduce IntOp.andi x v reducesTo_S1024_S_d0 h_S_) main_v82 main_c_33
  fn_part5 (F := F) main_arg14 main_arg15 main_arg16 main_arg17 main_arg18 main_v79 main_v83

def fn_part3 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v49 : IVec S_ 1) : IVec S_ 1 :=
  let main_v50 : FVec F S1024x1024 .f32 := Host.absf main_arg7
  let main_cst_20 : FVec F S_ .f32 := constant S_ .f32 0x7F800000#32
  let main_v51 : FVec F S1024x1024 .f32 := broadcastInDim S1024x1024 ![] bcast_S_S1024x1024 main_cst_20
  let main_v52 : IVec S1024x1024 1 := cmpf .olt main_v50 main_v51
  let main_c_21 : IVec S_ 1 := constantI S_ 1 1#1
  let main_v53 : IVec S_ 1 := (fun x v => Host.reduce IntOp.andi x v reducesTo_S1024x1024_S_d0_1 h_S_) main_v52 main_c_21
  let main_v54 : IVec S_ 1 := andi main_v49 main_v53
  let main_v55 : FVec F S1024 .f32 := Host.absf main_arg8
  let main_cst_22 : FVec F S_ .f32 := constant S_ .f32 0x7F800000#32
  let main_v56 : FVec F S1024 .f32 := broadcastInDim S1024 ![] bcast_S_S1024 main_cst_22
  let main_v57 : IVec S1024 1 := cmpf .olt main_v55 main_v56
  let main_c_23 : IVec S_ 1 := constantI S_ 1 1#1
  let main_v58 : IVec S_ 1 := (fun x v => Host.reduce IntOp.andi x v reducesTo_S1024_S_d0 h_S_) main_v57 main_c_23
  let main_v59 : IVec S_ 1 := andi main_v54 main_v58
  let main_v60 : FVec F S1024x1024 .f32 := Host.absf main_arg9
  let main_cst_24 : FVec F S_ .f32 := constant S_ .f32 0x7F800000#32
  let main_v61 : FVec F S1024x1024 .f32 := broadcastInDim S1024x1024 ![] bcast_S_S1024x1024 main_cst_24
  let main_v62 : IVec S1024x1024 1 := cmpf .olt main_v60 main_v61
  let main_c_25 : IVec S_ 1 := constantI S_ 1 1#1
  let main_v63 : IVec S_ 1 := (fun x v => Host.reduce IntOp.andi x v reducesTo_S1024x1024_S_d0_1 h_S_) main_v62 main_c_25
  let main_v64 : IVec S_ 1 := andi main_v59 main_v63
  let main_v65 : FVec F S1024 .f32 := Host.absf main_arg10
  let main_cst_26 : FVec F S_ .f32 := constant S_ .f32 0x7F800000#32
  let main_v66 : FVec F S1024 .f32 := broadcastInDim S1024 ![] bcast_S_S1024 main_cst_26
  fn_part4 (F := F) main_arg11 main_arg12 main_arg13 main_arg14 main_arg15 main_arg16 main_arg17 main_arg18 main_v64 main_v65 main_v66

def fn_part2 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v29 : IVec S_ 1) (main_v32 : IVec S1024x1024 1) : IVec S_ 1 :=
  let main_c_13 : IVec S_ 1 := constantI S_ 1 1#1
  let main_v33 : IVec S_ 1 := (fun x v => Host.reduce IntOp.andi x v reducesTo_S1024x1024_S_d0_1 h_S_) main_v32 main_c_13
  let main_v34 : IVec S_ 1 := andi main_v29 main_v33
  let main_v35 : FVec F S1024 .f32 := Host.absf main_arg4
  let main_cst_14 : FVec F S_ .f32 := constant S_ .f32 0x7F800000#32
  let main_v36 : FVec F S1024 .f32 := broadcastInDim S1024 ![] bcast_S_S1024 main_cst_14
  let main_v37 : IVec S1024 1 := cmpf .olt main_v35 main_v36
  let main_c_15 : IVec S_ 1 := constantI S_ 1 1#1
  let main_v38 : IVec S_ 1 := (fun x v => Host.reduce IntOp.andi x v reducesTo_S1024_S_d0 h_S_) main_v37 main_c_15
  let main_v39 : IVec S_ 1 := andi main_v34 main_v38
  let main_v40 : FVec F S1024x1024 .f32 := Host.absf main_arg5
  let main_cst_16 : FVec F S_ .f32 := constant S_ .f32 0x7F800000#32
  let main_v41 : FVec F S1024x1024 .f32 := broadcastInDim S1024x1024 ![] bcast_S_S1024x1024 main_cst_16
  let main_v42 : IVec S1024x1024 1 := cmpf .olt main_v40 main_v41
  let main_c_17 : IVec S_ 1 := constantI S_ 1 1#1
  let main_v43 : IVec S_ 1 := (fun x v => Host.reduce IntOp.andi x v reducesTo_S1024x1024_S_d0_1 h_S_) main_v42 main_c_17
  let main_v44 : IVec S_ 1 := andi main_v39 main_v43
  let main_v45 : FVec F S1024 .f32 := Host.absf main_arg6
  let main_cst_18 : FVec F S_ .f32 := constant S_ .f32 0x7F800000#32
  let main_v46 : FVec F S1024 .f32 := broadcastInDim S1024 ![] bcast_S_S1024 main_cst_18
  let main_v47 : IVec S1024 1 := cmpf .olt main_v45 main_v46
  let main_c_19 : IVec S_ 1 := constantI S_ 1 1#1
  let main_v48 : IVec S_ 1 := (fun x v => Host.reduce IntOp.andi x v reducesTo_S1024_S_d0 h_S_) main_v47 main_c_19
  let main_v49 : IVec S_ 1 := andi main_v44 main_v48
  fn_part3 (F := F) main_arg7 main_arg8 main_arg9 main_arg10 main_arg11 main_arg12 main_arg13 main_arg14 main_arg15 main_arg16 main_arg17 main_arg18 main_v49

def fn_part1 {F : FTy → Type} [FloatOps F] (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v14 : IVec S_ 1) (main_v15 : FVec F S2x2048x1024 .f32) : IVec S_ 1 :=
  let main_cst : FVec F S_ .f32 := constant S_ .f32 0x7F800000#32
  let main_v16 : FVec F S2x2048x1024 .f32 := broadcastInDim S2x2048x1024 ![] bcast_S_S2x2048x1024 main_cst
  let main_v17 : IVec S2x2048x1024 1 := cmpf .olt main_v15 main_v16
  let main_c_7 : IVec S_ 1 := constantI S_ 1 1#1
  let main_v18 : IVec S_ 1 := (fun x v => Host.reduce IntOp.andi x v reducesTo_S2x2048x1024_S_d0_1_2 h_S_) main_v17 main_c_7
  let main_v19 : IVec S_ 1 := andi main_v14 main_v18
  let main_v20 : FVec F S2x2048x1024 .f32 := Host.absf main_arg1
  let main_cst_8 : FVec F S_ .f32 := constant S_ .f32 0x7F800000#32
  let main_v21 : FVec F S2x2048x1024 .f32 := broadcastInDim S2x2048x1024 ![] bcast_S_S2x2048x1024 main_cst_8
  let main_v22 : IVec S2x2048x1024 1 := cmpf .olt main_v20 main_v21
  let main_c_9 : IVec S_ 1 := constantI S_ 1 1#1
  let main_v23 : IVec S_ 1 := (fun x v => Host.reduce IntOp.andi x v reducesTo_S2x2048x1024_S_d0_1_2 h_S_) main_v22 main_c_9
  let main_v24 : IVec S_ 1 := andi main_v19 main_v23
  let main_v25 : FVec F S2x2048x1024 .f32 := Host.absf main_arg2
  let main_cst_10 : FVec F S_ .f32 := constant S_ .f32 0x7F800000#32
  let main_v26 : FVec F S2x2048x1024 .f32 := broadcastInDim S2x2048x1024 ![] bcast_S_S2x2048x1024 main_cst_10
  let main_v27 : IVec S2x2048x1024 1 := cmpf .olt main_v25 main_v26
  let main_c_11 : IVec S_ 1 := constantI S_ 1 1#1
  let main_v28 : IVec S_ 1 := (fun x v => Host.reduce IntOp.andi x v reducesTo_S2x2048x1024_S_d0_1_2 h_S_) main_v27 main_c_11
  let main_v29 : IVec S_ 1 := andi main_v24 main_v28
  let main_v30 : FVec F S1024x1024 .f32 := Host.absf main_arg3
  let main_cst_12 : FVec F S_ .f32 := constant S_ .f32 0x7F800000#32
  let main_v31 : FVec F S1024x1024 .f32 := broadcastInDim S1024x1024 ![] bcast_S_S1024x1024 main_cst_12
  let main_v32 : IVec S1024x1024 1 := cmpf .olt main_v30 main_v31
  fn_part2 (F := F) main_arg4 main_arg5 main_arg6 main_arg7 main_arg8 main_arg9 main_arg10 main_arg11 main_arg12 main_arg13 main_arg14 main_arg15 main_arg16 main_arg17 main_arg18 main_v29 main_v32

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_arg19 : IVec S2x2048x1 32) (main_arg20 : IVec S2x2048x1 32) (main_arg21 : IVec S2x2048x1 32) (main_arg22 : IVec S2x2048x1 32) (main_arg23 : IVec S2x1x1 32) : IVec S_ 1 :=
  let main_c : IVec S_ 32 := constantI S_ 32 2#32
  let main_v0 : IVec S2x2048x1 32 := broadcastInDim S2x2048x1 ![] bcast_S_S2x2048x1 main_c
  let main_v1 : IVec S2x2048x1 1 := cmpi .sge main_arg19 main_v0
  let main_c_0 : IVec S_ 1 := constantI S_ 1 1#1
  let main_v2 : IVec S_ 1 := (fun x v => Host.reduce IntOp.andi x v reducesTo_S2x2048x1_S_d0_1_2 h_S_) main_v1 main_c_0
  let main_c_1 : IVec S_ 32 := constantI S_ 32 256#32
  let main_v3 : IVec S2x2048x1 32 := broadcastInDim S2x2048x1 ![] bcast_S_S2x2048x1 main_c_1
  let main_v4 : IVec S2x2048x1 1 := cmpi .sle main_arg19 main_v3
  let main_c_2 : IVec S_ 1 := constantI S_ 1 1#1
  let main_v5 : IVec S_ 1 := (fun x v => Host.reduce IntOp.andi x v reducesTo_S2x2048x1_S_d0_1_2 h_S_) main_v4 main_c_2
  let main_v6 : IVec S_ 1 := andi main_v2 main_v5
  let main_c_3 : IVec S_ 32 := constantI S_ 32 1#32
  let main_v7 : IVec S2x2048x1 32 := broadcastInDim S2x2048x1 ![] bcast_S_S2x2048x1 main_c_3
  let main_v8 : IVec S2x2048x1 1 := cmpi .sge main_arg20 main_v7
  let main_c_4 : IVec S_ 1 := constantI S_ 1 1#1
  let main_v9 : IVec S_ 1 := (fun x v => Host.reduce IntOp.andi x v reducesTo_S2x2048x1_S_d0_1_2 h_S_) main_v8 main_c_4
  let main_v10 : IVec S_ 1 := andi main_v6 main_v9
  let main_c_5 : IVec S_ 32 := constantI S_ 32 64#32
  let main_v11 : IVec S2x2048x1 32 := broadcastInDim S2x2048x1 ![] bcast_S_S2x2048x1 main_c_5
  let main_v12 : IVec S2x2048x1 1 := cmpi .sle main_arg20 main_v11
  let main_c_6 : IVec S_ 1 := constantI S_ 1 1#1
  let main_v13 : IVec S_ 1 := (fun x v => Host.reduce IntOp.andi x v reducesTo_S2x2048x1_S_d0_1_2 h_S_) main_v12 main_c_6
  let main_v14 : IVec S_ 1 := andi main_v10 main_v13
  let main_v15 : FVec F S2x2048x1024 .f32 := Host.absf main_arg0
  fn_part1 (F := F) main_arg1 main_arg2 main_arg3 main_arg4 main_arg5 main_arg6 main_arg7 main_arg8 main_arg9 main_arg10 main_arg11 main_arg12 main_arg13 main_arg14 main_arg15 main_arg16 main_arg17 main_arg18 main_v14 main_v15
-- ==== Pre_finite_queries.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S2x2048x1024 : Shape := ⟨3, ![2, 2048, 1024]⟩
abbrev S1024x1024 : Shape := ⟨2, ![1024, 1024]⟩
abbrev S1024 : Shape := ⟨1, ![1024]⟩
abbrev S2x2048x1 : Shape := ⟨3, ![2, 2048, 1]⟩
abbrev S2x1x1 : Shape := ⟨3, ![2, 1, 1]⟩
abbrev S2x1x2048 : Shape := ⟨3, ![2, 1, 2048]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x2048x1024 : Shape := ⟨3, ![1, 2048, 1024]⟩
abbrev S1x256x1 : Shape := ⟨3, ![1, 256, 1]⟩
abbrev S1x1x2048 : Shape := ⟨3, ![1, 1, 2048]⟩
abbrev S1x1x1 : Shape := ⟨3, ![1, 1, 1]⟩
abbrev S256x2048 : Shape := ⟨2, ![256, 2048]⟩
abbrev S2048x1024 : Shape := ⟨2, ![2048, 1024]⟩
abbrev S1x2048 : Shape := ⟨2, ![1, 2048]⟩
abbrev S256x64 : Shape := ⟨2, ![256, 64]⟩
abbrev S2048x64 : Shape := ⟨2, ![2048, 64]⟩

abbrev nBuf : Space → Nat
  | .hbm => 42
  | .vmem => 54
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S2x2048x1, .i32⟩
  | .hbm, ⟨20, _⟩ => ⟨S2x2048x1, .i32⟩
  | .hbm, ⟨21, _⟩ => ⟨S2x2048x1, .i32⟩
  | .hbm, ⟨22, _⟩ => ⟨S2x2048x1, .i32⟩
  | .hbm, ⟨23, _⟩ => ⟨S2x1x1, .i32⟩
  | .hbm, ⟨24, _⟩ => ⟨S2x1x2048, .i32⟩
  | .hbm, ⟨25, _⟩ => ⟨S2x1x2048, .i32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S1x1024, .f32⟩
  | .hbm, ⟨41, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x2048x1024, .f32⟩
  | .local _ .vmem, ⟨31, _⟩ => ⟨S1x2048x1024, .f32⟩
  | .local _ .vmem, ⟨32, _⟩ => ⟨S1x2048x1024, .f32⟩
  | .local _ .vmem, ⟨33, _⟩ => ⟨S1x2048x1024, .f32⟩
  | .local _ .vmem, ⟨34, _⟩ => ⟨S1x256x1024, .f32⟩
  | .local _ .vmem, ⟨35, _⟩ => ⟨S1x256x1024, .f32⟩
  | .local _ .vmem, ⟨36, _⟩ => ⟨S1x256x1, .i32⟩
  | .local _ .vmem, ⟨37, _⟩ => ⟨S1x256x1, .i32⟩
  | .local _ .vmem, ⟨38, _⟩ => ⟨S1x256x1, .i32⟩
  | .local _ .vmem, ⟨39, _⟩ => ⟨S1x256x1, .i32⟩
  | .local _ .vmem, ⟨40, _⟩ => ⟨S1x256x1, .i32⟩
  | .local _ .vmem, ⟨41, _⟩ => ⟨S1x256x1, .i32⟩
  | .local _ .vmem, ⟨42, _⟩ => ⟨S1x1x2048, .i32⟩
  | .local _ .vmem, ⟨43, _⟩ => ⟨S1x1x2048, .i32⟩
  | .local _ .vmem, ⟨44, _⟩ => ⟨S1x1x2048, .i32⟩
  | .local _ .vmem, ⟨45, _⟩ => ⟨S1x1x2048, .i32⟩
  | .local _ .vmem, ⟨46, _⟩ => ⟨S1x1x1, .i32⟩
  | .local _ .vmem, ⟨47, _⟩ => ⟨S1x1x1, .i32⟩
  | .local _ .vmem, ⟨48, _⟩ => ⟨S1024x1024, .f32⟩
  | .local _ .vmem, ⟨49, _⟩ => ⟨S1x1024, .f32⟩
  | .local _ .vmem, ⟨50, _⟩ => ⟨S1x256x1024, .f32⟩
  | .local _ .vmem, ⟨51, _⟩ => ⟨S1x256x1024, .f32⟩
  | .local _ .vmem, ⟨52, _⟩ => ⟨S256x2048, .f32⟩
  | .local _ .vmem, ⟨53, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v12_2 : Ref sig .tc := ⟨.hbm, 38, rfl⟩
abbrev main_v12_3 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc1_stg8_0 : Ref sig .tc := ⟨.vmem, 44, rfl⟩
abbrev cc1_stg8_1 : Ref sig .tc := ⟨.vmem, 45, rfl⟩
abbrev cc1_stg9_0 : Ref sig .tc := ⟨.vmem, 46, rfl⟩
abbrev cc1_stg9_1 : Ref sig .tc := ⟨.vmem, 47, rfl⟩
abbrev cc1_stg10_0 : Ref sig .tc := ⟨.vmem, 48, rfl⟩
abbrev cc1_stg11_0 : Ref sig .tc := ⟨.vmem, 49, rfl⟩
abbrev cc1_stg12_0 : Ref sig .tc := ⟨.vmem, 50, rfl⟩
abbrev cc1_stg12_1 : Ref sig .tc := ⟨.vmem, 51, rfl⟩
abbrev cc1_scratch0 : Ref sig .tc := ⟨.vmem, 52, rfl⟩
abbrev cc1_scratch1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem7_1 : DmaSem sig := 43
abbrev cc1_sem8_0 : DmaSem sig := 44
abbrev cc1_sem8_1 : DmaSem sig := 45
abbrev cc1_sem9_0 : DmaSem sig := 46
abbrev cc1_sem9_1 : DmaSem sig := 47
abbrev cc1_sem10_0 : DmaSem sig := 48
abbrev cc1_sem11_0 : DmaSem sig := 49
abbrev cc1_sem12_0 : DmaSem sig := 50
abbrev cc1_sem12_1 : DmaSem sig := 51

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x2048 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x2048 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x1 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .vmem S1024x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x1 : Shape := ⟨3, ![2, 2048, 1]⟩
abbrev S2x1x1 : Shape := ⟨3, ![2, 1, 1]⟩
abbrev S2x2048 : Shape := ⟨2, ![2, 2048]⟩
abbrev S_ : Shape := ⟨0, ![]⟩
abbrev S2x1x2048 : Shape := ⟨3, ![2, 1, 2048]⟩
abbrev S2x2048x2048 : Shape := ⟨3, ![2, 2048, 2048]⟩
abbrev S2048 : Shape := ⟨1, ![2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 299
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S2x2048x1, .i32⟩
  | 20 => ⟨S2x2048x1, .i32⟩
  | 21 => ⟨S2x2048x1, .i32⟩
  | 22 => ⟨S2x2048x1, .i32⟩
  | 23 => ⟨S2x1x1, .i32⟩
  | 24 => ⟨S2x2048, .i32⟩
  | 25 => ⟨S2x2048, .i32⟩
  | 26 => ⟨S2x2048, .i32⟩
  | 27 => ⟨S_, .i32⟩
  | 28 => ⟨S2x2048, .i32⟩
  | 29 => ⟨S2x2048, .i1⟩
  | 30 => ⟨S2x2048, .i32⟩
  | 31 => ⟨S_, .i32⟩
  | 32 => ⟨S2x2048, .i32⟩
  | 33 => ⟨S2x2048, .i1⟩
  | 34 => ⟨S2x2048x1, .i1⟩
  | 35 => ⟨S2x1x2048, .i1⟩
  | 36 => ⟨S2x2048x2048, .i1⟩
  | 37 => ⟨S2x2048x2048, .i1⟩
  | 38 => ⟨S2x2048x2048, .i1⟩
  | 39 => ⟨S2048, .i32⟩
  | 40 => ⟨S_, .i1⟩
  | 41 => ⟨S2048, .i1⟩
  | 42 => ⟨S_, .i32⟩
  | 43 => ⟨S2048, .i32⟩
  | 44 => ⟨S2048, .i1⟩
  | 45 => ⟨S2048, .i1⟩
  | 46 => ⟨S_, .i32⟩
  | 47 => ⟨S2048, .i32⟩
  | 48 => ⟨S2048, .i1⟩
  | 49 => ⟨S2048, .i1⟩
  | 50 => ⟨S_, .i32⟩
  | 51 => ⟨S2048, .i32⟩
  | 52 => ⟨S2048, .i1⟩
  | 53 => ⟨S2048, .i1⟩
  | 54 => ⟨S_, .i32⟩
  | 55 => ⟨S2048, .i32⟩
  | 56 => ⟨S2048, .i1⟩
  | 57 => ⟨S2048, .i1⟩
  | 58 => ⟨S_, .i32⟩
  | 59 => ⟨S2048, .i32⟩
  | 60 => ⟨S2048, .i1⟩
  | 61 => ⟨S2048, .i1⟩
  | 62 => ⟨S1x1x2048, .i1⟩
  | 63 => ⟨S_, .i32⟩
  | 64 => ⟨S2x1x1, .i32⟩
  | 65 => ⟨S2x1x1, .i1⟩
  | 66 => ⟨S2x2048x2048, .i1⟩
  | 67 => ⟨S2x2048x2048, .i1⟩
  | 68 => ⟨S2x2048x2048, .i1⟩
  | 69 => ⟨S1x2048x1, .i32⟩
  | 70 => ⟨S1x1x2048, .i32⟩
  | 71 => ⟨S1x2048x2048, .i32⟩
  | 72 => ⟨S1x2048x2048, .i32⟩
  | 73 => ⟨S1x2048x2048, .i32⟩
  | 74 => ⟨S_, .i32⟩
  | 75 => ⟨S1x2048x2048, .i32⟩
  | 76 => ⟨S1x2048x2048, .i1⟩
  | 77 => ⟨S2x2048x1, .i32⟩
  | 78 => ⟨S2x2048x2048, .i32⟩
  | 79 => ⟨S2x2048x2048, .i32⟩
  | 80 => ⟨S2x2048x2048, .i1⟩
  | 81 => ⟨S2x2048x2048, .i1⟩
  | 82 => ⟨S2x2048x2048, .i1⟩
  | 83 => ⟨S_, .i32⟩
  | 84 => ⟨S1x2048x2048, .i32⟩
  | 85 => ⟨S1x2048x2048, .i1⟩
  | 86 => ⟨S1x2048x2048, .i32⟩
  | 87 => ⟨S2x2048x1, .i32⟩
  | 88 => ⟨S2x2048x2048, .i32⟩
  | 89 => ⟨S2x2048x2048, .i32⟩
  | 90 => ⟨S2x2048x2048, .i1⟩
  | 91 => ⟨S2x2048x2048, .i1⟩
  | 92 => ⟨S2x2048x2048, .i1⟩
  | 93 => ⟨S2x2048x2048, .i1⟩
  | 94 => ⟨S2x2048x2048, .i1⟩
  | 95 => ⟨S2x1x2048, .i1⟩
  | 96 => ⟨S2x2048x2048, .i1⟩
  | 97 => ⟨S2x2048x2048, .i1⟩
  | 98 => ⟨S_, .f32⟩
  | 99 => ⟨S2x2048, .f32⟩
  | 100 => ⟨S2x2048x1, .f32⟩
  | 101 => ⟨S_, .f32⟩
  | 102 => ⟨S2x2048x1, .f32⟩
  | 103 => ⟨S2x2048x1, .f32⟩
  | 104 => ⟨S_, .i32⟩
  | 105 => ⟨S_, .f32⟩
  | 106 => ⟨S2x2048, .f32⟩
  | 107 => ⟨S2x2048x1, .f32⟩
  | 108 => ⟨S_, .f32⟩
  | 109 => ⟨S2x2048x1, .f32⟩
  | 110 => ⟨S2x2048x1, .f32⟩
  | 111 => ⟨S2x2048x1024, .f32⟩
  | 112 => ⟨S2x2048x1024, .f32⟩
  | 113 => ⟨S2x2048x1024, .f32⟩
  | 114 => ⟨S_, .f32⟩
  | 115 => ⟨S_, .f32⟩
  | 116 => ⟨S_, .f32⟩
  | 117 => ⟨S_, .f32⟩
  | 118 => ⟨S2x2048, .f32⟩
  | 119 => ⟨S2x2048x1, .f32⟩
  | 120 => ⟨S2x2048x1, .f32⟩
  | 121 => ⟨S2x2048x1, .f32⟩
  | 122 => ⟨S_, .f32⟩
  | 123 => ⟨S_, .i1⟩
  | 124 => ⟨S_, .f32⟩
  | 125 => ⟨S_, .f32⟩
  | 126 => ⟨S2x2048x1, .f32⟩
  | 127 => ⟨S2x2048x1, .f32⟩
  | _ => ⟨S2x2048x1024, .f32⟩

abbrev hbmTy0_1 (i : Nat) : BufTy := match i % 128 with
  | 0 => ⟨S2x2048x1024, .f32⟩
  | 1 => ⟨S2x2048x1024, .f32⟩
  | 2 => ⟨S_, .f32⟩
  | 3 => ⟨S2x2048x1, .f32⟩
  | 4 => ⟨S2x2048x1, .f32⟩
  | 5 => ⟨S2x2048x1, .f32⟩
  | 6 => ⟨S2x2048x1024, .f32⟩
  | 7 => ⟨S2x2048x1024, .f32⟩
  | 8 => ⟨S1x1x1024, .f32⟩
  | 9 => ⟨S2x2048x1024, .f32⟩
  | 10 => ⟨S2x2048x1024, .f32⟩
  | 11 => ⟨S1x1x1024, .f32⟩
  | 12 => ⟨S2x2048x1024, .f32⟩
  | 13 => ⟨S2x2048x1024, .f32⟩
  | 14 => ⟨S1024x1024, .f32⟩
  | 15 => ⟨S2x2048x1024, .f32⟩
  | 16 => ⟨S1x1x1024, .f32⟩
  | 17 => ⟨S2x2048x1024, .f32⟩
  | 18 => ⟨S2x2048x1024, .f32⟩
  | 19 => ⟨S2x2048x16x64, .f32⟩
  | 20 => ⟨S2x16x2048x64, .f32⟩
  | 21 => ⟨S_, .f32⟩
  | 22 => ⟨S2x2048, .f32⟩
  | 23 => ⟨S2x2048x1, .f32⟩
  | 24 => ⟨S_, .f32⟩
  | 25 => ⟨S2x2048x1, .f32⟩
  | 26 => ⟨S2x2048x1, .f32⟩
  | 27 => ⟨S_, .i32⟩
  | 28 => ⟨S_, .f32⟩
  | 29 => ⟨S2x2048, .f32⟩
  | 30 => ⟨S2x2048x1, .f32⟩
  | 31 => ⟨S_, .f32⟩
  | 32 => ⟨S2x2048x1, .f32⟩
  | 33 => ⟨S2x2048x1, .f32⟩
  | 34 => ⟨S2x2048x1024, .f32⟩
  | 35 => ⟨S2x2048x1024, .f32⟩
  | 36 => ⟨S2x2048x1024, .f32⟩
  | 37 => ⟨S_, .f32⟩
  | 38 => ⟨S_, .f32⟩
  | 39 => ⟨S_, .f32⟩
  | 40 => ⟨S_, .f32⟩
  | 41 => ⟨S2x2048, .f32⟩
  | 42 => ⟨S2x2048x1, .f32⟩
  | 43 => ⟨S2x2048x1, .f32⟩
  | 44 => ⟨S2x2048x1, .f32⟩
  | 45 => ⟨S_, .f32⟩
  | 46 => ⟨S_, .i1⟩
  | 47 => ⟨S_, .f32⟩
  | 48 => ⟨S_, .f32⟩
  | 49 => ⟨S2x2048x1, .f32⟩
  | 50 => ⟨S2x2048x1, .f32⟩
  | 51 => ⟨S2x2048x1024, .f32⟩
  | 52 => ⟨S2x2048x1024, .f32⟩
  | 53 => ⟨S_, .f32⟩
  | 54 => ⟨S2x2048x1, .f32⟩
  | 55 => ⟨S2x2048x1, .f32⟩
  | 56 => ⟨S2x2048x1, .f32⟩
  | 57 => ⟨S2x2048x1024, .f32⟩
  | 58 => ⟨S2x2048x1024, .f32⟩
  | 59 => ⟨S1x1x1024, .f32⟩
  | 60 => ⟨S2x2048x1024, .f32⟩
  | 61 => ⟨S2x2048x1024, .f32⟩
  | 62 => ⟨S1x1x1024, .f32⟩
  | 63 => ⟨S2x2048x1024, .f32⟩
  | 64 => ⟨S2x2048x1024, .f32⟩
  | 65 => ⟨S1024x1024, .f32⟩
  | 66 => ⟨S2x2048x1024, .f32⟩
  | 67 => ⟨S1x1x1024, .f32⟩
  | 68 => ⟨S2x2048x1024, .f32⟩
  | 69 => ⟨S2x2048x1024, .f32⟩
  | 70 => ⟨S2x2048x16x64, .f32⟩
  | 71 => ⟨S2x16x2048x64, .f32⟩
  | 72 => ⟨S_, .f32⟩
  | 73 => ⟨S2x2048, .f32⟩
  | 74 => ⟨S2x2048x1, .f32⟩
  | 75 => ⟨S_, .f32⟩
  | 76 => ⟨S2x2048x1, .f32⟩
  | 77 => ⟨S2x2048x1, .f32⟩
  | 78 => ⟨S_, .i32⟩
  | 79 => ⟨S_, .f32⟩
  | 80 => ⟨S2x2048, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S2x2048x1024, .f32⟩
  | 88 => ⟨S_, .f32⟩
  | 89 => ⟨S_, .f32⟩
  | 90 => ⟨S_, .f32⟩
  | 91 => ⟨S_, .f32⟩
  | 92 => ⟨S2x2048, .f32⟩
  | 93 => ⟨S2x2048x1, .f32⟩
  | 94 => ⟨S2x2048x1, .f32⟩
  | 95 => ⟨S2x2048x1, .f32⟩
  | 96 => ⟨S_, .f32⟩
  | 97 => ⟨S_, .i1⟩
  | 98 => ⟨S_, .f32⟩
  | 99 => ⟨S_, .f32⟩
  | 100 => ⟨S2x2048x1, .f32⟩
  | 101 => ⟨S2x2048x1, .f32⟩
  | 102 => ⟨S2x2048x1024, .f32⟩
  | 103 => ⟨S2x2048x1024, .f32⟩
  | 104 => ⟨S_, .f32⟩
  | 105 => ⟨S2x2048x1, .f32⟩
  | 106 => ⟨S2x2048x1, .f32⟩
  | 107 => ⟨S2x2048x1, .f32⟩
  | 108 => ⟨S2x2048x1024, .f32⟩
  | 109 => ⟨S2x2048x1024, .f32⟩
  | 110 => ⟨S1x1x1024, .f32⟩
  | 111 => ⟨S2x2048x1024, .f32⟩
  | 112 => ⟨S2x2048x1024, .f32⟩
  | 113 => ⟨S1x1x1024, .f32⟩
  | 114 => ⟨S2x2048x1024, .f32⟩
  | 115 => ⟨S2x2048x1024, .f32⟩
  | 116 => ⟨S1024x1024, .f32⟩
  | 117 => ⟨S2x2048x1024, .f32⟩
  | 118 => ⟨S1x1x1024, .f32⟩
  | 119 => ⟨S2x2048x1024, .f32⟩
  | 120 => ⟨S2x2048x1024, .f32⟩
  | 121 => ⟨S2x2048x16x64, .f32⟩
  | 122 => ⟨S2x16x2048x64, .f32⟩
  | 123 => ⟨S2x16x2048x2048, .f32⟩
  | 124 => ⟨S_, .f32⟩
  | 125 => ⟨S_, .f32⟩
  | 126 => ⟨S_, .f32⟩
  | 127 => ⟨S2x16x2048x2048, .f32⟩
  | _ => ⟨S2x2048x1024, .f32⟩

abbrev hbmTy0_2 (i : Nat) : BufTy := match i % 128 with
  | 0 => ⟨S2x16x2048x2048, .f32⟩
  | 1 => ⟨S2x1x2048x2048, .i1⟩
  | 2 => ⟨S_, .f32⟩
  | 3 => ⟨S_, .f32⟩
  | 4 => ⟨S2x16x2048x2048, .i1⟩
  | 5 => ⟨S2x16x2048x2048, .f32⟩
  | 6 => ⟨S2x16x2048x2048, .f32⟩
  | 7 => ⟨S_, .f32⟩
  | 8 => ⟨S2x16x2048, .f32⟩
  | 9 => ⟨S_, .f32⟩
  | 10 => ⟨S2x16x2048, .f32⟩
  | 11 => ⟨S2x16x2048, .f32⟩
  | 12 => ⟨S2x16x2048x1, .f32⟩
  | 13 => ⟨S2x16x2048x2048, .f32⟩
  | 14 => ⟨S2x16x2048x2048, .f32⟩
  | 15 => ⟨S2x16x2048x2048, .f32⟩
  | 16 => ⟨S_, .f32⟩
  | 17 => ⟨S2x16x2048, .f32⟩
  | 18 => ⟨S2x16x2048x1, .f32⟩
  | 19 => ⟨S2x16x2048x2048, .f32⟩
  | 20 => ⟨S2x16x2048x2048, .f32⟩
  | 21 => ⟨S2x16x2048x64, .f32⟩
  | 22 => ⟨S2x2048x16x64, .f32⟩
  | 23 => ⟨S2x2048x1024, .f32⟩
  | 24 => ⟨S1024x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S_, .f32⟩
  | 32 => ⟨S2x2048x1024, .f32⟩
  | 33 => ⟨S2x2048x1024, .f32⟩
  | 34 => ⟨S_, .f32⟩
  | 35 => ⟨S2x2048x1024, .f32⟩
  | 36 => ⟨S2x2048x1024, .f32⟩
  | 37 => ⟨S2x2048x1024, .f32⟩
  | 38 => ⟨S1024x1024, .f32⟩
  | 39 => ⟨S2x2048x1024, .f32⟩
  | 40 => ⟨S1x1x1024, .f32⟩
  | 41 => ⟨S2x2048x1024, .f32⟩
  | 42 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_7 : Ref sig .tc := ⟨.hbm, 63, rfl⟩
abbrev main_v31 : Ref sig .tc := ⟨.hbm, 64, rfl⟩
abbrev main_v32 : Ref sig .tc := ⟨.hbm, 65, rfl⟩
abbrev main_call0_v0 : Ref sig .tc := ⟨.hbm, 66, rfl⟩
abbrev main_call0_v1 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst : Ref sig .tc := ⟨.hbm, 98, rfl⟩
abbrev main_v61 : Ref sig .tc := ⟨.hbm, 99, rfl⟩
abbrev main_v62 : Ref sig .tc := ⟨.hbm, 100, rfl⟩
abbrev main_cst_10 : Ref sig .tc := ⟨.hbm, 101, rfl⟩
abbrev main_v63 : Ref sig .tc := ⟨.hbm, 102, rfl⟩
abbrev main_v64 : Ref sig .tc := ⟨.hbm, 103, rfl⟩
abbrev main_c_11 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_v12 : Ref sig .tc := ⟨.hbm, 121, rfl⟩
abbrev main_call1_cst_3 : Ref sig .tc := ⟨.hbm, 122, rfl⟩
abbrev main_call1_v13 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_12 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_13 : Ref sig .tc := ⟨.hbm, 149, rfl⟩
abbrev main_v86 : Ref sig .tc := ⟨.hbm, 150, rfl⟩
abbrev main_v87 : Ref sig .tc := ⟨.hbm, 151, rfl⟩
abbrev main_cst_14 : Ref sig .tc := ⟨.hbm, 152, rfl⟩
abbrev main_v88 : Ref sig .tc := ⟨.hbm, 153, rfl⟩
abbrev main_v89 : Ref sig .tc := ⟨.hbm, 154, rfl⟩
abbrev main_c_15 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_v12 : Ref sig .tc := ⟨.hbm, 172, rfl⟩
abbrev main_call2_cst_3 : Ref sig .tc := ⟨.hbm, 173, rfl⟩
abbrev main_call2_v13 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_cst_16 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_cst_17 : Ref sig .tc := ⟨.hbm, 200, rfl⟩
abbrev main_v111 : Ref sig .tc := ⟨.hbm, 201, rfl⟩
abbrev main_v112 : Ref sig .tc := ⟨.hbm, 202, rfl⟩
abbrev main_cst_18 : Ref sig .tc := ⟨.hbm, 203, rfl⟩
abbrev main_v113 : Ref sig .tc := ⟨.hbm, 204, rfl⟩
abbrev main_v114 : Ref sig .tc := ⟨.hbm, 205, rfl⟩
abbrev main_c_19 : Ref sig .tc := ⟨.hbm, 206, rfl⟩
abbrev main_call3_cst : Ref sig .tc := ⟨.hbm, 207, rfl⟩
abbrev main_call3_v0 : Ref sig .tc := ⟨.hbm, 208, rfl⟩
abbrev main_call3_v1 : Ref sig .tc := ⟨.hbm, 209, rfl⟩
abbrev main_call3_cst_0 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_call3_v5 : Ref sig .tc := ⟨.hbm, 214, rfl⟩
abbrev main_call3_v6 : Ref sig .tc := ⟨.hbm, 215, rfl⟩
abbrev main_call3_v7 : Ref sig .tc := ⟨.hbm, 216, rfl⟩
abbrev main_call3_cst_1 : Ref sig .tc := ⟨.hbm, 217, rfl⟩
abbrev main_call3_v8 : Ref sig .tc := ⟨.hbm, 218, rfl⟩
abbrev main_call3_cst_2 : Ref sig .tc := ⟨.hbm, 219, rfl⟩
abbrev main_call3_v9 : Ref sig .tc := ⟨.hbm, 220, rfl⟩
abbrev main_call3_v10 : Ref sig .tc := ⟨.hbm, 221, rfl⟩
abbrev main_call3_v11 : Ref sig .tc := ⟨.hbm, 222, rfl⟩
abbrev main_call3_v12 : Ref sig .tc := ⟨.hbm, 223, rfl⟩
abbrev main_call3_cst_3 : Ref sig .tc := ⟨.hbm, 224, rfl⟩
abbrev main_call3_v13 : Ref sig .tc := ⟨.hbm, 225, rfl⟩
abbrev main_call3_cst_4 : Ref sig .tc := ⟨.hbm, 226, rfl⟩
abbrev main_call3_call0_v0 : Ref sig .tc := ⟨.hbm, 227, rfl⟩
abbrev main_call3_call0_v1 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_cst_20 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_cst_21 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_cst_22 : Ref sig .tc := ⟨.hbm, 258, rfl⟩
abbrev main_call4_v0 : Ref sig .tc := ⟨.hbm, 259, rfl⟩
abbrev main_call4_v1 : Ref sig .tc := ⟨.hbm, 260, rfl⟩
abbrev main_call4_v2 : Ref sig .tc := ⟨.hbm, 261, rfl⟩
abbrev main_v142 : Ref sig .tc := ⟨.hbm, 262, rfl⟩
abbrev main_cst_23 : Ref sig .tc := ⟨.hbm, 263, rfl⟩
abbrev main_v143 : Ref sig .tc := ⟨.hbm, 264, rfl⟩
abbrev main_cst_24 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_cst_25 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_cst_26 : Ref sig .tc := ⟨.hbm, 287, rfl⟩
abbrev main_v164 : Ref sig .tc := ⟨.hbm, 288, rfl⟩
abbrev main_v165 : Ref sig .tc := ⟨.hbm, 289, rfl⟩
abbrev main_cst_27 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩

abbrev nD : Nat := 1
abbrev τ : Topo := Topo.v7x

variable {F : FTy → Type} [FloatOps F]
-- ==== Stats.lean ====
abbrev S2x2048x1024 : Shape := ⟨3, ![2, 2048, 1024]⟩
abbrev S2x2048x8 : Shape := ⟨3, ![2, 2048, 8]⟩
abbrev S2x1x1 : Shape := ⟨3, ![2, 1, 1]⟩
abbrev S1x2048x128 : Shape := ⟨3, ![1, 2048, 128]⟩
abbrev S1x2048x8 : Shape := ⟨3, ![1, 2048, 8]⟩
abbrev S1x1x1 : Shape := ⟨3, ![1, 1, 1]⟩
abbrev S2048x128 : Shape := ⟨2, ![2048, 128]⟩
abbrev S2047x128 : Shape := ⟨2, ![2047, 128]⟩
abbrev S2047 : Shape := ⟨1, ![2047]⟩
abbrev S2047x1 : Shape := ⟨2, ![2047, 1]⟩
abbrev S1x1 : Shape := ⟨2, ![1, 1]⟩
abbrev S2048x1 : Shape := ⟨2, ![2048, 1]⟩
abbrev S2046x128 : Shape := ⟨2, ![2046, 128]⟩
abbrev S2046 : Shape := ⟨1, ![2046]⟩
abbrev S2046x1 : Shape := ⟨2, ![2046, 1]⟩
abbrev S2x1 : Shape := ⟨2, ![2, 1]⟩
abbrev S2045x128 : Shape := ⟨2, ![2045, 128]⟩
abbrev S2045 : Shape := ⟨1, ![2045]⟩
abbrev S2045x1 : Shape := ⟨2, ![2045, 1]⟩
abbrev S3x1 : Shape := ⟨2, ![3, 1]⟩
abbrev S2044x128 : Shape := ⟨2, ![2044, 128]⟩
abbrev S2044 : Shape := ⟨1, ![2044]⟩
abbrev S2044x1 : Shape := ⟨2, ![2044, 1]⟩
abbrev S4x1 : Shape := ⟨2, ![4, 1]⟩
abbrev S2043x128 : Shape := ⟨2, ![2043, 128]⟩
abbrev S2043 : Shape := ⟨1, ![2043]⟩
abbrev S2043x1 : Shape := ⟨2, ![2043, 1]⟩
abbrev S5x1 : Shape := ⟨2, ![5, 1]⟩
abbrev S128 : Shape := ⟨1, ![128]⟩
abbrev S1x128 : Shape := ⟨2, ![1, 128]⟩
abbrev S2048 : Shape := ⟨1, ![2048]⟩
abbrev S2048x8 : Shape := ⟨2, ![2048, 8]⟩
abbrev S1x2047x128 : Shape := ⟨3, ![1, 2047, 128]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8, .f32⟩
  | .hbm, ⟨2, _⟩ => ⟨S2x1x1, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x8, .f32⟩
  | .local _ .vmem, ⟨3, _⟩ => ⟨S1x2048x8, .f32⟩
  | .local _ .vmem, ⟨4, _⟩ => ⟨S1x1x1, .f32⟩
  | .local _ .vmem, ⟨5, _⟩ => ⟨S1x1x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v118 : BitVec 1 := Scalar.cmpi .eq arg1 c0_i32
  let v119 : BitVec 32 := Scalar.extui v118
  let c0_i32_28 : BitVec 32 := 0#32
  let v120 : BitVec 1 := Scalar.cmpi .ne v119 c0_i32_28
  v120

def k0_cond2 (i : grid0.Coords) : BitVec 1 :=
  let arg1 : BitVec 32 := BitVec.ofNat 32 (i 1).val
  let c0_i32_29 : BitVec 32 := 0#32
  let v121 : BitVec 1 := Scalar.cmpi .ne arg1 c0_i32_29
  let v122 : BitVec 32 := Scalar.extui v121
  let c0_i32_30 : BitVec 32 := 0#32
  let v123 : BitVec 1 := Scalar.cmpi .ne v122 c0_i32_30
  v123

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== StatsIdeal.lean ====
variable {F : FTy → Type} [FloatOps F] [Named F]
def κ : String → Option EReal := fun
  | "fifth" => some ((5⁻¹ : ℝ) : EReal)
  | "third" => some ((3⁻¹ : ℝ) : EReal)
  | _ => none
-- ==== StatsReferenceIdeal.lean ====
abbrev S2x2048x1024 : Shape := ⟨3, ![2, 2048, 1024]⟩
abbrev S2x2047x1024 : Shape := ⟨3, ![2, 2047, 1024]⟩
abbrev S_ : Shape := ⟨0, ![]⟩
abbrev S2x2048 : Shape := ⟨2, ![2, 2048]⟩
abbrev S2x2046x1024 : Shape := ⟨3, ![2, 2046, 1024]⟩
abbrev S2x2045x1024 : Shape := ⟨3, ![2, 2045, 1024]⟩
abbrev S2x2044x1024 : Shape := ⟨3, ![2, 2044, 1024]⟩
abbrev S2x2043x1024 : Shape := ⟨3, ![2, 2043, 1024]⟩
abbrev S2x1024 : Shape := ⟨2, ![2, 1024]⟩
abbrev S2x1x1024 : Shape := ⟨3, ![2, 1, 1024]⟩
abbrev S2x2052x1024 : Shape := ⟨3, ![2, 2052, 1024]⟩
abbrev S2x2048x1x1024 : Shape := ⟨4, ![2, 2048, 1, 1024]⟩
abbrev S2x2048x5x1024 : Shape := ⟨4, ![2, 2048, 5, 1024]⟩
abbrev S2 : Shape := ⟨1, ![2]⟩
abbrev S2x2048x1 : Shape := ⟨3, ![2, 2048, 1]⟩
abbrev S2x2048x8 : Shape := ⟨3, ![2, 2048, 8]⟩
abbrev S2x1x1 : Shape := ⟨3, ![2, 1, 1]⟩

abbrev nBuf : Space → Nat
  | .hbm => 163
  | .vmem => 0
  | .smem => 0
  | _ => 0

abbrev hbmTy0_0 (i : Nat) : BufTy := match i % 128 with
  | 0 => ⟨S2x2048x1024, .f32⟩
  | 1 => ⟨S2x2047x1024, .f32⟩
  | 2 => ⟨S2x2047x1024, .f32⟩
  | 3 => ⟨S2x2047x1024, .f32⟩
  | 4 => ⟨S2x2047x1024, .f32⟩
  | 5 => ⟨S_, .f32⟩
  | 6 => ⟨S2x2047x1024, .f32⟩
  | 7 => ⟨S2x2047x1024, .f32⟩
  | 8 => ⟨S_, .i32⟩
  | 9 => ⟨S_, .f32⟩
  | 10 => ⟨S2x2048x1024, .f32⟩
  | 11 => ⟨S_, .f32⟩
  | 12 => ⟨S2x2048, .f32⟩
  | 13 => ⟨S2x2046x1024, .f32⟩
  | 14 => ⟨S2x2046x1024, .f32⟩
  | 15 => ⟨S2x2046x1024, .f32⟩
  | 16 => ⟨S2x2046x1024, .f32⟩
  | 17 => ⟨S_, .f32⟩
  | 18 => ⟨S2x2046x1024, .f32⟩
  | 19 => ⟨S2x2046x1024, .f32⟩
  | 20 => ⟨S_, .i32⟩
  | 21 => ⟨S_, .f32⟩
  | 22 => ⟨S2x2048x1024, .f32⟩
  | 23 => ⟨S_, .f32⟩
  | 24 => ⟨S2x2048, .f32⟩
  | 25 => ⟨S2x2045x1024, .f32⟩
  | 26 => ⟨S2x2045x1024, .f32⟩
  | 27 => ⟨S2x2045x1024, .f32⟩
  | 28 => ⟨S2x2045x1024, .f32⟩
  | 29 => ⟨S_, .f32⟩
  | 30 => ⟨S2x2045x1024, .f32⟩
  | 31 => ⟨S2x2045x1024, .f32⟩
  | 32 => ⟨S_, .i32⟩
  | 33 => ⟨S_, .f32⟩
  | 34 => ⟨S2x2048x1024, .f32⟩
  | 35 => ⟨S_, .f32⟩
  | 36 => ⟨S2x2048, .f32⟩
  | 37 => ⟨S2x2044x1024, .f32⟩
  | 38 => ⟨S2x2044x1024, .f32⟩
  | 39 => ⟨S2x2044x1024, .f32⟩
  | 40 => ⟨S2x2044x1024, .f32⟩
  | 41 => ⟨S_, .f32⟩
  | 42 => ⟨S2x2044x1024, .f32⟩
  | 43 => ⟨S2x2044x1024, .f32⟩
  | 44 => ⟨S_, .i32⟩
  | 45 => ⟨S_, .f32⟩
  | 46 => ⟨S2x2048x1024, .f32⟩
  | 47 => ⟨S_, .f32⟩
  | 48 => ⟨S2x2048, .f32⟩
  | 49 => ⟨S2x2043x1024, .f32⟩
  | 50 => ⟨S2x2043x1024, .f32⟩
  | 51 => ⟨S2x2043x1024, .f32⟩
  | 52 => ⟨S2x2043x1024, .f32⟩
  | 53 => ⟨S_, .f32⟩
  | 54 => ⟨S2x2043x1024, .f32⟩
  | 55 => ⟨S2x2043x1024, .f32⟩
  | 56 => ⟨S_, .i32⟩
  | 57 => ⟨S_, .f32⟩
  | 58 => ⟨S2x2048x1024, .f32⟩
  | 59 => ⟨S_, .f32⟩
  | 60 => ⟨S2x2048, .f32⟩
  | 61 => ⟨S_, .f32⟩
  | 62 => ⟨S2x1024, .f32⟩
  | 63 => ⟨S2x1x1024, .f32⟩
  | 64 => ⟨S_, .f32⟩
  | 65 => ⟨S2x1x1024, .f32⟩
  | 66 => ⟨S2x1x1024, .f32⟩
  | 67 => ⟨S2x2048x1024, .f32⟩
  | 68 => ⟨S2x2048x1024, .f32⟩
  | 69 => ⟨S_, .f32⟩
  | 70 => ⟨S_, .f32⟩
  | 71 => ⟨S2x2048x1024, .f32⟩
  | 72 => ⟨S2x2047x1024, .f32⟩
  | 73 => ⟨S2x2047x1024, .f32⟩
  | 74 => ⟨S2x2047x1024, .f32⟩
  | 75 => ⟨S2x2047x1024, .f32⟩
  | 76 => ⟨S_, .i32⟩
  | 77 => ⟨S_, .f32⟩
  | 78 => ⟨S2x2048x1024, .f32⟩
  | 79 => ⟨S_, .f32⟩
  | 80 => ⟨S2x2048, .f32⟩
  | 81 => ⟨S2x2048x1024, .f32⟩
  | 82 => ⟨S_, .f32⟩
  | 83 => ⟨S2x2048, .f32⟩
  | 84 => ⟨S2x1x1024, .f32⟩
  | 85 => ⟨S2x1x1024, .f32⟩
  | 86 => ⟨S2x1x1024, .f32⟩
  | 87 => ⟨S2x1x1024, .f32⟩
  | 88 => ⟨S2x2052x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1x1024, .f32⟩
  | 95 => ⟨S2x2048x1x1024, .f32⟩
  | 96 => ⟨S2x2048x1x1024, .f32⟩
  | 97 => ⟨S2x2048x1x1024, .f32⟩
  | 98 => ⟨S2x2048x1x1024, .f32⟩
  | 99 => ⟨S2x2048x5x1024, .f32⟩
  | 100 => ⟨S_, .i32⟩
  | 101 => ⟨S_, .f32⟩
  | 102 => ⟨S2x2048x1024, .f32⟩
  | 103 => ⟨S2x2048x1x1024, .f32⟩
  | 104 => ⟨S_, .f32⟩
  | 105 => ⟨S2x2048x1x1024, .f32⟩
  | 106 => ⟨S2x2048x1x1024, .f32⟩
  | 107 => ⟨S2x2048x5x1024, .f32⟩
  | 108 => ⟨S2x2048x5x1024, .f32⟩
  | 109 => ⟨S2x2048x5x1024, .f32⟩
  | 110 => ⟨S_, .f32⟩
  | 111 => ⟨S_, .f32⟩
  | 112 => ⟨S_, .f32⟩
  | 113 => ⟨S_, .f32⟩
  | 114 => ⟨S2x2048x1024, .f32⟩
  | 115 => ⟨S2x2048x1024, .f32⟩
  | 116 => ⟨S2x2048x1024, .f32⟩
  | 117 => ⟨S_, .f32⟩
  | 118 => ⟨S_, .i1⟩
  | 119 => ⟨S_, .f32⟩
  | 120 => ⟨S_, .f32⟩
  | 121 => ⟨S2x2048x1024, .f32⟩
  | 122 => ⟨S2x2048x1024, .f32⟩
  | 123 => ⟨S_, .f32⟩
  | 124 => ⟨S2x2048, .f32⟩
  | 125 => ⟨S2x2047x1024, .f32⟩
  | 126 => ⟨S2x2047x1024, .f32⟩
  | 127 => ⟨S2x2047x1024, .f32⟩
  | _ => ⟨S2x2048x1024, .f32⟩

abbrev hbmTy0_1 (i : Nat) : BufTy := match i % 128 with
  | 0 => ⟨S_, .i32⟩
  | 1 => ⟨S_, .f32⟩
  | 2 => ⟨S2x1024, .f32⟩
  | 3 => ⟨S2x1x1024, .f32⟩
  | 4 => ⟨S_, .f32⟩
  | 5 => ⟨S2x1x1024, .f32⟩
  | 6 => ⟨S2x1x1024, .f32⟩
  | 7 => ⟨S2x2047x1024, .f32⟩
  | 8 => ⟨S2x2047x1024, .f32⟩
  | 9 => ⟨S2x2047x1024, .f32⟩
  | 10 => ⟨S_, .f32⟩
  | 11 => ⟨S_, .f32⟩
  | 12 => ⟨S_, .f32⟩
  | 13 => ⟨S_, .f32⟩
  | 14 => ⟨S2x1024, .f32⟩
  | 15 => ⟨S2x1024, .f32⟩
  | 16 => ⟨S2x1024, .f32⟩
  | 17 => ⟨S_, .f32⟩
  | 18 => ⟨S_, .i1⟩
  | 19 => ⟨S_, .f32⟩
  | 20 => ⟨S_, .f32⟩
  | 21 => ⟨S2x1024, .f32⟩
  | 22 => ⟨S2x1024, .f32⟩
  | 23 => ⟨S_, .f32⟩
  | 24 => ⟨S2, .f32⟩
  | 25 => ⟨S2x2048x1, .f32⟩
  | 26 => ⟨S2x2048x1, .f32⟩
  | 27 => ⟨S2x2048x1, .f32⟩
  | 28 => ⟨S2x2048x1, .f32⟩
  | 29 => ⟨S2x2048x1, .f32⟩
  | 30 => ⟨S2x2048x1, .f32⟩
  | 31 => ⟨S2x2048x1, .f32⟩
  | 32 => ⟨S2x2048x1, .f32⟩
  | 33 => ⟨S2x2048x8, .f32⟩
  | 34 => ⟨S2x1x1, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_call1_v0 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_call2_v0 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_call3_v0 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_call4_v0 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call5_call0_cst : Ref sig .tc := ⟨.hbm, 69, rfl⟩
abbrev main_call5_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_call6_v0 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_18 : Ref sig .tc := ⟨.hbm, 100, rfl⟩
abbrev main_call7_cst : Ref sig .tc := ⟨.hbm, 101, rfl⟩
abbrev main_call7_v0 : Ref sig .tc := ⟨.hbm, 102, rfl⟩
abbrev main_call7_v1 : Ref sig .tc := ⟨.hbm, 103, rfl⟩
abbrev main_call7_cst_0 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_v5 : Ref sig .tc := ⟨.hbm, 108, rfl⟩
abbrev main_call7_v6 : Ref sig .tc := ⟨.hbm, 109, rfl⟩
abbrev main_call7_v7 : Ref sig .tc := ⟨.hbm, 110, rfl⟩
abbrev main_call7_cst_1 : Ref sig .tc := ⟨.hbm, 111, rfl⟩
abbrev main_call7_v8 : Ref sig .tc := ⟨.hbm, 112, rfl⟩
abbrev main_call7_cst_2 : Ref sig .tc := ⟨.hbm, 113, rfl⟩
abbrev main_call7_v9 : Ref sig .tc := ⟨.hbm, 114, rfl⟩
abbrev main_call7_v10 : Ref sig .tc := ⟨.hbm, 115, rfl⟩
abbrev main_call7_v11 : Ref sig .tc := ⟨.hbm, 116, rfl⟩
abbrev main_call7_cst_3 : Ref sig .tc := ⟨.hbm, 117, rfl⟩
abbrev main_call7_v12 : Ref sig .tc := ⟨.hbm, 118, rfl⟩
abbrev main_call7_cst_4 : Ref sig .tc := ⟨.hbm, 119, rfl⟩
abbrev main_call7_call0_v0 : Ref sig .tc := ⟨.hbm, 120, rfl⟩
abbrev main_call7_call0_v1 : Ref sig .tc := ⟨.hbm, 121, rfl⟩
abbrev main_v71 : Ref sig .tc := ⟨.hbm, 122, rfl⟩
abbrev main_cst_19 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_20 : Ref sig .tc := ⟨.hbm, 128, rfl⟩
abbrev main_call8_cst : Ref sig .tc := ⟨.hbm, 129, rfl⟩
abbrev main_call8_v0 : Ref sig .tc := ⟨.hbm, 130, rfl⟩
abbrev main_call8_v1 : Ref sig .tc := ⟨.hbm, 131, rfl⟩
abbrev main_call8_cst_0 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_call8_v5 : Ref sig .tc := ⟨.hbm, 136, rfl⟩
abbrev main_call8_v6 : Ref sig .tc := ⟨.hbm, 137, rfl⟩
abbrev main_call8_v7 : Ref sig .tc := ⟨.hbm, 138, rfl⟩
abbrev main_call8_cst_1 : Ref sig .tc := ⟨.hbm, 139, rfl⟩
abbrev main_call8_v8 : Ref sig .tc := ⟨.hbm, 140, rfl⟩
abbrev main_call8_cst_2 : Ref sig .tc := ⟨.hbm, 141, rfl⟩
abbrev main_call8_v9 : Ref sig .tc := ⟨.hbm, 142, rfl⟩
abbrev main_call8_v10 : Ref sig .tc := ⟨.hbm, 143, rfl⟩
abbrev main_call8_v11 : Ref sig .tc := ⟨.hbm, 144, rfl⟩
abbrev main_call8_cst_3 : Ref sig .tc := ⟨.hbm, 145, rfl⟩
abbrev main_call8_v12 : Ref sig .tc := ⟨.hbm, 146, rfl⟩
abbrev main_call8_cst_4 : Ref sig .tc := ⟨.hbm, 147, rfl⟩
abbrev main_call8_call0_v0 : Ref sig .tc := ⟨.hbm, 148, rfl⟩
abbrev main_call8_call0_v1 : Ref sig .tc := ⟨.hbm, 149, rfl⟩
abbrev main_v76 : Ref sig .tc := ⟨.hbm, 150, rfl⟩
abbrev main_cst_21 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩

abbrev nD : Nat := 1
abbrev τ : Topo := Topo.v7x

variable {F : FTy → Type} [FloatOps F]
-- ==== Post.lean ====
abbrev S2x2048x8 : Shape := ⟨3, ![2, 2048, 8]⟩
abbrev S2x1x1 : Shape := ⟨3, ![2, 1, 1]⟩
abbrev S2x2048x1 : Shape := ⟨3, ![2, 2048, 1]⟩
abbrev S1x2048x8 : Shape := ⟨3, ![1, 2048, 8]⟩
abbrev S1x1x1 : Shape := ⟨3, ![1, 1, 1]⟩
abbrev S1x2048x1 : Shape := ⟨3, ![1, 2048, 1]⟩
abbrev S2048x8 : Shape := ⟨2, ![2048, 8]⟩
abbrev S2048x1 : Shape := ⟨2, ![2048, 1]⟩
abbrev S1 : Shape := ⟨1, ![1]⟩
abbrev S2046x1 : Shape := ⟨2, ![2046, 1]⟩
abbrev S1x1 : Shape := ⟨2, ![1, 1]⟩
abbrev S512x1 : Shape := ⟨2, ![512, 1]⟩
abbrev S1x512x1 : Shape := ⟨3, ![1, 512, 1]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x8, .f32⟩
  | .hbm, ⟨1, _⟩ => ⟨S2x1x1, .f32⟩
  | .hbm, ⟨2, _⟩ => ⟨S2x2048x1, .i32⟩
  | .hbm, ⟨3, _⟩ => ⟨S2x2048x1, .i32⟩
  | .hbm, ⟨4, _⟩ => ⟨S2x2048x1, .i32⟩
  | .hbm, ⟨5, _⟩ => ⟨S2x2048x1, .i32⟩
  | .hbm, ⟨6, _⟩ => ⟨S2x1x1, .i32⟩
  | .local _ .vmem, ⟨0, _⟩ => ⟨S1x2048x8, .f32⟩
  | .local _ .vmem, ⟨1, _⟩ => ⟨S1x2048x8, .f32⟩
  | .local _ .vmem, ⟨2, _⟩ => ⟨S1x1x1, .f32⟩
  | .local _ .vmem, ⟨3, _⟩ => ⟨S1x1x1, .f32⟩
  | .local _ .vmem, ⟨4, _⟩ => ⟨S1x2048x1, .i32⟩
  | .local _ .vmem, ⟨5, _⟩ => ⟨S1x2048x1, .i32⟩
  | .local _ .vmem, ⟨6, _⟩ => ⟨S1x2048x1, .i32⟩
  | .local _ .vmem, ⟨7, _⟩ => ⟨S1x2048x1, .i32⟩
  | .local _ .vmem, ⟨8, _⟩ => ⟨S1x2048x1, .i32⟩
  | .local _ .vmem, ⟨9, _⟩ => ⟨S1x2048x1, .i32⟩
  | .local _ .vmem, ⟨10, _⟩ => ⟨S1x2048x1, .i32⟩
  | .local _ .vmem, ⟨11, _⟩ => ⟨S1x2048x1, .i32⟩
  | .local _ .vmem, ⟨12, _⟩ => ⟨S1x1x1, .i32⟩
  | .local _ .vmem, ⟨13, _⟩ => ⟨S1x1x1, .i32⟩
  | _, _ => ⟨S2x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PostIdeal.lean ====
variable {F : FTy → Type} [FloatOps F] [Named F]
def κ : String → Option EReal := fun
  | "low" => some ⊥
  | _ => none
-- ==== PostReferenceIdeal.lean ====
abbrev S2x2048x8 : Shape := ⟨3, ![2, 2048, 8]⟩
abbrev S2x1x1 : Shape := ⟨3, ![2, 1, 1]⟩
abbrev S_ : Shape := ⟨0, ![]⟩
abbrev S2x2048x1 : Shape := ⟨3, ![2, 2048, 1]⟩
abbrev S2x2048 : Shape := ⟨2, ![2, 2048]⟩
abbrev S2 : Shape := ⟨1, ![2]⟩
abbrev S2x1 : Shape := ⟨2, ![2, 1]⟩
abbrev S2x2046 : Shape := ⟨2, ![2, 2046]⟩
abbrev S2x4x512 : Shape := ⟨3, ![2, 4, 512]⟩
abbrev S2x4x4 : Shape := ⟨3, ![2, 4, 4]⟩
abbrev S2x4x4x1 : Shape := ⟨4, ![2, 4, 4, 1]⟩
abbrev S512 : Shape := ⟨1, ![512]⟩
abbrev S1x1x1x512 : Shape := ⟨4, ![1, 1, 1, 512]⟩
abbrev S2x4x4x512 : Shape := ⟨4, ![2, 4, 4, 512]⟩

abbrev nBuf : Space → Nat
  | .hbm => 226
  | .vmem => 0
  | .smem => 0
  | _ => 0

abbrev hbmTy0_0 (i : Nat) : BufTy := match i % 128 with
  | 0 => ⟨S2x2048x8, .f32⟩
  | 1 => ⟨S2x1x1, .f32⟩
  | 2 => ⟨S_, .f32⟩
  | 3 => ⟨S2x2048x8, .f32⟩
  | 4 => ⟨S2x2048x8, .f32⟩
  | 5 => ⟨S2x2048x1, .f32⟩
  | 6 => ⟨S2x2048, .f32⟩
  | 7 => ⟨S2x2048x1, .f32⟩
  | 8 => ⟨S2x2048, .f32⟩
  | 9 => ⟨S2x2048x1, .f32⟩
  | 10 => ⟨S2x2048, .f32⟩
  | 11 => ⟨S2x2048x1, .f32⟩
  | 12 => ⟨S2x2048, .f32⟩
  | 13 => ⟨S2x2048x1, .f32⟩
  | 14 => ⟨S2x2048, .f32⟩
  | 15 => ⟨S_, .f32⟩
  | 16 => ⟨S2x2048, .f32⟩
  | 17 => ⟨S2x2048, .f32⟩
  | 18 => ⟨S_, .f32⟩
  | 19 => ⟨S2x2048, .f32⟩
  | 20 => ⟨S2x2048, .f32⟩
  | 21 => ⟨S2x2048, .f32⟩
  | 22 => ⟨S_, .f32⟩
  | 23 => ⟨S2x2048, .f32⟩
  | 24 => ⟨S2x2048, .f32⟩
  | 25 => ⟨S2x2048, .f32⟩
  | 26 => ⟨S_, .f32⟩
  | 27 => ⟨S2, .f32⟩
  | 28 => ⟨S2x1, .f32⟩
  | 29 => ⟨S_, .f32⟩
  | 30 => ⟨S2, .f32⟩
  | 31 => ⟨S2x1, .f32⟩
  | 32 => ⟨S2x2048, .f32⟩
  | 33 => ⟨S2x2048, .f32⟩
  | 34 => ⟨S2x1, .f32⟩
  | 35 => ⟨S_, .f32⟩
  | 36 => ⟨S2x1, .f32⟩
  | 37 => ⟨S2x1, .f32⟩
  | 38 => ⟨S2x2048, .f32⟩
  | 39 => ⟨S2x2048, .f32⟩
  | 40 => ⟨S_, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S2x2048, .f32⟩
  | 50 => ⟨S_, .i32⟩
  | 51 => ⟨S_, .i32⟩
  | 52 => ⟨S_, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .i32⟩
  | 59 => ⟨S2x2048x1, .f32⟩
  | 60 => ⟨S2x2048, .f32⟩
  | 61 => ⟨S_, .f32⟩
  | 62 => ⟨S2, .f32⟩
  | 63 => ⟨S2x1, .f32⟩
  | 64 => ⟨S_, .f32⟩
  | 65 => ⟨S2, .f32⟩
  | 66 => ⟨S2x1, .f32⟩
  | 67 => ⟨S2x2048, .f32⟩
  | 68 => ⟨S2x2048, .f32⟩
  | 69 => ⟨S2x1, .f32⟩
  | 70 => ⟨S_, .f32⟩
  | 71 => ⟨S2x1, .f32⟩
  | 72 => ⟨S2x1, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S_, .f32⟩
  | 82 => ⟨S2x2048, .f32⟩
  | 83 => ⟨S2x2048, .f32⟩
  | 84 => ⟨S2x2048, .f32⟩
  | 85 => ⟨S_, .i32⟩
  | 86 => ⟨S_, .i32⟩
  | 87 => ⟨S_, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S2x2048, .i32⟩
  | 94 => ⟨S_, .f32⟩
  | 95 => ⟨S2x2048, .f32⟩
  | 96 => ⟨S2x2048, .f32⟩
  | 97 => ⟨S_, .f32⟩
  | 98 => ⟨S2x2048, .f32⟩
  | 99 => ⟨S2x2048, .f32⟩
  | 100 => ⟨S2x2048, .f32⟩
  | 101 => ⟨S_, .f32⟩
  | 102 => ⟨S2x2048, .f32⟩
  | 103 => ⟨S2x2048, .f32⟩
  | 104 => ⟨S2x2048, .f32⟩
  | 105 => ⟨S_, .f32⟩
  | 106 => ⟨S2x2048, .f32⟩
  | 107 => ⟨S2x2048, .f32⟩
  | 108 => ⟨S2x2048, .f32⟩
  | 109 => ⟨S_, .f32⟩
  | 110 => ⟨S2, .f32⟩
  | 111 => ⟨S_, .f32⟩
  | 112 => ⟨S2, .f32⟩
  | 113 => ⟨S2, .f32⟩
  | 114 => ⟨S_, .i32⟩
  | 115 => ⟨S_, .f32⟩
  | 116 => ⟨S2, .f32⟩
  | 117 => ⟨S2x1, .f32⟩
  | 118 => ⟨S_, .f32⟩
  | 119 => ⟨S2x1, .f32⟩
  | 120 => ⟨S2x1, .f32⟩
  | 121 => ⟨S2x2048, .f32⟩
  | 122 => ⟨S2x2048, .f32⟩
  | 123 => ⟨S2x2048, .f32⟩
  | 124 => ⟨S_, .f32⟩
  | 125 => ⟨S_, .f32⟩
  | 126 => ⟨S_, .f32⟩
  | 127 => ⟨S_, .f32⟩
  | _ => ⟨S2x2048x8, .f32⟩

abbrev hbmTy0_1 (i : Nat) : BufTy := match i % 128 with
  | 0 => ⟨S2, .f32⟩
  | 1 => ⟨S2, .f32⟩
  | 2 => ⟨S2, .f32⟩
  | 3 => ⟨S_, .f32⟩
  | 4 => ⟨S_, .i1⟩
  | 5 => ⟨S_, .f32⟩
  | 6 => ⟨S_, .f32⟩
  | 7 => ⟨S2, .f32⟩
  | 8 => ⟨S2, .f32⟩
  | 9 => ⟨S2, .f32⟩
  | 10 => ⟨S_, .f32⟩
  | 11 => ⟨S2, .f32⟩
  | 12 => ⟨S2, .f32⟩
  | 13 => ⟨S2, .f32⟩
  | 14 => ⟨S2x2046, .f32⟩
  | 15 => ⟨S2x2046, .f32⟩
  | 16 => ⟨S2x2046, .i1⟩
  | 17 => ⟨S2x2046, .f32⟩
  | 18 => ⟨S2x2046, .f32⟩
  | 19 => ⟨S2x2046, .i1⟩
  | 20 => ⟨S2x2046, .i1⟩
  | 21 => ⟨S2x2046, .f32⟩
  | 22 => ⟨S2x1, .f32⟩
  | 23 => ⟨S2x2046, .f32⟩
  | 24 => ⟨S2x2046, .i1⟩
  | 25 => ⟨S2x2046, .i1⟩
  | 26 => ⟨S2x1, .f32⟩
  | 27 => ⟨S2x1, .f32⟩
  | 28 => ⟨S2x1, .i1⟩
  | 29 => ⟨S2x1, .f32⟩
  | 30 => ⟨S2x1, .f32⟩
  | 31 => ⟨S2x1, .i1⟩
  | 32 => ⟨S2x2048, .i1⟩
  | 33 => ⟨S2x2048x1, .f32⟩
  | 34 => ⟨S2x2048, .f32⟩
  | 35 => ⟨S2x2048, .f32⟩
  | 36 => ⟨S2x1, .f32⟩
  | 37 => ⟨S_, .f32⟩
  | 38 => ⟨S2x1, .f32⟩
  | 39 => ⟨S2x1, .f32⟩
  | 40 => ⟨S2x2048x1, .f32⟩
  | 41 => ⟨S2x2048, .f32⟩
  | 42 => ⟨S_, .f32⟩
  | 43 => ⟨S2x1, .f32⟩
  | 44 => ⟨S2x1, .f32⟩
  | 45 => ⟨S2x2048, .f32⟩
  | 46 => ⟨S2x2048, .f32⟩
  | 47 => ⟨S2x2046, .f32⟩
  | 48 => ⟨S_, .i32⟩
  | 49 => ⟨S_, .f32⟩
  | 50 => ⟨S2x2048, .f32⟩
  | 51 => ⟨S_, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S2x2048, .f32⟩
  | 62 => ⟨S_, .f32⟩
  | 63 => ⟨S2, .f32⟩
  | 64 => ⟨S2x1, .f32⟩
  | 65 => ⟨S_, .f32⟩
  | 66 => ⟨S2, .f32⟩
  | 67 => ⟨S2x1, .f32⟩
  | 68 => ⟨S2x2048, .f32⟩
  | 69 => ⟨S2x2048, .f32⟩
  | 70 => ⟨S2x1, .f32⟩
  | 71 => ⟨S_, .f32⟩
  | 72 => ⟨S2x1, .f32⟩
  | 73 => ⟨S2x1, .f32⟩
  | 74 => ⟨S2x2048, .f32⟩
  | 75 => ⟨S2x2048, .f32⟩
  | 76 => ⟨S2x4x512, .f32⟩
  | 77 => ⟨S2x4x4, .f32⟩
  | 78 => ⟨S2x4x4, .i32⟩
  | 79 => ⟨S2x4x4x1, .i32⟩
  | 80 => ⟨S512, .i32⟩
  | 81 => ⟨S1x1x1x512, .i32⟩
  | 82 => ⟨S2x4x4x512, .i32⟩
  | 83 => ⟨S2x4x4x512, .i32⟩
  | 84 => ⟨S2x4x4x512, .i1⟩
  | 85 => ⟨S_, .i1⟩
  | 86 => ⟨S2x4x512, .i1⟩
  | 87 => ⟨S2x2048, .i1⟩
  | 88 => ⟨S2x2048x1, .i32⟩
  | 89 => ⟨S2x2048x1, .i32⟩
  | 90 => ⟨S2x2048, .i32⟩
  | 91 => ⟨S2x2048x1, .i32⟩
  | 92 => ⟨S2x2048, .i32⟩
  | 93 => ⟨S2x2048x1, .i32⟩
  | 94 => ⟨S_, .i1⟩
  | 95 => ⟨S2, .i1⟩
  | 96 => ⟨S2, .i32⟩
  | 97 => ⟨S2x1x1, .i32⟩
  | _ => ⟨S2x2048x8, .f32⟩

abbrev hbmTy (i : Nat) : BufTy := match i / 128 with
  | 0 => hbmTy0_0 i
  | 1 => hbmTy0_1 i
  | _ => ⟨S2x2048x8, .f32⟩

abbrev bufTy : (tb : Table) → Fin (tcTables nBuf tb) → BufTy
  | .hbm, ⟨i, _⟩ => hbmTy i
  | _, _ => ⟨S2x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_c_9 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_16 : Ref sig .tc := ⟨.hbm, 85, rfl⟩
abbrev main_c_17 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_21 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_22 : Ref sig .tc := ⟨.hbm, 109, rfl⟩
abbrev main_v73 : Ref sig .tc := ⟨.hbm, 110, rfl⟩
abbrev main_cst_23 : Ref sig .tc := ⟨.hbm, 111, rfl⟩
abbrev main_v74 : Ref sig .tc := ⟨.hbm, 112, rfl⟩
abbrev main_v75 : Ref sig .tc := ⟨.hbm, 113, rfl⟩
abbrev main_c_24 : Ref sig .tc := ⟨.hbm, 114, rfl⟩
abbrev main_call4_call0_cst : Ref sig .tc := ⟨.hbm, 115, rfl⟩
abbrev main_call4_call0_v0 : Ref sig .tc := ⟨.hbm, 116, rfl⟩
abbrev main_call4_call0_v1 : Ref sig .tc := ⟨.hbm, 117, rfl⟩
abbrev main_call4_call0_cst_0 : Ref sig .tc := ⟨.hbm, 118, rfl⟩
abbrev main_call4_call0_v2 : Ref sig .tc := ⟨.hbm, 119, rfl⟩
abbrev main_call4_call0_v3 : Ref sig .tc := ⟨.hbm, 120, rfl⟩
abbrev main_call4_call0_v4 : Ref sig .tc := ⟨.hbm, 121, rfl⟩
abbrev main_call4_call0_v5 : Ref sig .tc := ⟨.hbm, 122, rfl⟩
abbrev main_call4_call0_v6 : Ref sig .tc := ⟨.hbm, 123, rfl⟩
abbrev main_call4_call0_v7 : Ref sig .tc := ⟨.hbm, 124, rfl⟩
abbrev main_call4_call0_cst_1 : Ref sig .tc := ⟨.hbm, 125, rfl⟩
abbrev main_call4_call0_v8 : Ref sig .tc := ⟨.hbm, 126, rfl⟩
abbrev main_call4_call0_cst_2 : Ref sig .tc := ⟨.hbm, 127, rfl⟩
abbrev main_call4_call0_v9 : Ref sig .tc := ⟨.hbm, 128, rfl⟩
abbrev main_call4_call0_v10 : Ref sig .tc := ⟨.hbm, 129, rfl⟩
abbrev main_call4_call0_v11 : Ref sig .tc := ⟨.hbm, 130, rfl⟩
abbrev main_call4_call0_cst_3 : Ref sig .tc := ⟨.hbm, 131, rfl⟩
abbrev main_call4_call0_v12 : Ref sig .tc := ⟨.hbm, 132, rfl⟩
abbrev main_call4_call0_cst_4 : Ref sig .tc := ⟨.hbm, 133, rfl⟩
abbrev main_call4_call0_call0_v0 : Ref sig .tc := ⟨.hbm, 134, rfl⟩
abbrev main_call4_call0_call0_v1 : Ref sig .tc := ⟨.hbm, 135, rfl⟩
abbrev main_call4_v0 : Ref sig .tc := ⟨.hbm, 136, rfl⟩
abbrev main_v76 : Ref sig .tc := ⟨.hbm, 137, rfl⟩
abbrev main_cst_25 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_26 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_27 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_c_28 : Ref sig .tc := ⟨.hbm, 176, rfl⟩
abbrev main_call5_v0 : Ref sig .tc := ⟨.hbm, 177, rfl⟩
abbrev main_v112 : Ref sig .tc := ⟨.hbm, 178, rfl⟩
abbrev main_cst_29 : Ref sig .tc := ⟨.hbm, 179, rfl⟩
abbrev main_v113 : Ref sig .tc := ⟨.hbm, 180, rfl⟩
abbrev main_v114 : Ref sig .tc := ⟨.hbm, 181, rfl⟩
abbrev main_cst_30 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_31 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_32 : Ref sig .tc := ⟨.hbm, 190, rfl⟩
abbrev main_v121 : Ref sig .tc := ⟨.hbm, 191, rfl⟩
abbrev main_v122 : Ref sig .tc := ⟨.hbm, 192, rfl⟩
abbrev main_cst_33 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_cst_34 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_values : Ref sig .tc := ⟨.hbm, 205, rfl⟩
abbrev main_indices : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_c_35 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_c_36 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩

abbrev nD : Nat := 1
abbrev τ : Topo := Topo.v7x

variable {F : FTy → Type} [FloatOps F]
-- ==== Proof.KRun.lean ====
/- The kernel program's run: it ends, with every buffer that is not scoped at the last boundary's contents and every counter at zero. -/
module

public import proofs.«01_k».proof.Proof.Gen.KernelIdeal.Frame

@[expose] public section

set_option maxRecDepth 16384

noncomputable section

namespace Cert.Attn.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters the program ends, and its final memory is the contents `W4` of the last boundary. -/
theorem run_all : θ_run defs (onTc (τ := τ) (main (F := Ideal))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Attn.Ker

end
-- ==== Proof.Softmax.lean ====
/- Softmax over the reals: a weighted mean taken with a constant subtracted in the exponent, the masked entries sent to
   minus infinity by an added term, equals the same mean with the row's maximum subtracted and the masked entries
   replaced by minus infinity. -/
module

public import Idealize.ShloMosaic.PureOps.Ideal
public import Idealize.ShloMosaic.Lib.ValueIdxCore

@[expose] public section

noncomputable section

namespace Cert.Attn

open Idealize.ShloMosaic

/-- The embedding of the reals into the extended reals takes finite sums to finite sums. -/
theorem coe_sum {n : Nat} (f : Fin n → ℝ) : ((∑ j, f j : ℝ) : EReal) = ∑ j, (f j : EReal) := by
  classical
  induction (Finset.univ : Finset (Fin n)) using Finset.induction_on with
  | empty => simp
  | insert a s ha ih => rw [Finset.sum_insert ha, Finset.sum_insert ha, EReal.coe_add, ih]

/-- The weight of an entry before any shift: `exp (s / 8)` where the mask bit is set and zero elsewhere. -/
def weight (c : BitVec 1) (s : ℝ) : ℝ := if c = 1#1 then Real.exp (s / 8) else 0

/-- An entry of the scores with the mask added as a term and `40` subtracted, under the exponential. -/
theorem exp_added (c : BitVec 1) (s : ℝ) :
    Ideal.exp ((s : EReal) * ((1 / 8 : ℝ) : EReal) + Scalar.select c (0 : EReal) ⊥ - ((40 : ℝ) : EReal))
      = ((weight c s * Real.exp (-40) : ℝ) : EReal) := by
  unfold weight
  by_cases h : c = 1#1
  · rw [h, ValueIdx.select_one, if_pos rfl, add_zero, ← EReal.coe_mul, ← EReal.coe_sub, Ideal.exp_coe, ← Real.exp_add]
    congr 3; ring
  · rw [ValueIdx.eq_zero_of_ne_one h, ValueIdx.select_zero, if_neg (by decide), zero_mul, EReal.add_bot, EReal.bot_sub,
      Ideal.exp_bot, EReal.coe_zero]

/-- An entry of the scores with the mask selecting minus infinity and a real `M` subtracted, under the exponential. -/
theorem exp_selected (c : BitVec 1) (s M : ℝ) :
    Ideal.exp (Scalar.select c (Ideal.div (s : EReal) ((8 : ℝ) : EReal)) ⊥ - (M : EReal))
      = ((weight c s * Real.exp (-M) : ℝ) : EReal) := by
  unfold weight
  by_cases h : c = 1#1
  · rw [h, ValueIdx.select_one, if_pos rfl, Ideal.div_coe (by norm_num), ← EReal.coe_mul, ← EReal.coe_sub, Ideal.exp_coe,
      ← Real.exp_add]
    congr 3; ring
  · rw [ValueIdx.eq_zero_of_ne_one h, ValueIdx.select_zero, if_neg (by decide), zero_mul, EReal.bot_sub,
      Ideal.exp_bot, EReal.coe_zero]

/-- A row with one unmasked entry has a positive total weight. -/
theorem weight_sum_pos {n : Nat} (c : Fin n → BitVec 1) (s : Fin n → ℝ) (j₀ : Fin n) (h : c j₀ = 1#1) :
    0 < ∑ j, weight (c j) (s j) := by
  refine Finset.sum_pos' (fun j _ => ?_) ⟨j₀, Finset.mem_univ _, ?_⟩
  · unfold weight; split
    · exact (Real.exp_pos _).le
    · exact le_rfl
  · unfold weight; rw [if_pos h]; exact Real.exp_pos _

/-- The weighted mean with `40` subtracted, the mask added and the normalising factor multiplied at the end, is the softmax
    mean with any real `M` subtracted, the mask selected and each weight divided. -/
theorem softmax_mean {n : Nat} (c : Fin n → BitVec 1) (s v : Fin n → ℝ) (j₀ : Fin n) (h : c j₀ = 1#1) (M : ℝ) :
    (∑ j, Ideal.exp ((s j : EReal) * ((1 / 8 : ℝ) : EReal) + Scalar.select (c j) (0 : EReal) ⊥ - ((40 : ℝ) : EReal)) * (v j : EReal))
      * Ideal.div 1 (∑ j, Ideal.exp ((s j : EReal) * ((1 / 8 : ℝ) : EReal) + Scalar.select (c j) (0 : EReal) ⊥ - ((40 : ℝ) : EReal)))
    = ∑ j, Ideal.div (Ideal.exp (Scalar.select (c j) (Ideal.div (s j : EReal) ((8 : ℝ) : EReal)) ⊥ - (M : EReal)))
        (∑ k, Ideal.exp (Scalar.select (c k) (Ideal.div (s k : EReal) ((8 : ℝ) : EReal)) ⊥ - (M : EReal))) * (v j : EReal) := by
  have hw := weight_sum_pos c s j₀ h
  have hsum : ∀ a : ℝ, (∑ j, ((weight (c j) (s j) * Real.exp a : ℝ) : EReal)) = (((∑ j, weight (c j) (s j)) * Real.exp a : ℝ) : EReal) := by
    intro a; rw [Finset.sum_mul, coe_sum]
  have hne : ∀ a : ℝ, (∑ j, weight (c j) (s j)) * Real.exp a ≠ 0 := fun a => mul_ne_zero hw.ne' (Real.exp_pos _).ne'
  simp only [exp_added, exp_selected, hsum]
  simp only [Ideal.div_coe (hne _)]
  rw [← EReal.coe_one]
  simp only [← EReal.coe_mul, ← coe_sum]
  congr 1
  rw [one_mul, Finset.sum_mul]
  refine Finset.sum_congr rfl fun j _ => ?_
  have h1 := hw.ne'
  have h2 := (Real.exp_pos (-40)).ne'
  have h3 := (Real.exp_pos (-M)).ne'
  field_simp

end Cert.Attn

end
-- ==== Proof.Consts.lean ====
/- The float constants of the two programs, as extended reals. -/
module

public import Idealize.ShloMosaic.PureOps.Ideal

@[expose] public section

noncomputable section

namespace Cert.Attn

open Idealize.ShloMosaic

theorem bits_zero : Ideal.ofBits .f32 0x00000000#32 = 0 := by
  simp [Ideal.ofBits, Ideal.ieee]

theorem bits_one : Ideal.ofBits .f32 0x3F800000#32 = 1 := by
  simp [Ideal.ofBits, Ideal.ieee, -EReal.coe_mul]; norm_num

theorem bits_1024 : Ideal.ofBits .f32 0x44800000#32 = ((1024 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem bits_40 : Ideal.ofBits .f32 0x42200000#32 = ((40 : ℝ) : EReal) := by
  simp [Ideal.ofBits, Ideal.ieee, -EReal.coe_mul]; norm_num

theorem bits_64 : Ideal.ofBits .f32 0x42800000#32 = ((64 : ℝ) : EReal) := by
  simp [Ideal.ofBits, Ideal.ieee, -EReal.coe_mul]; norm_num

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

/-- The constant added to the variance is a positive real. -/
theorem bits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The root of 64 is 8. -/
theorem sqrt_64 : Ideal.sqrt (((64 : ℝ) : EReal)) = ((8 : ℝ) : EReal) := by
  rw [Ideal.sqrt_coe, if_neg (by norm_num)]
  congr 1
  rw [show (64 : ℝ) = 8 ^ 2 by norm_num, Real.sqrt_sq (by norm_num)]

end Cert.Attn

end
-- ==== Proof.Spec.lean ====
/- The values both programs compute, row by row, as functions of rows of extended reals, and the fact that the projections
   of finite rows are real numbers. -/
module

public import proofs.«01_k».proof.Proof.Softmax
public import proofs.«01_k».proof.Proof.Consts

@[expose] public section

noncomputable section

namespace Cert.Attn

open Idealize.ShloMosaic

/-- A row of the arrays: one value per model coordinate. -/
abbrev Row := Fin 1024 → EReal

/-- The mean of a row. -/
def mean (x : Row) : EReal := Ideal.div (∑ k, x k) (Ideal.ofBits .f32 0x44800000#32)

/-- The (biased) variance of a row. -/
def var (x : Row) : EReal :=
  Ideal.div (∑ k, (x k - mean x) * (x k - mean x)) (Ideal.ofBits .f32 0x44800000#32)

/-- The layer norm of a row, with scale `g` and shift `b`. -/
def ln (x g b : Row) : Row := fun k =>
  Ideal.div (x k - mean x) (Ideal.sqrt (var x + Ideal.ofBits .f32 0x3727C5AC#32)) * g k + b k

/-- A linear map with its bias, at output coordinate `e`. -/
def lin (x : Row) (W : Fin 1024 → Row) (b : Row) : Row := fun e => (∑ k, x k * W e k) + b e

/-- Equal rows and coefficients have equal linear maps and layer norms. -/
theorem lin_congr {x x' : Row} {W W' : Fin 1024 → Row} {b b' : Row} (hx : ∀ k, x k = x' k) (hW : ∀ e k, W e k = W' e k)
    (hb : ∀ e, b e = b' e) (e : Fin 1024) : lin x W b e = lin x' W' b' e := by
  rw [show x = x' from funext hx, show W = W' from funext fun e => funext (hW e), show b = b' from funext hb]

theorem ln_congr {x x' g g' b b' : Row} (hx : ∀ k, x k = x' k) (hg : ∀ k, g k = g' k) (hb : ∀ k, b k = b' k) (k : Fin 1024) :
    ln x g b k = ln x' g' b' k := by
  rw [show x = x' from funext hx, show g = g' from funext hg, show b = b' from funext hb]

/-- The column of coordinate `d` of head `h`. -/
def col (h : Fin 16) (d : Fin 64) : Fin 1024 := ⟨h.val * 64 + d.val, by omega⟩

/-- The head of a column and its coordinate in it. -/
def headOf (e : Fin 1024) : Fin 16 := ⟨e.val / 64, by omega⟩
def coordOf (e : Fin 1024) : Fin 64 := ⟨e.val % 64, by omega⟩

/-- A column is its head's column at its coordinate. -/
theorem col_headOf (e : Fin 1024) : col (headOf e) (coordOf e) = e := Fin.ext (by show e.val / 64 * 64 + e.val % 64 = _; omega)

/-- The kernel's context of one query row `q` at column `e = 64 h + d`: weights `exp (q·k / 8 + mask − 40)`, the values'
    weighted sum, times the reciprocal of the weights' sum. `s` are the scores' dot products of the head of `e`. -/
def ctxK (s : Fin 2048 → EReal) (c : Fin 2048 → BitVec 1) (v : Fin 2048 → EReal) : EReal :=
  (∑ j, Ideal.exp (s j * Ideal.ofBits .f32 0x3E000000#32 + Scalar.select (c j) (Ideal.ofBits .f32 0x00000000#32) ⊥
      - Ideal.ofBits .f32 0x42200000#32) * v j)
    * Ideal.div (Ideal.ofBits .f32 0x3F800000#32)
      (∑ j, Ideal.exp (s j * Ideal.ofBits .f32 0x3E000000#32 + Scalar.select (c j) (Ideal.ofBits .f32 0x00000000#32) ⊥
        - Ideal.ofBits .f32 0x42200000#32))

/-- The reference's context of one query row: the softmax of the masked scores with the row's maximum `M` subtracted. -/
def ctxR (s : Fin 2048 → EReal) (c : Fin 2048 → BitVec 1) (v : Fin 2048 → EReal) (M : EReal) : EReal :=
  ∑ j, Ideal.div
    (Ideal.exp (Scalar.select (c j) (Ideal.div (s j) (Ideal.sqrt (Ideal.ofBits .f32 0x42800000#32))) (Ideal.ofBits .f32 0xFF800000#32) - M))
    (∑ k, Ideal.exp (Scalar.select (c k) (Ideal.div (s k) (Ideal.sqrt (Ideal.ofBits .f32 0x42800000#32))) (Ideal.ofBits .f32 0xFF800000#32) - M))
    * v j

/-- An extended real that is a real number. -/
def Fin' (x : EReal) : Prop := ∃ r : ℝ, x = (r : EReal)

theorem fin_coe (r : ℝ) : Fin' (r : EReal) := ⟨r, rfl⟩

theorem fin_add {x y : EReal} : Fin' x → Fin' y → Fin' (x + y) := by
  rintro ⟨a, rfl⟩ ⟨b, rfl⟩; exact ⟨a + b, (EReal.coe_add a b).symm⟩

theorem fin_sub {x y : EReal} : Fin' x → Fin' y → Fin' (x - y) := by
  rintro ⟨a, rfl⟩ ⟨b, rfl⟩; exact ⟨a - b, (EReal.coe_sub a b).symm⟩

theorem fin_mul {x y : EReal} : Fin' x → Fin' y → Fin' (x * y) := by
  rintro ⟨a, rfl⟩ ⟨b, rfl⟩; exact ⟨a * b, (EReal.coe_mul a b).symm⟩

theorem fin_sum {n : Nat} {f : Fin n → EReal} (h : ∀ j, Fin' (f j)) : Fin' (∑ j, f j) := by
  choose g hg using h
  exact ⟨∑ j, g j, by rw [coe_sum]; exact Finset.sum_congr rfl fun j _ => hg j⟩

/-- The mean of a real row is real. -/
theorem fin_mean {x : Row} (h : ∀ k, Fin' (x k)) : Fin' (mean x) := by
  unfold mean
  rw [bits_1024, Ideal.div_coe (by norm_num)]
  exact fin_mul (fin_sum h) (fin_coe _)

/-- The layer norm of a real row is real: the variance is not negative, so the root's argument is positive. -/
theorem fin_ln {x g b : Row} (hx : ∀ k, Fin' (x k)) (hg : ∀ k, Fin' (g k)) (hb : ∀ k, Fin' (b k)) (k : Fin 1024) :
    Fin' (ln x g b k) := by
  have hm := fin_mean hx
  have hv : ∃ r : ℝ, 0 ≤ r ∧ var x = (r : EReal) := by
    choose d hd using fun k => fin_sub (hx k) hm
    refine ⟨(∑ k, d k * d k) * (1 / 1024), ?_, ?_⟩
    · exact mul_nonneg (Finset.sum_nonneg fun k _ => mul_self_nonneg _) (by norm_num)
    · unfold var
      rw [bits_1024, Ideal.div_coe (by norm_num), EReal.coe_mul, coe_sum]
      simp only [hd, EReal.coe_mul]
  obtain ⟨r, hr, hr'⟩ := hv
  obtain ⟨e, he, he'⟩ := bits_eps
  unfold ln
  rw [hr', he', ← EReal.coe_add, Ideal.sqrt_coe, if_neg (by linarith), Ideal.div_coe (Real.sqrt_pos.mpr (by linarith)).ne']
  exact fin_add (fin_mul (fin_mul (fin_sub (hx k) hm) (fin_coe _)) (hg k)) (hb k)

/-- A linear map of a real row with real coefficients is real. -/
theorem fin_lin {x : Row} {W : Fin 1024 → Row} {b : Row} (hx : ∀ k, Fin' (x k)) (hW : ∀ e k, Fin' (W e k)) (hb : ∀ k, Fin' (b k))
    (e : Fin 1024) : Fin' (lin x W b e) :=
  fin_add (fin_sum fun k => fin_mul (hx k) (hW e k)) (hb e)

/-- The two contexts agree on real scores and values, for a mask with one entry set and any real `M`. -/
theorem ctx_eq (s v : Fin 2048 → EReal) (c : Fin 2048 → BitVec 1) (M : EReal) (hs : ∀ j, Fin' (s j)) (hv : ∀ j, Fin' (v j))
    (hM : Fin' M) (j₀ : Fin 2048) (h : c j₀ = 1#1) : ctxK s c v = ctxR s c v M := by
  choose s' hs' using hs
  choose v' hv' using hv
  obtain ⟨M, rfl⟩ := hM
  unfold ctxK ctxR
  simp only [hs', hv', bits_zero, bits_one, bits_40, bits_64, bits_bot, bits_eighth, sqrt_64]
  exact softmax_mean c s' v' j₀ h M

end Cert.Attn

end
-- ==== Proof.KAttn.lean ====
/- The attention call's block, read at an index. The call computes its sixteen heads one after the other; every head is
   `scores` and `headOut` at its own column offset, so their values are stated once. -/
module

public import proofs.«01_k».proof.Proof.Spec
public import proofs.«01_k».proof.Proof.Gen.KernelIdeal.Skeleton
public import Idealize.ShloMosaic.Lib.Pointwise
public import Idealize.ShloMosaic.PureOps.IdealRules

@[expose] public section

set_option maxRecDepth 16384

noncomputable section

namespace Cert.Attn.Ker

open Idealize.ShloMosaic Cert.KernelIdeal Cert.KernelIdeal.Gen Cert.Attn

/-- The masked scores of the head whose columns start at `o`. -/
def scores (o : Nat) (hq : S256x1024.Slices ![0, o] S256x64) (hk : S2048x1024.Slices ![0, o] S2048x64)
    (q : FVec Ideal S256x1024 .f32) (k : FVec Ideal S2048x1024 .f32) (M : FVec Ideal S256x2048 .f32) : FVec Ideal S256x2048 .f32 :=
  shapeCast S256x2048
    (addf (mulf (matmul dot_S256x64_S2048x64_S256x2048_1_1_0_0_n_n none (extractStridedSlice S256x64 ![0, o] q hq)
        (extractStridedSlice S2048x64 ![0, o] k hk) (constant S256x2048 .f32 0x00000000#32))
      (broadcast S256x2048 (Scalar.ofBits .f32 0x3E000000#32))) M) shapeCasts_S256x2048_S256x2048

/-- The weights of one head from its scores. -/
def weights (s : FVec Ideal S256x2048 .f32) : FVec Ideal S256x2048 .f32 :=
  exp (subf s (broadcast S256x2048 (Scalar.ofBits .f32 0x42200000#32)))

/-- The context of one head from its scores. -/
def headOut (o : Nat) (hv : S2048x1024.Slices ![0, o] S2048x64) (v : FVec Ideal S2048x1024 .f32) (s : FVec Ideal S256x2048 .f32) :
    FVec Ideal S256x64 .f32 :=
  shapeCast S256x64
    (mulf (matmul dot_S256x2048_S2048x64_S256x64_1_0_0_1_n_n none (weights s) (extractStridedSlice S2048x64 ![0, o] v hv)
        (constant S256x64 .f32 0x00000000#32))
      (broadcastTo S256x64 (divf (broadcast S256x1 (Scalar.ofBits .f32 0x3F800000#32))
        (shapeCast S256x1 (multiReduction .add [1] S256 (weights s) 0x00000000#32 reduces_S256x2048_S256 (.inl rfl) rfl)
          shapeCasts_S256_S256x1)) broadcasts_S256x1_S256x64)) shapeCasts_S256x64_S256x64

theorem scores_apply (h : Fin 16) (hq : S256x1024.Slices ![0, h.val * 64] S256x64)
    (hk : S2048x1024.Slices ![0, h.val * 64] S2048x64) (q : FVec Ideal S256x1024 .f32) (k : FVec Ideal S2048x1024 .f32)
    (M : FVec Ideal S256x2048 .f32) (r : Fin 256) (j : Fin 2048) :
    scores (h.val * 64) hq hk q k M (ix2 r j)
      = (∑ d : Fin 64, q (ix2 r (col h d)) * k (ix2 j (col h d))) * Ideal.ofBits .f32 0x3E000000#32 + M (ix2 r j) := by
  pointwise [scores, col]

theorem headOut_apply (h : Fin 16) (hv : S2048x1024.Slices ![0, h.val * 64] S2048x64)
    (v : FVec Ideal S2048x1024 .f32) (s : FVec Ideal S256x2048 .f32) (r : Fin 256) (d : Fin 64) :
    headOut (h.val * 64) hv v s (ix2 r d)
      = (∑ j, Ideal.exp (s (ix2 r j) - Ideal.ofBits .f32 0x42200000#32) * v (ix2 j (col h d)))
        * Ideal.div (Ideal.ofBits .f32 0x3F800000#32) (∑ j, Ideal.exp (s (ix2 r j) - Ideal.ofBits .f32 0x42200000#32)) := by
  pointwise [headOut, weights, col]

/-- The kernel's mask bit: of the query at position `I` and the key at position `J`, the window `lw`, `fw` of the query, the
    query's and the key's keypoint bits `kr`, `kc`, the key's global bit `gc`, and the bit `p` of any keypoint at all. -/
def kbit (I J lw fw : BitVec 32) (kr kc gc p : BitVec 1) : BitVec 1 :=
  IntOp.ori
    (IntOp.ori (IntOp.andi (IntOp.cmpi .sge J (IntOp.subi I lw)) (IntOp.cmpi .sle J (IntOp.addi I fw))) (IntOp.andi p kr))
    (IntOp.ori
      (IntOp.ori (IntOp.andi p kc)
        (IntOp.andi (IntOp.xori p 1#1)
          (IntOp.ori (IntOp.ori (IntOp.ori (IntOp.ori (IntOp.cmpi .eq J 0#32) (IntOp.cmpi .eq J 511#32)) (IntOp.cmpi .eq J 1023#32))
            (IntOp.cmpi .eq J 1535#32)) (IntOp.cmpi .eq J 2047#32)))) gc)

theorem mask_apply (I : IVec S256x1 32) (J : IVec S1x2048 32) (lw fw : IVec S256x1 32) (kr : IVec S256x1 1) (kc gc : IVec S1x2048 1)
    (p : Vec Ideal S1x1x1 .i32) (r : Fin 256) (j : Fin 2048) :
    k1_pay11 (F := Ideal) I J lw fw kr kc gc p (ix2 r j)
      = Scalar.select (kbit (I (ix2 r 0)) (J (ix2 0 j)) (lw (ix2 r 0)) (fw (ix2 r 0)) (kr (ix2 r 0)) (kc (ix2 0 j)) (gc (ix2 0 j))
          (IntOp.cmpi .sgt (p (ix3 0 0 0)) 0#32)) (Ideal.ofBits .f32 0x00000000#32) ⊥ := by
  have hm : (Named.named κ "mask" 0xCE6E6B28#32 : Ideal .f32) = (⊥ : EReal) :=
    IdealRules.named_const.ideal_named_scalar _ _ _ _ rfl
  pointwise [k1_pay11, kbit]
  rw [hm]
  rfl

theorem out_block (ctx : Vec Ideal S256x1024 .f32) (g : Vec Ideal S1x256x1024 .f32) (W : Vec Ideal S1024x1024 .f32)
    (b : Vec Ideal S1x1024 .f32) (r : Fin 256) (e : Fin 1024) :
    k1_pay1 ctx g W b (ix3 0 r e)
      = lin (fun k => ctx (ix2 r k) * g (ix3 0 r k)) (fun e k => W (ix2 e k)) (fun e => b (ix2 0 e)) e := by
  pointwise [k1_pay1, lin]

/-- The positions of the queries of a block, and of the keys. -/
theorem rows_apply (i : grid1.Coords) (r : Fin 256) :
    k1_pay5 i (ix2 r 0) = IntOp.addi (Scalar.muli (BitVec.ofNat 32 (i 1).val) 256#32) (BitVec.ofNat 32 r.val) := by
  pointwise [k1_pay5]

theorem pay2_apply (x : Vec Ideal S1x256x1024 .f32) (r : Fin 256) (e : Fin 1024) : k1_pay2 x (ix2 r e) = x (ix3 0 r e) := by
  pointwise [k1_pay2]
theorem pay3_apply (x : Vec Ideal S1x2048x1024 .f32) (r : Fin 2048) (e : Fin 1024) : k1_pay3 x (ix2 r e) = x (ix3 0 r e) := by
  pointwise [k1_pay3]
theorem pay4_apply (x : Vec Ideal S1x2048x1024 .f32) (r : Fin 2048) (e : Fin 1024) : k1_pay4 x (ix2 r e) = x (ix3 0 r e) := by
  pointwise [k1_pay4]
theorem pay6_apply (x : Vec Ideal S1x256x1 .i32) (r : Fin 256) : k1_pay6 (F := Ideal) x (ix2 r 0) = x (ix3 0 r 0) := by
  pointwise [k1_pay6]
theorem pay7_apply (x : Vec Ideal S1x256x1 .i32) (r : Fin 256) : k1_pay7 (F := Ideal) x (ix2 r 0) = x (ix3 0 r 0) := by
  pointwise [k1_pay7]
theorem pay8_apply (x : Vec Ideal S1x256x1 .i32) (r : Fin 256) :
    k1_pay8 (F := Ideal) x (ix2 r 0) = IntOp.cmpi .sgt (x (ix3 0 r 0)) 0#32 := by
  pointwise [k1_pay8]
theorem pay9_apply (x : Vec Ideal S1x1x2048 .i32) (j : Fin 2048) :
    k1_pay9 (F := Ideal) x (ix2 0 j) = IntOp.cmpi .sgt (x (ix3 0 0 j)) 0#32 := by
  pointwise [k1_pay9]
theorem pay10_apply (x : Vec Ideal S1x1x2048 .i32) (j : Fin 2048) :
    k1_pay10 (F := Ideal) x (ix2 0 j) = IntOp.cmpi .sgt (x (ix3 0 0 j)) 0#32 := by
  pointwise [k1_pay10]

/-- The context of a block at row `y 0` and column `y 1`, from its queries `q`, the keys `k` and values `v` of the sequence,
    and the mask bits `c`. -/
def ctxBlock (q : FVec Ideal S256x1024 .f32) (k v : FVec Ideal S2048x1024 .f32) (c : Fin 256 → Fin 2048 → BitVec 1)
    (y : S256x1024.Idx) : EReal :=
  ctxK (fun j => ∑ d : Fin 64, q (ix2 (y 0) (col (headOf (y 1)) d)) * k (ix2 j (col (headOf (y 1)) d))) (c (y 0))
    (fun j => v (ix2 j (y 1)))

/-- The columns of head `h` lie inside the block, and inside the keys and values. -/
theorem cols_inb (h : Fin 16) : ∀ a, ![0, h.val * 64] a + S256x64.size a ≤ S256x1024.size a := by revert h; decide
theorem cols_queries (h : Fin 16) : S256x1024.Slices ![0, h.val * 64] S256x64 := ⟨rfl, cols_inb h⟩
theorem cols_keys (h : Fin 16) : S2048x1024.Slices ![0, h.val * 64] S2048x64 := ⟨rfl, by revert h; decide⟩

/-- What head `h` stores is its columns of the block's context. -/
theorem head_piece (h : Fin 16) {q : FVec Ideal S256x1024 .f32} {k v : FVec Ideal S2048x1024 .f32} {M : FVec Ideal S256x2048 .f32}
    {c : Fin 256 → Fin 2048 → BitVec 1}
    (hM : ∀ r j, M (ix2 r j) = Scalar.select (c r j) (Ideal.ofBits .f32 0x00000000#32) ⊥)
    {P : FVec Ideal S256x64 .f32} {s : FVec Ideal S256x2048 .f32} (hP : P = headOut (h.val * 64) (cols_keys h) v s)
    (hs : s = scores (h.val * 64) (cols_queries h) (cols_keys h) q k M) (x : S256x64.Idx) :
    P x = ctxBlock q k v c ((Rect.unit (s := S256x1024) ![0, h.val * 64] S256x64.size (cols_inb h)).emb x) := by
  obtain ⟨r, d, rfl⟩ : ∃ r d, x = ix2 r d := ⟨_, _, eq_ix2 x⟩
  have e : (Rect.unit (s := S256x1024) ![0, h.val * 64] S256x64.size (cols_inb h)).emb (ix2 r d) = ix2 r (col h d) := by
    refine (eq_ix2 _).trans (congrArg₂ ix2 (Fin.ext ?_) (Fin.ext ?_))
    · show 0 + 1 * r.val = r.val
      omega
    · show h.val * 64 + 1 * d.val = h.val * 64 + d.val
      omega
  have eh : headOf (col h d) = h := Fin.ext (by show (h.val * 64 + d.val) / 64 = h.val; omega)
  rw [e, hP, hs, headOut_apply]
  simp only [scores_apply, hM]
  show _ = ctxK (fun j => ∑ d' : Fin 64, q (ix2 r (col (headOf (col h d)) d')) * k (ix2 j (col (headOf (col h d)) d'))) (c r)
    (fun j => v (ix2 j (col h d)))
  rw [eh]
  rfl

end Cert.Attn.Ker

end
-- ==== Proof.KBlock.lean ====
/- What the attention call leaves of a block, read at an index. -/
module

public import proofs.«01_k».proof.Proof.KAttn
public import proofs.«01_k».proof.Proof.Gen.KernelIdeal.Frame
public import Idealize.ShloMosaic.Lib.Pipeline.ReadBack

@[expose] public section

set_option maxRecDepth 16384

noncomputable section

namespace Cert.Attn.Ker

open Idealize.ShloMosaic Idealize.ShloMosaic.TcCoe Idealize.SL.Sem Cert.KernelIdeal Cert.KernelIdeal.Gen Cert.Attn

/-- A piece that is a block of `G`, then the others. -/
theorem pieces_cons {S : Shape} {e : EltTy} {G : S.Idx → Elt Ideal e} {p : View.Piece (Elt Ideal) S e} {L : List (View.Piece (Elt Ideal) S e)}
    (h : ∀ x : p.1.shape.Idx, p.2 x = G (p.1.emb x)) (hL : View.PiecesOf G L) : View.PiecesOf G (p :: L) := ⟨h, hL⟩

/-- Reading the whole of a buffer just filled with `x` reads `x`. -/
theorem readAt_whole {S : Shape} {e : EltTy} {off : Fin S.rank → Nat} (a : Memref sig .tc .vmem S e) (ha : a.IsWhole) (x : Vec Ideal S e)
    (h : off = fun _ => 0) (inb : ∀ a, off a + S.size a ≤ S.size a) :
    View.readAt (Elt Ideal) a.view (Rect.unit off S.size inb).toLoadRect (ha.unread x) = x := by
  rw [View.readAt_eq_ld, ha.read_unread]
  exact View.ld_unit_zero h inb x

theorem zeros3 : (![0, 0, 0] : Fin 3 → Nat) = fun _ => 0 := by decide
theorem zeros2 : (![0, 0] : Fin 2 → Nat) = fun _ => 0 := by decide

/-- The position of row `r` of block `a`. -/
def posWord (a : Fin 8) (r : Fin 256) : BitVec 32 := IntOp.addi (Scalar.muli (BitVec.ofNat 32 a.val) 256#32) (BitVec.ofNat 32 r.val)

/-- The positions of the keys. -/
theorem cols_apply (j : Fin 2048) : iota Kind.tc S1x2048 32 [1] iota_S1x2048_d1_w32 (ix2 0 j) = BitVec.ofNat 32 j.val := by
  pointwise

section
variable (V : (c : Dev nD) → (b : Ref sig .tc) → Buf (Elt Ideal) ((c : Thread nD τ).loc b)) (c : Dev nD) (t : Fin cfg1.N)

/-- The mask bit of row `r` of the block at point `t` and of key `j`. -/
def blockBit (r : Fin 256) (j : Fin 2048) : BitVec 1 :=
  kbit (posWord (grid1.coords t 1) r) (BitVec.ofNat 32 j.val) (iblk1 V c 4 t (ix3 0 r 0)) (iblk1 V c 5 t (ix3 0 r 0))
    (IntOp.cmpi .sgt (iblk1 V c 6 t (ix3 0 r 0)) 0#32) (IntOp.cmpi .sgt (iblk1 V c 7 t (ix3 0 0 j)) 0#32)
    (IntOp.cmpi .sgt (iblk1 V c 8 t (ix3 0 0 j)) 0#32) (IntOp.cmpi .sgt (iblk1 V c 9 t (ix3 0 0 0)) 0#32)

/-- The masks of a block, one vector per operand, select 0 or −∞ by the mask bit. -/
theorem block_mask (r : Fin 256) (j : Fin 2048) :
    kernelRun1_A.sl.r_8 (F := Ideal) c (grid1.coords t) (ms1_4 t) (hs1_4 t) (ms1_5 t) (hs1_5 t) (ms1_6 t) (hs1_6 t) (ms1_7 t) (hs1_7 t)
        (ms1_8 t) (hs1_8 t) (ms1_9 t) (hs1_9 t) (iblk1 V c 4 t) (iblk1 V c 5 t) (iblk1 V c 6 t) (iblk1 V c 7 t) (iblk1 V c 8 t)
        (iblk1 V c 9 t) (ix2 r j)
      = Scalar.select (blockBit V c t r j) (Ideal.ofBits .f32 0x00000000#32) ⊥ := by
  unfold kernelRun1_A.sl.r_8 kernelRun1_A.sl.r_3 kernelRun1_A.sl.r_4 kernelRun1_A.sl.r_5 kernelRun1_A.sl.r_6 kernelRun1_A.sl.r_7
    kernelRun1_A.sl.v10
  rw [mask_apply, rows_apply, pay6_apply, pay7_apply, pay8_apply, pay9_apply, pay10_apply]
  rw [readAt_whole (ms1_4 t) _ _ zeros3, readAt_whole (ms1_5 t) _ _ zeros3, readAt_whole (ms1_6 t) _ _ zeros3,
    readAt_whole (ms1_7 t) _ _ zeros3, readAt_whole (ms1_8 t) _ _ zeros3, readAt_whole (ms1_9 t) _ _ zeros3, cols_apply]
  rfl

/-- The attention call's block at row `r` and column `e`: the gated context's out-projection. -/
theorem outs1_apply (r : Fin 256) (e : Fin 1024) :
    outsAt1 V c t (ix3 0 r e)
      = lin (fun k => ctxBlock (k1_pay2 (iblk1 V c 0 t)) (k1_pay3 (iblk1 V c 1 t)) (k1_pay4 (iblk1 V c 2 t)) (blockBit V c t) (ix2 r k)
            * iblk1 V c 3 t (ix3 0 r k))
          (fun e k => iblk1 V c 10 t (ix2 e k)) (fun e => iblk1 V c 11 t (ix2 0 e)) e := by
  unfold outsAt1 out1_A_12
  rw [View.read_writes_junk_eq_canon]
  unfold kernelRun1_A
  dsimp only
  rw [View.canon_unit_zero zeros3, out_block]
  refine lin_congr (fun k => congrArg₂ (· * ·) ?_ ?_) (fun e k => ?_) (fun e => ?_) e
  · have hq : kernelRun1_A.sl.r c (ms1_0 t) (hs1_0 t) (iblk1 V c 0 t) = k1_pay2 (iblk1 V c 0 t) :=
      congrArg k1_pay2 (readAt_whole _ _ _ zeros3 _)
    have hk : kernelRun1_A.sl.r_1 c (ms1_1 t) (hs1_1 t) (iblk1 V c 1 t) = k1_pay3 (iblk1 V c 1 t) :=
      congrArg k1_pay3 (readAt_whole _ _ _ zeros3 _)
    have hv : kernelRun1_A.sl.r_2 c (ms1_2 t) (hs1_2 t) (iblk1 V c 2 t) = k1_pay4 (iblk1 V c 2 t) :=
      congrArg k1_pay4 (readAt_whole _ _ _ zeros3 _)
    rw [← hq, ← hk, ← hv]
    have hM := block_mask V c t
    refine (congrFun (View.readCov_eq_canon' _ _ _) _).trans ?_
    rw [show (Rect.unit (s := S256x1024) ![0, 0] ![256, 1024] inb_S256x1024_S256x1024_0_0).toLoadRect.idx (ix2 r k) = ix2 r k from
      (eq_ix2 _).trans (congrArg₂ ix2 (Fin.ext (by show 0 + 1 * r.val = _; omega)) (Fin.ext (by show 0 + 1 * k.val = _; omega)))]
    refine View.canon_apply_of_pieces (Val := Elt Ideal) (e := .f32) (S := S256x1024) (ctxBlock _ _ _ (blockBit V c t)) _ (View.PiecesOf.mem ?_) _ ?_
    swap
    · exact View.cover_of_tiledL (s := S256x1024) _ S256x64.size (by rfl) _
    exact
    pieces_cons (head_piece 15 hM rfl (View.readCov_cons_toLoadRect _ _ _ _)) <|
    pieces_cons (head_piece 14 hM rfl (View.readCov_cons_toLoadRect _ _ _ _)) <|
    pieces_cons (head_piece 13 hM rfl (View.readCov_cons_toLoadRect _ _ _ _)) <|
    pieces_cons (head_piece 12 hM rfl (View.readCov_cons_toLoadRect _ _ _ _)) <|
    pieces_cons (head_piece 11 hM rfl (View.readCov_cons_toLoadRect _ _ _ _)) <|
    pieces_cons (head_piece 10 hM rfl (View.readCov_cons_toLoadRect _ _ _ _)) <|
    pieces_cons (head_piece 9 hM rfl (View.readCov_cons_toLoadRect _ _ _ _)) <|
    pieces_cons (head_piece 8 hM rfl (View.readCov_cons_toLoadRect _ _ _ _)) <|
    pieces_cons (head_piece 7 hM rfl (View.readCov_cons_toLoadRect _ _ _ _)) <|
    pieces_cons (head_piece 6 hM rfl (View.readCov_cons_toLoadRect _ _ _ _)) <|
    pieces_cons (head_piece 5 hM rfl (View.readCov_cons_toLoadRect _ _ _ _)) <|
    pieces_cons (head_piece 4 hM rfl (View.readCov_cons_toLoadRect _ _ _ _)) <|
    pieces_cons (head_piece 3 hM rfl (View.readCov_cons_toLoadRect _ _ _ _)) <|
    pieces_cons (head_piece 2 hM rfl (View.readCov_cons_toLoadRect _ _ _ _)) <|
    pieces_cons (head_piece 1 hM rfl (View.readCov_cons_toLoadRect _ _ _ _)) <|
    pieces_cons (head_piece 0 hM rfl (View.readCov_cons_toLoadRect _ _ _ _)) <|
    trivial
  · exact congrFun (readAt_whole (ms1_3 t) _ _ zeros3 _) _
  · exact congrFun (readAt_whole (ms1_10 t) _ _ zeros2 _) _
  · exact congrFun (readAt_whole (ms1_11 t) _ _ zeros2 _) _

end

end Cert.Attn.Ker

end
-- ==== Proof.KProj.lean ====
/- The projection call's block, read at an index: layer norm and linear map of a row, and the gate. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Attn.Ker

open Idealize.ShloMosaic Cert.KernelIdeal Cert.KernelIdeal.Gen Cert.Attn

/-- The projected row of a block: layer norm, then the linear map. -/
theorem proj_block (v : Vec Ideal S1x256x1024 .f32) (g s c : Vec Ideal S1x1024 .f32) (W : Vec Ideal S1024x1024 .f32)
    (r : Fin 256) (e : Fin 1024) :
    k0_pay3 v g s c W (ix3 0 r e)
      = lin (ln (fun k => v (ix3 0 r k)) (fun k => g (ix2 0 k)) (fun k => s (ix2 0 k))) (fun e k => W (ix2 e k))
          (fun e => c (ix2 0 e)) e := by
  pointwise [k0_pay3, k0_pay2, lin, ln, var, mean]

theorem gate_block (v : Vec Ideal S1x256x1024 .f32) (c : Vec Ideal S1x1024 .f32) (W : Vec Ideal S1024x1024 .f32)
    (r : Fin 256) (e : Fin 1024) :
    k0_pay1 (k0_pay2 v) (k0_pay6 c) W (ix3 0 r e)
      = Ideal.logistic (lin (fun k => v (ix3 0 r k)) (fun e k => W (ix2 e k)) (fun e => c (ix2 0 e)) e) := by
  pointwise [k0_pay1, k0_pay2, k0_pay6, lin]

theorem pay4_eq : @k0_pay4 Ideal _ = k0_pay3 := rfl
theorem pay5_eq : @k0_pay5 Ideal _ = k0_pay3 := rfl

end Cert.Attn.Ker

end
-- ==== Proof.KRegion0.lean ====
/- The arrays the projection call leaves, read at an index, over any contents `V` of the buffers at its entry. -/
module

public import proofs.«01_k».proof.Proof.KProj
public import proofs.«01_k».proof.Proof.Gen.KernelIdeal.Frame
public import Idealize.ShloMosaic.Lib.Pipeline.Value

@[expose] public section

set_option maxRecDepth 16384

noncomputable section

namespace Cert.Attn.Ker

open Idealize.ShloMosaic Idealize.ShloMosaic.TcCoe Idealize.SL.Sem Cert.KernelIdeal Cert.KernelIdeal.Gen Cert.Attn
open Idealize.ShloMosaic.Pipeline (Dat)

/-- A rectangle's index lands in the rectangle. -/
theorem emb_mem {S : Shape} (R : Rect S) (x : R.shape.Idx) : R.emb x ∈ R.set := R.idx_mem x

/-- The contents of an activation array, of a square weight, and of a vector stored as one row. -/
abbrev Act := S2x2048x1024.Idx → EReal
abbrev Sq := S1024x1024.Idx → EReal
abbrev Vec1 := S1x1024.Idx → EReal

/-- Row `r` of block `a` of the sequence. -/
def rowIx (a : Fin 8) (r : Fin 256) : Fin 2048 := ⟨a.val * 256 + r.val, by omega⟩

/-- The batch and the block of the sequence of a grid point. -/
def bat0 (t : Fin cfg0.N) : Fin 2 := grid0.coords t 0
def blk0 (t : Fin cfg0.N) : Fin 8 := grid0.coords t 1

/-- The index maps of the projection call. -/
theorem rowMap0 : ∀ t : Fin grid0.N, win0_0.index t 0 = (grid0.coords t 0).val ∧ win0_0.index t 1 = (grid0.coords t 1).val
    ∧ win0_0.index t 2 = 0 := by decide +kernel
theorem constMap0 : ∀ t : Fin grid0.N, win0_3.index t 0 = 0 ∧ win0_3.index t 1 = 0 := by decide +kernel

/-- Where a block's index lands in its array: a row block, a whole square weight, a whole vector. -/
theorem row_emb0 (t : Fin cfg0.N) (r : Fin 256) (e : Fin 1024) :
    (win0_0.rect t).emb (ix3 0 r e) = ix3 (bat0 t) (rowIx (blk0 t) r) e := by
  obtain ⟨h0, h1, h2⟩ := rowMap0 t
  refine (eq_ix3 _).trans (congr (congrArg₂ ix3 (Fin.ext ?_) (Fin.ext ?_)) (Fin.ext ?_))
  · show win0_0.index t 0 * 1 + 1 * 0 = (grid0.coords t 0).val
    omega
  · show win0_0.index t 1 * 256 + 1 * r.val = (grid0.coords t 1).val * 256 + r.val
    omega
  · show win0_0.index t 2 * 1024 + 1 * e.val = e.val
    omega

theorem sq_emb0 (t : Fin cfg0.N) (e k : Fin 1024) : (win0_3.rect t).emb (ix2 e k) = ix2 e k := by
  obtain ⟨h0, h1⟩ := constMap0 t
  refine (eq_ix2 _).trans (congrArg₂ ix2 (Fin.ext ?_) (Fin.ext ?_))
  · show win0_3.index t 0 * 1024 + 1 * e.val = e.val
    omega
  · show win0_3.index t 1 * 1024 + 1 * k.val = k.val
    omega

theorem vec_emb0 (t : Fin cfg0.N) (k : Fin 1024) : (win0_4.rect t).emb (ix2 0 k) = ix2 0 k := by
  obtain ⟨h0, h1⟩ := constMap0 t
  refine (eq_ix2 _).trans (congrArg₂ ix2 (Fin.ext ?_) (Fin.ext ?_))
  · show win0_3.index t 0 * 1 + 1 * 0 = 0
    omega
  · show win0_3.index t 1 * 1024 + 1 * k.val = k.val
    omega

/-- An index of an activation array is in the block of the point of its batch and its block of rows. -/
theorem mem_row0 (b : Fin 2) (i : Fin 2048) (e : Fin 1024) :
    ∃ (t : Fin cfg0.N) (r : Fin 256), (win0_0.rect t).emb (ix3 0 r e) = ix3 b i e := by
  have ht : ∀ (b : Fin 2) (a : Fin 8), ∃ t : Fin grid0.N, (grid0.coords t 0).val = b.val ∧ (grid0.coords t 1).val = a.val := by decide +kernel
  obtain ⟨t, h0, h1⟩ := ht b ⟨i.val / 256, by omega⟩
  refine ⟨t, ⟨i.val % 256, by omega⟩, (row_emb0 t _ e).trans ?_⟩
  refine congr (congrArg₂ ix3 (Fin.ext h0) (Fin.ext ?_)) rfl
  have h1' : (blk0 t).val = i.val / 256 := h1
  show (blk0 t).val * 256 + i.val % 256 = i.val
  omega

/-- The blocks of rows cover an activation array. -/
theorem cover0 (i : S2x2048x1024.Idx) : ∃ t : Fin cfg0.N, i ∈ (win0_0.rect t).set := by
  obtain ⟨t, r, h⟩ := mem_row0 (i 0) (i 1) (i 2)
  refine ⟨t, ?_⟩
  rw [eq_ix3 i, ← h]
  exact emb_mem (win0_0.rect t) _

theorem zeros3' : (![0, 0, 0] : Fin 3 → Nat) = fun _ => 0 := by decide
theorem zeros2' : (![0, 0] : Fin 2 → Nat) = fun _ => 0 := by decide

/-- The projection of every row of `X`: layer norm with scale `g` and shift `s`, then the linear map `W`, `c`. -/
def projArr (X : Act) (g s c : Vec1) (W : Sq) : Act := fun y =>
  lin (ln (fun k => X (ix3 (y 0) (y 1) k)) (fun k => g (ix2 0 k)) (fun k => s (ix2 0 k))) (fun e k => W (ix2 e k)) (fun e => c (ix2 0 e)) (y 2)

/-- The gate of every row of `X`. -/
def gateArr (X : Act) (c : Vec1) (W : Sq) : Act := fun y =>
  Ideal.logistic (lin (fun k => X (ix3 (y 0) (y 1) k)) (fun e k => W (ix2 e k)) (fun e => c (ix2 0 e)) (y 2))

/-- A projected block is that block of the projected array. -/
theorem proj_emb (t : Fin cfg0.N) (X : Act) (g s c : Vec1) (W : Sq) (y : S1x256x1024.Idx) :
    k0_pay3 (F := Ideal) (fun z => X ((win0_0.rect t).emb z)) (fun z => g ((win0_4.rect t).emb z)) (fun z => s ((win0_4.rect t).emb z))
        (fun z => c ((win0_4.rect t).emb z)) (fun z => W ((win0_3.rect t).emb z)) y
      = projArr X g s c W ((win0_0.rect t).emb y) := by
  obtain ⟨u, r, e, rfl⟩ : ∃ u r e, y = ix3 u r e := ⟨_, _, _, eq_ix3 y⟩
  obtain rfl : u = 0 := Subsingleton.elim _ _
  rw [proj_block, row_emb0]
  exact lin_congr (ln_congr (fun k => congrArg X (row_emb0 t r k)) (fun k => congrArg g (vec_emb0 t k)) (fun k => congrArg s (vec_emb0 t k)))
    (fun e k => congrArg W (sq_emb0 t e k)) (fun e => congrArg c (vec_emb0 t e)) e

theorem gate_emb (t : Fin cfg0.N) (X : Act) (c : Vec1) (W : Sq) (y : S1x256x1024.Idx) :
    k0_pay1 (F := Ideal) (k0_pay2 (fun z => X ((win0_0.rect t).emb z))) (k0_pay6 (fun z => c ((win0_4.rect t).emb z)))
        (fun z => W ((win0_3.rect t).emb z)) y
      = gateArr X c W ((win0_0.rect t).emb y) := by
  obtain ⟨u, r, e, rfl⟩ : ∃ u r e, y = ix3 u r e := ⟨_, _, _, eq_ix3 y⟩
  obtain rfl : u = 0 := Subsingleton.elim _ _
  rw [gate_block, row_emb0]
  exact congrArg Ideal.logistic (lin_congr (fun k => congrArg X (row_emb0 t r k)) (fun e k => congrArg W (sq_emb0 t e k))
    (fun e => congrArg c (vec_emb0 t e)) e)

section
variable (V : (c : Dev nD) → (b : Ref sig .tc) → Buf (Elt Ideal) ((c : Thread nD τ).loc b)) (c : Dev nD)

/-- The queries' array after the call. -/
theorem arr0_17 : (dat0 V c).arrAt 17 cfg0.N
    = projArr (V c main_arg0) (V c main_v6) (V c main_v7) (V c main_v2) (V c main_arg3) := by
  refine (dat0 V c).arrAt_eq_of_cover 17 (projArr _ _ _ _ _) (fun t _ => ?_) (fun i => ?_)
  · show (cfg0.win 17).cut (grid0.coords t) ((dat0 V c).after 17 t) = _
    rw [after0_17]
    unfold out0_17
    rw [View.canon_unit_zero zeros3', View.ld_unit_zero zeros3', View.ld_unit_zero zeros2', View.ld_unit_zero zeros2',
      View.ld_unit_zero zeros2', View.ld_unit_zero zeros2']
    exact funext fun y => proj_emb t _ _ _ _ _ y
  · obtain ⟨t, h⟩ := cover0 i
    exact ⟨t, flush0_17 t, by
      show i ∈ ((View.whole main_v12_0).slice (win0_17.rect t)).set
      rw [View.set_slice_whole]
      exact h⟩

/-- The keys' array after the call. -/
theorem arr0_18 : (dat0 V c).arrAt 18 cfg0.N
    = projArr (V c main_arg1) (V c main_v8) (V c main_v9) (V c main_v3) (V c main_arg5) := by
  refine (dat0 V c).arrAt_eq_of_cover 18 (projArr _ _ _ _ _) (fun t _ => ?_) (fun i => ?_)
  · show (cfg0.win 18).cut (grid0.coords t) ((dat0 V c).after 18 t) = _
    rw [after0_18]
    unfold out0_18
    rw [View.canon_unit_zero zeros3', View.ld_unit_zero zeros3', View.ld_unit_zero zeros2', View.ld_unit_zero zeros2',
      View.ld_unit_zero zeros2', View.ld_unit_zero zeros2']
    exact funext fun y => proj_emb t _ _ _ _ _ y
  · obtain ⟨t, h⟩ := cover0 i
    exact ⟨t, flush0_18 t, by
      show i ∈ ((View.whole main_v12_1).slice (win0_18.rect t)).set
      rw [View.set_slice_whole]
      exact h⟩

/-- The values' array after the call. -/
theorem arr0_19 : (dat0 V c).arrAt 19 cfg0.N
    = projArr (V c main_arg2) (V c main_v10) (V c main_v11) (V c main_v4) (V c main_arg7) := by
  refine (dat0 V c).arrAt_eq_of_cover 19 (projArr _ _ _ _ _) (fun t _ => ?_) (fun i => ?_)
  · show (cfg0.win 19).cut (grid0.coords t) ((dat0 V c).after 19 t) = _
    rw [after0_19]
    unfold out0_19
    rw [View.canon_unit_zero zeros3', View.ld_unit_zero zeros3', View.ld_unit_zero zeros2', View.ld_unit_zero zeros2',
      View.ld_unit_zero zeros2', View.ld_unit_zero zeros2']
    exact funext fun y => proj_emb t _ _ _ _ _ y
  · obtain ⟨t, h⟩ := cover0 i
    exact ⟨t, flush0_19 t, by
      show i ∈ ((View.whole main_v12_2).slice (win0_19.rect t)).set
      rw [View.set_slice_whole]
      exact h⟩

/-- The gates' array after the call. -/
theorem arr0_20 : (dat0 V c).arrAt 20 cfg0.N
    = gateArr (V c main_arg0) (V c main_v5) (V c main_arg11) := by
  refine (dat0 V c).arrAt_eq_of_cover 20 (gateArr _ _ _) (fun t _ => ?_) (fun i => ?_)
  · show (cfg0.win 20).cut (grid0.coords t) ((dat0 V c).after 20 t) = _
    rw [after0_20]
    unfold out0_20
    rw [View.canon_unit_zero zeros3', View.ld_unit_zero zeros3', View.ld_unit_zero zeros2', View.ld_unit_zero zeros2']
    exact funext fun y => gate_emb t _ _ _ y
  · obtain ⟨t, h⟩ := cover0 i
    exact ⟨t, flush0_20 t, by
      show i ∈ ((View.whole main_v12_3).slice (win0_20.rect t)).set
      rw [View.set_slice_whole]
      exact h⟩

end

end Cert.Attn.Ker

end
-- ==== Proof.KRegion1.lean ====
/- The array the attention call leaves, read at an index, over any contents `V` of the buffers at its entry. -/
module

public import proofs.«01_k».proof.Proof.KBlock
public import proofs.«01_k».proof.Proof.KRegion0

@[expose] public section

set_option maxRecDepth 16384

noncomputable section

namespace Cert.Attn.Ker

open Idealize.ShloMosaic Idealize.ShloMosaic.TcCoe Idealize.SL.Sem Cert.KernelIdeal Cert.KernelIdeal.Gen Cert.Attn
open Idealize.ShloMosaic.Pipeline (Dat)

/-- The contents of a mask ingredient stored down the sequence, along it, and of the one word per batch. -/
abbrev Down := S2x2048x1.Idx → BitVec 32
abbrev Along := S2x1x2048.Idx → BitVec 32
abbrev Word1 := S2x1x1.Idx → BitVec 32

/-- The batch and the block of the sequence of a grid point. -/
def bat1 (t : Fin cfg1.N) : Fin 2 := grid1.coords t 0
def blk1 (t : Fin cfg1.N) : Fin 8 := grid1.coords t 1

/-- The index maps of the attention call. -/
theorem rowMap1 : ∀ t : Fin grid1.N, win1_0.index t 0 = (grid1.coords t 0).val ∧ win1_0.index t 1 = (grid1.coords t 1).val
    ∧ win1_0.index t 2 = 0 := by decide +kernel
theorem batMap1 : ∀ t : Fin grid1.N, win1_1.index t 0 = (grid1.coords t 0).val ∧ win1_1.index t 1 = 0 ∧ win1_1.index t 2 = 0 := by
  decide +kernel
theorem constMap1 : ∀ t : Fin grid1.N, win1_10.index t 0 = 0 ∧ win1_10.index t 1 = 0 := by decide +kernel

theorem row_emb1 (t : Fin cfg1.N) (r : Fin 256) (e : Fin 1024) :
    (win1_0.rect t).emb (ix3 0 r e) = ix3 (bat1 t) (rowIx (blk1 t) r) e := by
  obtain ⟨h0, h1, h2⟩ := rowMap1 t
  refine (eq_ix3 _).trans (congr (congrArg₂ ix3 (Fin.ext ?_) (Fin.ext ?_)) (Fin.ext ?_))
  · show win1_0.index t 0 * 1 + 1 * 0 = (grid1.coords t 0).val
    omega
  · show win1_0.index t 1 * 256 + 1 * r.val = (grid1.coords t 1).val * 256 + r.val
    omega
  · show win1_0.index t 2 * 1024 + 1 * e.val = e.val
    omega

theorem down_emb1 (t : Fin cfg1.N) (r : Fin 256) : (win1_4.rect t).emb (ix3 0 r 0) = ix3 (bat1 t) (rowIx (blk1 t) r) 0 := by
  obtain ⟨h0, h1, h2⟩ := rowMap1 t
  refine (eq_ix3 _).trans (congr (congrArg₂ ix3 (Fin.ext ?_) (Fin.ext ?_)) (Fin.ext ?_))
  · show win1_0.index t 0 * 1 + 1 * 0 = (grid1.coords t 0).val
    omega
  · show win1_0.index t 1 * 256 + 1 * r.val = (grid1.coords t 1).val * 256 + r.val
    omega
  · show win1_0.index t 2 * 1 + 1 * 0 = 0
    omega

theorem seq_emb1 (t : Fin cfg1.N) (j : Fin 2048) (e : Fin 1024) : (win1_1.rect t).emb (ix3 0 j e) = ix3 (bat1 t) j e := by
  obtain ⟨h0, h1, h2⟩ := batMap1 t
  refine (eq_ix3 _).trans (congr (congrArg₂ ix3 (Fin.ext ?_) (Fin.ext ?_)) (Fin.ext ?_))
  · show win1_1.index t 0 * 1 + 1 * 0 = (grid1.coords t 0).val
    omega
  · show win1_1.index t 1 * 2048 + 1 * j.val = j.val
    omega
  · show win1_1.index t 2 * 1024 + 1 * e.val = e.val
    omega

theorem along_emb1 (t : Fin cfg1.N) (j : Fin 2048) : (win1_7.rect t).emb (ix3 0 0 j) = ix3 (bat1 t) 0 j := by
  obtain ⟨h0, h1, h2⟩ := batMap1 t
  refine (eq_ix3 _).trans (congr (congrArg₂ ix3 (Fin.ext ?_) (Fin.ext ?_)) (Fin.ext ?_))
  · show win1_1.index t 0 * 1 + 1 * 0 = (grid1.coords t 0).val
    omega
  · show win1_1.index t 1 * 1 + 1 * 0 = 0
    omega
  · show win1_1.index t 2 * 2048 + 1 * j.val = j.val
    omega

theorem word_emb1 (t : Fin cfg1.N) : (win1_9.rect t).emb (ix3 0 0 0) = ix3 (bat1 t) 0 0 := by
  obtain ⟨h0, h1, h2⟩ := batMap1 t
  refine (eq_ix3 _).trans (congr (congrArg₂ ix3 (Fin.ext ?_) (Fin.ext ?_)) (Fin.ext ?_))
  · show win1_1.index t 0 * 1 + 1 * 0 = (grid1.coords t 0).val
    omega
  · show win1_1.index t 1 * 1 + 1 * 0 = 0
    omega
  · show win1_1.index t 2 * 1 + 1 * 0 = 0
    omega

theorem sq_emb1 (t : Fin cfg1.N) (e k : Fin 1024) : (win1_10.rect t).emb (ix2 e k) = ix2 e k := by
  obtain ⟨h0, h1⟩ := constMap1 t
  refine (eq_ix2 _).trans (congrArg₂ ix2 (Fin.ext ?_) (Fin.ext ?_))
  · show win1_10.index t 0 * 1024 + 1 * e.val = e.val
    omega
  · show win1_10.index t 1 * 1024 + 1 * k.val = k.val
    omega

theorem vec_emb1 (t : Fin cfg1.N) (k : Fin 1024) : (win1_11.rect t).emb (ix2 0 k) = ix2 0 k := by
  obtain ⟨h0, h1⟩ := constMap1 t
  refine (eq_ix2 _).trans (congrArg₂ ix2 (Fin.ext ?_) (Fin.ext ?_))
  · show win1_10.index t 0 * 1 + 1 * 0 = 0
    omega
  · show win1_10.index t 1 * 1024 + 1 * k.val = k.val
    omega

/-- An index of an activation array is in the block of the point of its batch and its block of rows. -/
theorem mem_row1 (b : Fin 2) (i : Fin 2048) (e : Fin 1024) :
    ∃ (t : Fin cfg1.N) (r : Fin 256), (win1_0.rect t).emb (ix3 0 r e) = ix3 b i e := by
  have ht : ∀ (b : Fin 2) (a : Fin 8), ∃ t : Fin grid1.N, (grid1.coords t 0).val = b.val ∧ (grid1.coords t 1).val = a.val := by
    decide +kernel
  obtain ⟨t, h0, h1⟩ := ht b ⟨i.val / 256, by omega⟩
  refine ⟨t, ⟨i.val % 256, by omega⟩, (row_emb1 t _ e).trans ?_⟩
  refine congr (congrArg₂ ix3 (Fin.ext h0) (Fin.ext ?_)) rfl
  have h1' : (blk1 t).val = i.val / 256 := h1
  show (blk1 t).val * 256 + i.val % 256 = i.val
  omega

theorem cover1 (i : S2x2048x1024.Idx) : ∃ t : Fin cfg1.N, i ∈ (win1_0.rect t).set := by
  obtain ⟨t, r, h⟩ := mem_row1 (i 0) (i 1) (i 2)
  refine ⟨t, ?_⟩
  rw [eq_ix3 i, ← h]
  exact emb_mem (win1_0.rect t) _

/-- The position of a row of a block, as a word. -/
theorem posWord_eq (a : Fin 8) (r : Fin 256) : posWord a r = BitVec.ofNat 32 (rowIx a r).val := by
  unfold posWord rowIx
  show BitVec.ofNat 32 a.val * BitVec.ofNat 32 256 + BitVec.ofNat 32 r.val = _
  rw [← BitVec.ofNat_mul, ← BitVec.ofNat_add]

/-- The mask bit of query `i` and key `j` of batch `b`. -/
def bitArr (lw fw kr : Down) (kc gc : Along) (p : Word1) (b : Fin 2) (i j : Fin 2048) : BitVec 1 :=
  kbit (BitVec.ofNat 32 i.val) (BitVec.ofNat 32 j.val) (lw (ix3 b i 0)) (fw (ix3 b i 0)) (IntOp.cmpi .sgt (kr (ix3 b i 0)) 0#32)
    (IntOp.cmpi .sgt (kc (ix3 b 0 j)) 0#32) (IntOp.cmpi .sgt (gc (ix3 b 0 j)) 0#32) (IntOp.cmpi .sgt (p (ix3 b 0 0)) 0#32)

/-- The attention call's result from its queries, keys, values and gates, its mask bits, and the out-projection. -/
def outArr (q k v g : Act) (bits : Fin 2 → Fin 2048 → Fin 2048 → BitVec 1) (W : Sq) (s : Vec1) : Act := fun y =>
  lin (fun e => ctxK (fun j => ∑ d : Fin 64, q (ix3 (y 0) (y 1) (col (headOf e) d)) * k (ix3 (y 0) j (col (headOf e) d)))
      (bits (y 0) (y 1)) (fun j => v (ix3 (y 0) j e)) * g (ix3 (y 0) (y 1) e))
    (fun e k => W (ix2 e k)) (fun e => s (ix2 0 e)) (y 2)

theorem ctxK_congr {s s' v v' : Fin 2048 → EReal} {c c' : Fin 2048 → BitVec 1} (hs : ∀ j, s j = s' j) (hc : ∀ j, c j = c' j)
    (hv : ∀ j, v j = v' j) : ctxK s c v = ctxK s' c' v' := by
  rw [show s = s' from funext hs, show c = c' from funext hc, show v = v' from funext hv]

section
variable (V : (c : Dev nD) → (b : Ref sig .tc) → Buf (Elt Ideal) ((c : Thread nD τ).loc b)) (c : Dev nD)

/-- The mask bits of a block are those of its batch and rows. -/
theorem blockBit_eq (t : Fin cfg1.N) (r : Fin 256) (j : Fin 2048) : blockBit V c t r j
    = bitArr (V c main_arg19) (V c main_arg20) (V c main_arg21) (V c main_v0) (V c main_v1) (V c main_arg23) (bat1 t) (rowIx (blk1 t) r) j := by
  unfold blockBit bitArr
  have h4 : iblk1 V c 4 t (ix3 0 r 0) = V c main_arg19 (ix3 (bat1 t) (rowIx (blk1 t) r) 0) := congrArg (V c main_arg19) (down_emb1 t r)
  have h5 : iblk1 V c 5 t (ix3 0 r 0) = V c main_arg20 (ix3 (bat1 t) (rowIx (blk1 t) r) 0) := congrArg (V c main_arg20) (down_emb1 t r)
  have h6 : iblk1 V c 6 t (ix3 0 r 0) = V c main_arg21 (ix3 (bat1 t) (rowIx (blk1 t) r) 0) := congrArg (V c main_arg21) (down_emb1 t r)
  have h7 : iblk1 V c 7 t (ix3 0 0 j) = V c main_v0 (ix3 (bat1 t) 0 j) := congrArg (V c main_v0) (along_emb1 t j)
  have h8 : iblk1 V c 8 t (ix3 0 0 j) = V c main_v1 (ix3 (bat1 t) 0 j) := congrArg (V c main_v1) (along_emb1 t j)
  have h9 : iblk1 V c 9 t (ix3 0 0 0) = V c main_arg23 (ix3 (bat1 t) 0 0) := congrArg (V c main_arg23) (word_emb1 t)
  rw [h4, h5, h6, h7, h8, h9]
  exact congrArg (fun I => kbit I _ _ _ _ _ _ _) (posWord_eq (blk1 t) r)

/-- The result's array after the call. -/
theorem arr1_12 : (dat1 V c).arrAt 12 cfg1.N
    = outArr (V c main_v12_0) (V c main_v12_1) (V c main_v12_2) (V c main_v12_3)
        (bitArr (V c main_arg19) (V c main_arg20) (V c main_arg21) (V c main_v0) (V c main_v1) (V c main_arg23))
        (V c main_arg9) (V c main_v13) := by
  refine (dat1 V c).arrAt_eq_of_cover 12 (outArr _ _ _ _ _ _ _) (fun t _ => ?_) (fun i => ?_)
  · show (cfg1.win 12).cut (grid1.coords t) ((dat1 V c).after 12 t) = _
    rw [after1_12]
    refine funext fun y => ?_
    obtain ⟨u, r, e, rfl⟩ : ∃ u r e, y = ix3 u r e := ⟨_, _, _, eq_ix3 y⟩
    obtain rfl : u = 0 := Subsingleton.elim _ _
    refine (outs1_apply V c t r e).trans ?_
    refine Eq.trans ?_ (congrArg (outArr _ _ _ _ _ _ _) (row_emb1 t r e)).symm
    have h0 : ∀ e, iblk1 V c 0 t (ix3 0 r e) = V c main_v12_0 (ix3 (bat1 t) (rowIx (blk1 t) r) e) :=
      fun e => congrArg (V c main_v12_0) (row_emb1 t r e)
    have h1 : ∀ j e, iblk1 V c 1 t (ix3 0 j e) = V c main_v12_1 (ix3 (bat1 t) j e) := fun j e => congrArg (V c main_v12_1) (seq_emb1 t j e)
    have h2 : ∀ j e, iblk1 V c 2 t (ix3 0 j e) = V c main_v12_2 (ix3 (bat1 t) j e) := fun j e => congrArg (V c main_v12_2) (seq_emb1 t j e)
    have h3 : ∀ e, iblk1 V c 3 t (ix3 0 r e) = V c main_v12_3 (ix3 (bat1 t) (rowIx (blk1 t) r) e) :=
      fun e => congrArg (V c main_v12_3) (row_emb1 t r e)
    refine lin_congr (fun k => congrArg₂ (· * ·) (ctxK_congr (fun j => ?_) (blockBit_eq V c t r) (fun j => ?_)) (h3 k))
      (fun e k => congrArg (V c main_arg9) (sq_emb1 t e k)) (fun e => congrArg (V c main_v13) (vec_emb1 t e)) e
    · exact Finset.sum_congr rfl fun d _ => congrArg₂ (· * ·) ((pay2_apply _ _ _).trans (h0 _)) ((pay3_apply _ _ _).trans (h1 _ _))
    · exact (pay4_apply _ _ _).trans (h2 _ _)
  · obtain ⟨t, h⟩ := cover1 i
    exact ⟨t, flush1_12 t, by
      show i ∈ ((View.whole main_v14).slice (win1_12.rect t)).set
      rw [View.set_slice_whole]
      exact h⟩

end

end Cert.Attn.Ker

end
-- ==== Proof.RefValue.lean ====
/- The reference program's result read at an index: the rows of `Spec.lean`. -/
module

public import proofs.«01_k».proof.Proof.Spec
public import proofs.«01_k».proof.Proof.Gen.ReferenceIdeal.Read

@[expose] public section

set_option maxRecDepth 16384

noncomputable section

namespace Cert.Attn.Ref

open Idealize.ShloMosaic Idealize.ShloMosaic.ValueIdx Cert.ReferenceIdeal Cert.ReferenceIdeal.Read Cert.Attn

/-- The contents of an activation array, of a square weight and of a vector. -/
abbrev A3 := (⟨S2x2048x1024, .f32⟩ : BufTy).Contents (Elt Ideal)
abbrev A2 := (⟨S1024x1024, .f32⟩ : BufTy).Contents (Elt Ideal)
abbrev A1 := (⟨S1024, .f32⟩ : BufTy).Contents (Elt Ideal)
abbrev I3 := (⟨S2x2048x1, .i32⟩ : BufTy).Contents (Elt Ideal)
abbrev I1 := (⟨S2x1x1, .i32⟩ : BufTy).Contents (Elt Ideal)

/-- Row `(b, i)` of an activation array, the rows of a weight, and a vector as a row. -/
def r3 (X : A3) (b : Fin 2) (i : Fin 2048) : Row := fun k => X (ix3 b i k)
def r2 (W : A2) (e : Fin 1024) : Row := fun k => W (ix2 e k)
def r1 (g : A1) : Row := fun k => g (ix1 k)

theorem mean_apply (X : A3) (b : Fin 2) (i : Fin 2048) (u : Fin 1) :
    val_main_v64 X (ix3 b i u) = mean (r3 X b i) := by
  have e1 : ∀ k, idx_main_v61 (idx_main_v62 (ix3 b i u)) k = ix3 b i k := fun k => eq_ix3 _
  simp only [val_main_v64_apply, val_main_v62_apply, val_main_v61_apply, val_main_v63_apply, val_main_cst_apply,
    val_main_cst_10_apply, e1, Ideal.hostDivf_def, Ideal.ofBits_def, bits_zero, zero_add]
  rfl

theorem mean_var_apply (X : A3) (b : Fin 2) (i : Fin 2048) (u : Fin 1) :
    val_main_call1_v3 X (ix3 b i u) = mean (r3 X b i) := by
  have e1 : ∀ k, idx_main_call1_v0 (idx_main_call1_v1 (ix3 b i u)) k = ix3 b i k := fun k => eq_ix3 _
  simp only [val_main_call1_v3_apply, val_main_call1_v1_apply, val_main_call1_v0_apply, val_main_call1_v2_apply,
    val_main_call1_cst_apply, val_main_call1_cst_0_apply, e1, Ideal.hostDivf_def, Ideal.ofBits_def, bits_zero, zero_add]
  rfl

/-- The divisor of the variance: 1024 less the correction 0. -/
theorem count_apply (z : S_.Idx) : val_main_call1_v8 (F := Ideal) z = ((1024 : ℝ) : EReal) := by
  rw [val_main_call1_v8_apply, val_main_call1_cst_1_apply, val_main_call1_v7_apply, val_main_c_11_apply]
  rw [Ideal.subf_def, Ideal.ofBits_def, bits_1024]
  show ((1024 : ℝ) : EReal) - (((0#32).toInt : ℝ) : EReal) = _
  norm_num

theorem var_apply (X : A3) (b : Fin 2) (i : Fin 2048) (u : Fin 1) :
    val_main_v65 X (ix3 b i u) = var (r3 X b i) := by
  have e1 : ∀ k, idx_main_call1_v9 (idx_main_call1_v10 (ix3 b i u)) k = ix3 b i k := fun k => eq_ix3 _
  have e2 : ∀ k, idx_main_call1_v4 (ix3 b i k) = ix3 b i 0 := fun k => eq_ix3 _
  have hc : ∀ z, val_main_call1_v13 (F := Ideal) z = 1#1 := fun z => by
    rw [val_main_call1_v13_apply, count_apply, val_main_call1_cst_3_apply]
    simp only [Ideal.ofBits_def, bits_zero, Ideal.cmpf_def]
    simp [Ideal.cmp]
  show Scalar.select (val_main_call1_v13 (F := Ideal) _) (val_main_call1_v12 X (ix3 b i u)) _ = _
  rw [hc, select_one]
  simp only [val_main_call1_v12_apply, val_main_call1_v10_apply, val_main_call1_v9_apply, val_main_call1_v11_apply, count_apply,
    val_main_call1_cst_2_apply, e1, val_main_call1_v6_apply, val_main_call1_v5_apply, val_main_call1_v4_apply, e2, mean_var_apply,
    Ideal.hostDivf_def, Ideal.ofBits_def, Ideal.mulf_def, Ideal.subf_def, bits_zero, zero_add]
  rw [var, bits_1024]
  rfl

theorem ln_apply (X : A3) (g s : A1) (b : Fin 2) (i : Fin 2048) (k : Fin 1024) :
    val_main_v78 X g s (ix3 b i k) = ln (r3 X b i) (r1 g) (r1 s) k := by
  have e1 : idx_main_v66 (ix3 b i k) = ix3 b i 0 := eq_ix3 _
  have e2 : idx_main_v71 (ix3 b i k) = ix3 b i 0 := eq_ix3 _
  have e3 : idx_main_v73 (idx_main_v74 (ix3 b i k)) = ix1 k := eq_ix1 _
  have e4 : idx_main_v76 (idx_main_v77 (ix3 b i k)) = ix1 k := eq_ix1 _
  simp only [val_main_v78_apply, val_main_v75_apply, val_main_v72_apply, val_main_v67_apply, val_main_v66_apply, val_main_v71_apply,
    val_main_v70_apply, val_main_v69_apply, val_main_v68_apply, val_main_cst_12_apply, val_main_v74_apply, val_main_v73_apply,
    val_main_v77_apply, val_main_v76_apply, e1, e2, e3, e4, mean_apply, var_apply, Ideal.hostDivf_def, Ideal.ofBits_def,
    Ideal.mulf_def, Ideal.subf_def, Ideal.addf_def, Ideal.hostUnary_sqrt_def]
  rfl

/-- A projection of the reference: layer norm, then the linear map. -/
theorem proj_apply (X : A3) (W : A2) (c g s : A1) (b : Fin 2) (i : Fin 2048) (e : Fin 1024) :
    val_main_v83 X W c g s (ix3 b i e) = lin (ln (r3 X b i) (r1 g) (r1 s)) (r2 W) (r1 c) e := by
  have e1 : ∀ k, lidx_main_v80 (ix3 b i e) k = ix3 b i k := fun k => eq_ix3 _
  have e2 : ∀ k, idx_main_v79 (ridx_main_v80 (ix3 b i e) k) = ix2 e k := fun k => eq_ix2 _
  have e3 : idx_main_v81 (idx_main_v82 (ix3 b i e)) = ix1 e := eq_ix1 _
  simp only [val_main_v83_apply, val_main_v80_apply, val_main_v79_apply, val_main_v82_apply, val_main_v81_apply, e1, e2, e3, ln_apply,
    Ideal.addf_def]
  rfl

/-- The three projections are one function of their arguments. -/
theorem key_eq (X : A3) (W : A2) (c g s : A1) : val_main_v108 X W c g s = val_main_v83 X W c g s := rfl
theorem value_eq (X : A3) (W : A2) (c g s : A1) : val_main_v133 X W c g s = val_main_v83 X W c g s := rfl

theorem heads_apply (b : Fin 2) (i : Fin 2048) (h : Fin 16) (d : Fin 64) :
    idx_main_v84 (idx_main_v85 (ix4 b h i d)) = ix3 b i (col h d) := by
  refine (eq_ix3 _).trans ?_
  congr 1 <;> apply Fin.ext
  · show (((b.val * 2048 + i.val) * 16 + h.val) * 64 + d.val) / 2097152 = b.val
    omega
  · show (((b.val * 2048 + i.val) * 16 + h.val) * 64 + d.val) / 1024 % 2048 = i.val
    omega
  · show (((b.val * 2048 + i.val) * 16 + h.val) * 64 + d.val) % 1024 = h.val * 64 + d.val
    omega

/-- A projection split into heads. -/
theorem query_apply (X : A3) (W : A2) (c g s : A1) (b : Fin 2) (i : Fin 2048) (h : Fin 16) (d : Fin 64) :
    val_main_v85 X W c g s (ix4 b h i d) = lin (ln (r3 X b i) (r1 g) (r1 s)) (r2 W) (r1 c) (col h d) := by
  rw [val_main_v85_apply, val_main_v84_apply, heads_apply, proj_apply]
theorem key_heads_eq (X : A3) (W : A2) (c g s : A1) : val_main_v110 X W c g s = val_main_v85 X W c g s := rfl
theorem value_heads_eq (X : A3) (W : A2) (c g s : A1) : val_main_v135 X W c g s = val_main_v85 X W c g s := rfl

/-- The gate: the logistic function of a linear map of the input. -/
theorem gate_apply (X : A3) (W : A2) (c : A1) (b : Fin 2) (i : Fin 2048) (e : Fin 1024) :
    val_main_v167 X W c (ix3 b i e) = Ideal.logistic (lin (r3 X b i) (r2 W) (r1 c) e) := by
  have e1 : ∀ k, lidx_main_v158 (ix3 b i e) k = ix3 b i k := fun k => eq_ix3 _
  have e2 : ∀ k, idx_main_v157 (ridx_main_v158 (ix3 b i e) k) = ix2 e k := fun k => eq_ix2 _
  have e3 : idx_main_v159 (idx_main_v160 (ix3 b i e)) = ix1 e := eq_ix1 _
  simp only [val_main_v167_apply, val_main_v166_apply, val_main_v165_apply, val_main_v164_apply, val_main_v163_apply,
    val_main_v162_apply, val_main_v161_apply, val_main_v160_apply, val_main_v159_apply, val_main_v158_apply, val_main_v157_apply,
    val_main_cst_26_apply, val_main_cst_27_apply, e1, e2, e3, Ideal.addf_def, Ideal.ofBits_def, Ideal.hostDivf_def,
    Ideal.hostNegf_def, Ideal.hostUnary_exp_def, bits_one]
  rfl

section Attention

variable (x0 x1 x2 : A3) (x3 : A2) (x4 : A1) (x5 : A2) (x6 : A1) (x7 : A2) (x8 : A1) (x9 : A2) (x10 : A1) (x11 : A2)
  (x12 x13 x14 x15 x16 x17 x18 : A1) (x19 x20 x21 x22 : I3) (x23 : I1)

/-- The rows of queries, keys and values. -/
def qRow (b : Fin 2) (i : Fin 2048) : Row := lin (ln (r3 x0 b i) (r1 x13) (r1 x14)) (r2 x3) (r1 x4)
def kRow (b : Fin 2) (i : Fin 2048) : Row := lin (ln (r3 x1 b i) (r1 x15) (r1 x16)) (r2 x5) (r1 x6)
def vRow (b : Fin 2) (i : Fin 2048) : Row := lin (ln (r3 x2 b i) (r1 x17) (r1 x18)) (r2 x7) (r1 x8)

/-- The dot product of query `i` and key `j` in head `h`. -/
def dots (b : Fin 2) (h : Fin 16) (i j : Fin 2048) : EReal :=
  ∑ d : Fin 64, qRow x0 x3 x4 x13 x14 b i (col h d) * kRow x1 x5 x6 x15 x16 b j (col h d)

/-- The mask bit of query `i` and key `j`. -/
def bit (b : Fin 2) (i j : Fin 2048) : BitVec 1 := val_main_v60 x19 x20 x21 x22 x23 (ix3 b i j)

theorem dots_apply (b : Fin 2) (h : Fin 16) (i j : Fin 2048) :
    val_main_v136 x0 x1 x3 x4 x5 x6 x13 x14 x15 x16 (ix4 b h i j) = dots x0 x1 x3 x4 x5 x6 x13 x14 x15 x16 b h i j := by
  have e1 : ∀ k, lidx_main_v136 (ix4 b h i j) k = ix4 b h i k := fun k => eq_ix4 _
  have e2 : ∀ k, ridx_main_v136 (ix4 b h i j) k = ix4 b h j k := fun k => eq_ix4 _
  simp only [val_main_v136_apply, e1, e2, key_heads_eq, query_apply]
  rfl

/-- A masked score. -/
def score (b : Fin 2) (h : Fin 16) (i j : Fin 2048) : EReal :=
  Scalar.select (bit x19 x20 x21 x22 x23 b i j)
    (Ideal.div (dots x0 x1 x3 x4 x5 x6 x13 x14 x15 x16 b h i j) (Ideal.sqrt (Ideal.ofBits .f32 0x42800000#32)))
    (Ideal.ofBits .f32 0xFF800000#32)

theorem score_apply (b : Fin 2) (h : Fin 16) (i j : Fin 2048) :
    val_main_v142 x0 x1 x3 x4 x5 x6 x13 x14 x15 x16 x19 x20 x21 x22 x23 (ix4 b h i j)
      = score x0 x1 x3 x4 x5 x6 x13 x14 x15 x16 x19 x20 x21 x22 x23 b h i j := by
  have e1 : idx_main_v141 (idx_main_call4_v1 (ix4 b h i j)) = ix3 b i j := eq_ix3 _
  simp only [val_main_v142_apply, val_main_call4_v1_apply, val_main_v141_apply, e1, val_main_v140_apply, dots_apply,
    val_main_v139_apply, val_main_v138_apply, val_main_v137_apply, val_main_cst_21_apply, val_main_call4_v2_apply,
    val_main_call4_v0_apply, val_main_cst_22_apply, Ideal.ofBits_def, Ideal.hostDivf_def, Ideal.hostUnary_sqrt_def]
  rfl

/-- The number the reference subtracts from the scores of one query and head: their maximum. -/
def rowMax (b : Fin 2) (h : Fin 16) (i : Fin 2048) : EReal :=
  val_main_v145 x0 x1 x3 x4 x5 x6 x13 x14 x15 x16 x19 x20 x21 x22 x23 (ix3 b h i)

theorem weight_apply (b : Fin 2) (h : Fin 16) (i j : Fin 2048) :
    val_main_v149 x0 x1 x3 x4 x5 x6 x13 x14 x15 x16 x19 x20 x21 x22 x23 (ix4 b h i j)
      = Ideal.exp (score x0 x1 x3 x4 x5 x6 x13 x14 x15 x16 x19 x20 x21 x22 x23 b h i j
          - rowMax x0 x1 x3 x4 x5 x6 x13 x14 x15 x16 x19 x20 x21 x22 x23 b h i) := by
  have e1 : idx_main_v146 (idx_main_v147 (ix4 b h i j)) = ix3 b h i := eq_ix3 _
  simp only [val_main_v149_apply, val_main_v148_apply, val_main_v147_apply, val_main_v146_apply, e1, score_apply,
    Ideal.hostUnary_exp_def, Ideal.subf_def]
  rfl

theorem ctx_apply (b : Fin 2) (h : Fin 16) (i : Fin 2048) (d : Fin 64) :
    val_main_v154 x0 x1 x2 x3 x4 x5 x6 x7 x8 x13 x14 x15 x16 x17 x18 x19 x20 x21 x22 x23 (ix4 b h i d)
      = ctxR (dots x0 x1 x3 x4 x5 x6 x13 x14 x15 x16 b h i) (bit x19 x20 x21 x22 x23 b i)
          (fun j => vRow x2 x7 x8 x17 x18 b j (col h d))
          (rowMax x0 x1 x3 x4 x5 x6 x13 x14 x15 x16 x19 x20 x21 x22 x23 b h i) := by
  have e1 : ∀ k, lidx_main_v154 (ix4 b h i d) k = ix4 b h i k := fun k => eq_ix4 _
  have e2 : ∀ k, ridx_main_v154 (ix4 b h i d) k = ix4 b h k d := fun k => eq_ix4 _
  have e3 : ∀ j k, idx_main_v150 (idx_main_v151 (idx_main_v152 (ix4 b h i j))) k = ix4 b h i k := fun j k => eq_ix4 _
  simp only [val_main_v154_apply, e1, e2, value_heads_eq, query_apply, val_main_v153_apply, val_main_v152_apply,
    val_main_v151_apply, val_main_v150_apply, e3, weight_apply, val_main_cst_25_apply, Ideal.hostDivf_def, Ideal.ofBits_def,
    bits_zero, zero_add]
  rfl

theorem merge_apply (b : Fin 2) (i : Fin 2048) (e : Fin 1024) :
    idx_main_v155 (idx_main_v156 (ix3 b i e)) = ix4 b (headOf e) i (coordOf e) := by
  refine (eq_ix4 _).trans ?_
  congr 1 <;> apply Fin.ext
  · show ((b.val * 2048 + i.val) * 1024 + e.val) / 2097152 = b.val
    omega
  · show ((b.val * 2048 + i.val) * 1024 + e.val) / 64 % 16 = e.val / 64
    omega
  · show ((b.val * 2048 + i.val) * 1024 + e.val) / 1024 % 2048 = i.val
    omega
  · show ((b.val * 2048 + i.val) * 1024 + e.val) % 64 = e.val % 64
    omega

/-- The reference's result at `(b, i, o)`. -/
theorem out_apply (b : Fin 2) (i : Fin 2048) (o : Fin 1024) :
    val_main_v173 x0 x1 x2 x3 x4 x5 x6 x7 x8 x9 x10 x11 x12 x13 x14 x15 x16 x17 x18 x19 x20 x21 x22 x23 (ix3 b i o)
      = lin (fun e => ctxR (dots x0 x1 x3 x4 x5 x6 x13 x14 x15 x16 b (headOf e) i) (bit x19 x20 x21 x22 x23 b i)
            (fun j => vRow x2 x7 x8 x17 x18 b j e)
            (rowMax x0 x1 x3 x4 x5 x6 x13 x14 x15 x16 x19 x20 x21 x22 x23 b (headOf e) i)
          * Ideal.logistic (lin (r3 x0 b i) (r2 x11) (r1 x12) e)) (r2 x9) (r1 x10) o := by
  have e1 : ∀ k, lidx_main_v170 (ix3 b i o) k = ix3 b i k := fun k => eq_ix3 _
  have e2 : ∀ k, idx_main_v169 (ridx_main_v170 (ix3 b i o) k) = ix2 o k := fun k => eq_ix2 _
  have e3 : idx_main_v171 (idx_main_v172 (ix3 b i o)) = ix1 o := eq_ix1 _
  rw [val_main_v173_apply, val_main_v170_apply, val_main_v172_apply, val_main_v171_apply, e3, Ideal.addf_def]
  refine congrArg (· + x10 (ix1 o)) (Finset.sum_congr rfl fun k _ => ?_)
  rw [e1, val_main_v169_apply, e2, val_main_v168_apply, val_main_v156_apply, val_main_v155_apply, merge_apply, ctx_apply, gate_apply,
    col_headOf, Ideal.mulf_def]
  exact congrArg (_ * ·) (Eq.refl (x9 (ix2 o k)))

end Attention

end Cert.Attn.Ref

end
-- ==== Proof.RefMask.lean ====
/- The reference's mask bit in closed form, and the reference's row maximum as a real number. -/
module

public import proofs.«01_k».proof.Proof.RefValue
public import Idealize.ShloMosaic.Lib.SortNet.Extract

@[expose] public section

set_option maxRecDepth 16384

noncomputable section

namespace Cert.Attn.Ref

open Idealize.ShloMosaic Idealize.ShloMosaic.ValueIdx Idealize.ShloMosaic.SortNet Cert.ReferenceIdeal Cert.ReferenceIdeal.Gen
  Cert.ReferenceIdeal.Read Cert.Attn

/-- The reference's mask bit: of the query at position `I` and the key at position `J`, the window `lw`, `fw` of the query, the
    query's and the key's keypoint bits `kr`, `kc`, the key's global bit `gc`, and the bit `p` of any keypoint at all. -/
def rbit (I J lw fw : BitVec 32) (kr kc gc p : BitVec 1) : BitVec 1 :=
  IntOp.ori
    (IntOp.ori
      (IntOp.ori
        (IntOp.andi (IntOp.cmpi .sge (IntOp.subi I J) 0#32) (IntOp.cmpi .sle (IntOp.subi I J) lw))
        (IntOp.andi (IntOp.cmpi .slt (IntOp.subi I J) 0#32) (IntOp.cmpi .sle (-(IntOp.subi I J)) fw)))
      (Scalar.select p (IntOp.ori kr kc)
        (IntOp.ori (IntOp.ori (IntOp.ori (IntOp.ori (IntOp.ori 0#1 (IntOp.cmpi .eq J 0#32)) (IntOp.cmpi .eq J 511#32))
          (IntOp.cmpi .eq J 1023#32)) (IntOp.cmpi .eq J 1535#32)) (IntOp.cmpi .eq J 2047#32))))
    gc

variable (x19 x20 x21 x22 : I3) (x23 : I1)

/-- The mask ingredients stored down the sequence, with the unit axis dropped. -/
theorem drop_idx (i : S2x2048.Idx) : idx_main_v0 i = ix3 (i 0) (i 1) 0 := by
  have h0 : (i 0).val < 2 := (i 0).isLt
  have h1 : (i 1).val < 2048 := (i 1).isLt
  exact (eq_ix3 _).trans (congr (congrArg₂ ix3 (Fin.ext (by show ((i 0).val * 2048 + (i 1).val) / 2048 = (i 0).val; omega))
    (Fin.ext (by show ((i 0).val * 2048 + (i 1).val) / 1 % 2048 = (i 1).val; omega))) (Subsingleton.elim _ _))

theorem v0_apply (i : S2x2048.Idx) : val_main_v0 (F := Ideal) x19 i = x19 (ix3 (i 0) (i 1) 0) :=
  (val_main_v0_apply x19 i).trans (congrArg x19 (drop_idx i))
theorem v1_apply (i : S2x2048.Idx) : val_main_v1 (F := Ideal) x20 i = x20 (ix3 (i 0) (i 1) 0) :=
  (val_main_v1_apply x20 i).trans (congrArg x20 (drop_idx i))
theorem v2_apply (i : S2x2048.Idx) : val_main_v2 (F := Ideal) x21 i = x21 (ix3 (i 0) (i 1) 0) :=
  (val_main_v2_apply x21 i).trans (congrArg x21 (drop_idx i))
theorem v5_apply (i : S2x2048.Idx) : val_main_v5 (F := Ideal) x22 i = x22 (ix3 (i 0) (i 1) 0) :=
  (val_main_v5_apply x22 i).trans (congrArg x22 (drop_idx i))

/-- The word of a position less a position. -/
theorem v38_apply (i : S1x2048x2048.Idx) :
    val_main_v38 (F := Ideal) i = IntOp.subi (BitVec.ofNat 32 (i 1).val) (BitVec.ofNat 32 (i 2).val) := by
  rw [val_main_v38_apply, val_main_v36_apply, val_main_v34_apply, val_main_v13_apply, val_main_v37_apply, val_main_v35_apply,
    val_main_v13_apply]

/-- The keys in the window. -/
theorem v56_apply (b : Fin 2) (i j : Fin 2048) :
    val_main_v56 (F := Ideal) x19 x20 (ix3 b i j)
      = IntOp.ori
        (IntOp.andi (IntOp.cmpi .sge (IntOp.subi (BitVec.ofNat 32 i.val) (BitVec.ofNat 32 j.val)) 0#32)
          (IntOp.cmpi .sle (IntOp.subi (BitVec.ofNat 32 i.val) (BitVec.ofNat 32 j.val)) (x19 (ix3 b i 0))))
        (IntOp.andi (IntOp.cmpi .slt (IntOp.subi (BitVec.ofNat 32 i.val) (BitVec.ofNat 32 j.val)) 0#32)
          (IntOp.cmpi .sle (-(IntOp.subi (BitVec.ofNat 32 i.val) (BitVec.ofNat 32 j.val))) (x20 (ix3 b i 0)))) := by
  rw [val_main_v56_apply, val_main_v46_apply, val_main_v45_apply, val_main_v40_apply, v38_apply, val_main_v39_apply,
    val_main_c_8_apply, val_main_v44_apply, val_main_v42_apply, v38_apply, val_main_v43_apply, val_main_v41_apply, v0_apply,
    val_main_v55_apply, val_main_v54_apply, val_main_v48_apply, v38_apply, val_main_v47_apply, val_main_c_9_apply,
    val_main_v53_apply, val_main_v51_apply, val_main_v49_apply, v38_apply, val_main_v52_apply, val_main_v50_apply, v1_apply]
  rfl

/-- The keypoints of either position, and the five positions used when there is none. -/
theorem v33_apply (b : Fin 2) (i j : Fin 2048) :
    val_main_v33 (F := Ideal) x21 x23 (ix3 b i j)
      = Scalar.select (IntOp.cmpi .sgt (x23 (ix3 b 0 0)) 0#32)
        (IntOp.ori (IntOp.cmpi .sgt (x21 (ix3 b i 0)) 0#32) (IntOp.cmpi .sgt (x21 (ix3 b j 0)) 0#32))
        (IntOp.ori (IntOp.ori (IntOp.ori (IntOp.ori (IntOp.ori 0#1 (IntOp.cmpi .eq (BitVec.ofNat 32 j.val) 0#32))
          (IntOp.cmpi .eq (BitVec.ofNat 32 j.val) 511#32)) (IntOp.cmpi .eq (BitVec.ofNat 32 j.val) 1023#32))
          (IntOp.cmpi .eq (BitVec.ofNat 32 j.val) 1535#32)) (IntOp.cmpi .eq (BitVec.ofNat 32 j.val) 2047#32)) := by
  have ep : idx_main_call0_v0 (ix3 b i j) = ix3 b 0 0 := eq_ix3 _
  rw [val_main_v33_apply, val_main_call0_v0_apply, val_main_v32_apply, ep, val_main_v31_apply, val_main_c_7_apply,
    val_main_v12_apply, val_main_v10_apply, val_main_v8_apply, val_main_v4_apply, v2_apply, val_main_v3_apply, val_main_c_apply,
    val_main_v11_apply, val_main_v9_apply, val_main_v4_apply, v2_apply, val_main_v3_apply, val_main_c_apply,
    val_main_call0_v1_apply, val_main_v30_apply, val_main_v29_apply, val_main_v28_apply, val_main_v27_apply, val_main_c_6_apply,
    val_main_v26_apply, val_main_v25_apply, val_main_v24_apply, val_main_c_5_apply, val_main_v23_apply, val_main_v22_apply,
    val_main_v21_apply, val_main_c_4_apply, val_main_v20_apply, val_main_v19_apply, val_main_v18_apply, val_main_c_3_apply,
    val_main_v17_apply, val_main_v16_apply, val_main_v15_apply, val_main_c_2_apply, val_main_v14_apply, val_main_c_1_apply,
    val_main_v13_apply]
  rfl

theorem bit_apply (b : Fin 2) (i j : Fin 2048) :
    bit x19 x20 x21 x22 x23 b i j
      = rbit (BitVec.ofNat 32 i.val) (BitVec.ofNat 32 j.val) (x19 (ix3 b i 0)) (x20 (ix3 b i 0))
          (IntOp.cmpi .sgt (x21 (ix3 b i 0)) 0#32) (IntOp.cmpi .sgt (x21 (ix3 b j 0)) 0#32) (IntOp.cmpi .sgt (x22 (ix3 b j 0)) 0#32)
          (IntOp.cmpi .sgt (x23 (ix3 b 0 0)) 0#32) := by
  unfold bit rbit
  rw [val_main_v60_apply, val_main_v57_apply, v56_apply, v33_apply, val_main_v59_apply, val_main_v58_apply, val_main_v7_apply,
    v5_apply, val_main_v6_apply, val_main_c_0_apply]
  rfl

section
variable (x0 x1 : A3) (x3 : A2) (x4 : A1) (x5 : A2) (x6 x13 x14 x15 x16 : A1)

/-- The row maximum is real when the dot products are real and one key is unmasked: no masked score is +∞, and the maximum is at
    least that key's score. -/
theorem rowMax_fin (b : Fin 2) (h : Fin 16) (i j₀ : Fin 2048) (hs : ∀ j, Fin' (dots x0 x1 x3 x4 x5 x6 x13 x14 x15 x16 b h i j))
    (hb : bit x19 x20 x21 x22 x23 b i j₀ = 1#1) :
    Fin' (rowMax x0 x1 x3 x4 x5 x6 x13 x14 x15 x16 x19 x20 x21 x22 x23 b h i) := by
  have hd : ∀ j, Fin' (Ideal.div (dots x0 x1 x3 x4 x5 x6 x13 x14 x15 x16 b h i j) (Ideal.sqrt (Ideal.ofBits .f32 0x42800000#32))) := fun j => by
    obtain ⟨r, hr⟩ := hs j
    rw [hr, bits_64, sqrt_64, Ideal.div_coe (by norm_num)]
    exact fin_mul (fin_coe _) (fin_coe _)
  have ht : ∀ j, score x0 x1 x3 x4 x5 x6 x13 x14 x15 x16 x19 x20 x21 x22 x23 b h i j ≠ ⊤ := fun j => by
    unfold score
    obtain ⟨r, hr⟩ := hd j
    rw [hr, bits_bot]
    by_cases hc : bit x19 x20 x21 x22 x23 b i j = 1#1
    · rw [hc, select_one]; exact EReal.coe_ne_top r
    · rw [show Scalar.select (bit x19 x20 x21 x22 x23 b i j) (r : EReal) ⊥ = ⊥ from if_neg hc]; exact bot_ne_top
  have h0 : Fin' (score x0 x1 x3 x4 x5 x6 x13 x14 x15 x16 x19 x20 x21 x22 x23 b h i j₀) := by
    unfold score
    rw [hb, select_one]; exact hd j₀
  have hm : rowMax x0 x1 x3 x4 x5 x6 x13 x14 x15 x16 x19 x20 x21 x22 x23 b h i
      = (((List.finRange S2x16x2048x2048.numel).map S2x16x2048x2048.rowMajor.symm).filter
          fun n => reducesTo_S2x16x2048x2048_S2x16x2048_d3.drop n = ix3 b h i).foldl
          (fun r n => max r (val_main_v142 x0 x1 x3 x4 x5 x6 x13 x14 x15 x16 x19 x20 x21 x22 x23 n)) ⊥ := by
    unfold rowMax
    rw [val_main_v145_apply, val_main_v144_apply, val_main_cst_24_apply]
    unfold val_main_v143
    rw [Host.reduce_eq_foldl, val_main_cst_23_apply]
    simp only [Ideal.maximumf_def, Ideal.ofBits_def, bits_bot]
    exact max_eq_right bot_le
  have hdrop : ∀ n : S2x16x2048x2048.Idx, reducesTo_S2x16x2048x2048_S2x16x2048_d3.drop n = ix3 b h i →
      ∃ j, n = ix4 b h i j := fun n hn => ⟨n 3, (eq_ix4 n).trans (by
    have a0 : (n 0).val = b.val := congrArg (fun z : S2x16x2048.Idx => (z 0).val) hn
    have a1 : (n 1).val = h.val := congrArg (fun z : S2x16x2048.Idx => (z 1).val) hn
    have a2 : (n 2).val = i.val := congrArg (fun z : S2x16x2048.Idx => (z 2).val) hn
    rw [show n 0 = b from Fin.ext a0, show n 1 = h from Fin.ext a1, show n 2 = i from Fin.ext a2]
    rfl)⟩
  have hdiag : reducesTo_S2x16x2048x2048_S2x16x2048_d3.drop (ix4 b h i j₀) = ix3 b h i := eq_ix3 _
  have hlow := (le_foldl_max (val_main_v142 x0 x1 x3 x4 x5 x6 x13 x14 x15 x16 x19 x20 x21 x22 x23)
    (((List.finRange S2x16x2048x2048.numel).map S2x16x2048x2048.rowMajor.symm).filter
      fun n => reducesTo_S2x16x2048x2048_S2x16x2048_d3.drop n = ix3 b h i) ⊥).2 (ix4 b h i j₀)
      (List.mem_filter.2 ⟨List.mem_map.2 ⟨S2x16x2048x2048.rowMajor _, List.mem_finRange _, Equiv.symm_apply_apply _ _⟩, by simp [hdiag]⟩)
  have hmem := foldl_max_mem (val_main_v142 x0 x1 x3 x4 x5 x6 x13 x14 x15 x16 x19 x20 x21 x22 x23)
    (((List.finRange S2x16x2048x2048.numel).map S2x16x2048x2048.rowMajor.symm).filter
      fun n => reducesTo_S2x16x2048x2048_S2x16x2048_d3.drop n = ix3 b h i) ⊥
  rw [← hm] at hlow hmem
  rw [score_apply] at hlow
  generalize rowMax x0 x1 x3 x4 x5 x6 x13 x14 x15 x16 x19 x20 x21 x22 x23 b h i = M at hlow hmem ⊢
  obtain ⟨r, hr⟩ := h0
  rw [hr] at hlow
  have hMtop : M ≠ ⊤ := by
    rcases hmem with e | ⟨n, hn, e⟩
    · rw [e]; exact bot_ne_top
    · obtain ⟨j, rfl⟩ := hdrop n (by simpa using (List.mem_filter.1 hn).2)
      rw [e, score_apply]; exact ht j
  have hMbot : M ≠ ⊥ := fun e => by rw [e] at hlow; exact absurd (le_bot_iff.1 hlow) (EReal.coe_ne_bot r)
  exact ⟨M.toReal, (EReal.coe_toReal hMtop hMbot).symm⟩

end

end Cert.Attn.Ref

end
-- ==== Proof.Mask.lean ====
/- The two mask bits agree, and a query's own key is never masked. -/
module

public import proofs.«01_k».proof.Proof.KAttn
public import proofs.«01_k».proof.Proof.RefMask
public import Idealize.ShloMosaic.Lib.WordCmp

@[expose] public section

noncomputable section

namespace Cert.Attn

open Idealize.ShloMosaic

/-- The signed value of a position is the position. -/
theorem toInt_pos {i : Nat} (hi : i < 2048) : (BitVec.ofNat 32 i).toInt = i := by
  rw [BitVec.toInt_eq_toNat_bmod, BitVec.toNat_ofNat]
  simp only [Int.bmod_def]
  omega

/-- The signed value of the difference of two positions. -/
theorem toInt_sub_pos {i j : Nat} (hi : i < 2048) (hj : j < 2048) :
    (BitVec.ofNat 32 i - BitVec.ofNat 32 j).toInt = (i : Int) - j := by
  rw [BitVec.toInt_sub, toInt_pos hi, toInt_pos hj]
  simp only [Int.bmod_def]
  omega

/-- The kernel's window test and the reference's agree on positions of the sequence and windows of the stated ranges. -/
theorem window_eq {i j : Nat} (hi : i < 2048) (hj : j < 2048) {lw fw : BitVec 32} (hl : 2 ≤ lw.toInt) (hl' : lw.toInt ≤ 256)
    (hf : 1 ≤ fw.toInt) (hf' : fw.toInt ≤ 64) :
    IntOp.andi (IntOp.cmpi .sge (BitVec.ofNat 32 j) (IntOp.subi (BitVec.ofNat 32 i) lw))
        (IntOp.cmpi .sle (BitVec.ofNat 32 j) (IntOp.addi (BitVec.ofNat 32 i) fw))
      = IntOp.ori
        (IntOp.andi (IntOp.cmpi .sge (IntOp.subi (BitVec.ofNat 32 i) (BitVec.ofNat 32 j)) 0#32)
          (IntOp.cmpi .sle (IntOp.subi (BitVec.ofNat 32 i) (BitVec.ofNat 32 j)) lw))
        (IntOp.andi (IntOp.cmpi .slt (IntOp.subi (BitVec.ofNat 32 i) (BitVec.ofNat 32 j)) 0#32)
          (IntOp.cmpi .sle (-(IntOp.subi (BitVec.ofNat 32 i) (BitVec.ofNat 32 j))) fw)) := by
  have ei : (BitVec.ofNat 32 i).toInt = i := toInt_pos hi
  have ej : (BitVec.ofNat 32 j).toInt = j := toInt_pos hj
  have ed : (IntOp.subi (BitVec.ofNat 32 i) (BitVec.ofNat 32 j)).toInt = (i : Int) - j := toInt_sub_pos hi hj
  have en : (-(IntOp.subi (BitVec.ofNat 32 i) (BitVec.ofNat 32 j))).toInt = (j : Int) - i := by
    rw [BitVec.toInt_neg, ed]; simp only [Int.bmod_def]; omega
  have el : (IntOp.subi (BitVec.ofNat 32 i) lw).toInt = i - lw.toInt := by
    show (BitVec.ofNat 32 i - lw).toInt = _
    rw [BitVec.toInt_sub, ei]; simp only [Int.bmod_def]; omega
  have ef : (IntOp.addi (BitVec.ofNat 32 i) fw).toInt = i + fw.toInt := by
    show (BitVec.ofNat 32 i + fw).toInt = _
    rw [BitVec.toInt_add, ei]; simp only [Int.bmod_def]; omega
  have hbool : ∀ a b c d e f : Prop, [Decidable a] → [Decidable b] → [Decidable c] → [Decidable d] → [Decidable e] → [Decidable f] →
      ((a ∧ b) ↔ ((c ∧ d) ∨ (e ∧ f))) →
      IntOp.andi (BitVec.ofBool (decide a)) (BitVec.ofBool (decide b))
        = IntOp.ori (IntOp.andi (BitVec.ofBool (decide c)) (BitVec.ofBool (decide d)))
          (IntOp.andi (BitVec.ofBool (decide e)) (BitVec.ofBool (decide f))) := by
    intro a b c d e f _ _ _ _ _ _ h
    by_cases a <;> by_cases b <;> by_cases c <;> by_cases d <;> by_cases e <;> by_cases f <;> simp_all [IntOp.andi, IntOp.ori]
  have eslt : ∀ x y : BitVec 32, IntOp.cmpi .slt x y = BitVec.ofBool (decide (x.toInt < y.toInt)) := fun _ _ => rfl
  rw [WordCmp.cmpi_sge_eq, WordCmp.cmpi_sle_eq, WordCmp.cmpi_sge_eq, WordCmp.cmpi_sle_eq, eslt, WordCmp.cmpi_sle_eq]
  refine hbool _ _ _ _ _ _ ?_
  rw [ej, ed, en, el, ef, BitVec.toInt_zero]
  omega

/-- The two mask bits are the same bit. -/
theorem kbit_eq_rbit {i j : Nat} (hi : i < 2048) (hj : j < 2048) {lw fw : BitVec 32} (hl : 2 ≤ lw.toInt) (hl' : lw.toInt ≤ 256)
    (hf : 1 ≤ fw.toInt) (hf' : fw.toInt ≤ 64) (kr kc gc p : BitVec 1) :
    Ker.kbit (BitVec.ofNat 32 i) (BitVec.ofNat 32 j) lw fw kr kc gc p
      = Ref.rbit (BitVec.ofNat 32 i) (BitVec.ofNat 32 j) lw fw kr kc gc p := by
  unfold Ker.kbit Ref.rbit
  rw [window_eq hi hj hl hl' hf hf']
  generalize IntOp.ori (IntOp.andi _ _) (IntOp.andi _ _) = w
  generalize IntOp.cmpi .eq (BitVec.ofNat 32 j) 0#32 = a0
  generalize IntOp.cmpi .eq (BitVec.ofNat 32 j) 511#32 = a1
  generalize IntOp.cmpi .eq (BitVec.ofNat 32 j) 1023#32 = a2
  generalize IntOp.cmpi .eq (BitVec.ofNat 32 j) 1535#32 = a3
  generalize IntOp.cmpi .eq (BitVec.ofNat 32 j) 2047#32 = a4
  have e : IntOp.ori (IntOp.ori (IntOp.ori (IntOp.ori (IntOp.ori 0#1 a0) a1) a2) a3) a4 = IntOp.ori (IntOp.ori (IntOp.ori (IntOp.ori a0 a1) a2) a3) a4 := by
    have z : IntOp.ori 0#1 a0 = a0 := by revert a0; decide
    rw [z]
  rw [e]
  generalize IntOp.ori (IntOp.ori (IntOp.ori (IntOp.ori a0 a1) a2) a3) a4 = fb
  revert w fb kr kc gc p
  decide

/-- A query's own key is in its window. -/
theorem rbit_diag {i : Nat} (hi : i < 2048) {lw fw : BitVec 32} (hl : 2 ≤ lw.toInt) (kr kc gc p : BitVec 1) :
    Ref.rbit (BitVec.ofNat 32 i) (BitVec.ofNat 32 i) lw fw kr kc gc p = 1#1 := by
  unfold Ref.rbit
  have ed : IntOp.subi (BitVec.ofNat 32 i) (BitVec.ofNat 32 i) = 0#32 := BitVec.sub_self _
  have h1 : IntOp.cmpi .sge (0#32) 0#32 = 1#1 := by decide
  have h2 : IntOp.cmpi .sle (0#32) lw = 1#1 := by
    rw [WordCmp.cmpi_sle_eq, BitVec.toInt_zero, decide_eq_true (by omega)]; rfl
  have h3 : ∀ x y z : BitVec 1, IntOp.ori (IntOp.ori (IntOp.ori (IntOp.andi 1#1 1#1) x) y) z = 1#1 := by decide
  rw [ed, h1, h2, h3]

end Cert.Attn

end
-- ==== Proof.Pre.lean ====
/- What the precondition says of the argument arrays. -/
module

public import proofs.«01_k».proof.Defs
public import proofs.«01_k».proof.Proof.Consts
public import proofs.«01_k».proof.Proof.Spec
public import Idealize.ShloMosaic.Lib.ReduceAll
public import Idealize.ShloMosaic.Lib.WordCmp
public import Idealize.ShloMosaic.Lib.Pointwise.Select

@[expose] public section

noncomputable section

namespace Cert.Attn.Pre

open Idealize.ShloMosaic
open Cert.Pre_finite

/-- The shape relations of the precondition's operations hold. -/
theorem facts : Cert.Pre_finite.Facts where
  bcast_S_S2x2048x1 := by decide
  reducesTo_S2x2048x1_S_d0_1_2 := by decide
  h_S_ := by decide
  bcast_S_S2x2048x1024 := by decide
  reducesTo_S2x2048x1024_S_d0_1_2 := by decide
  bcast_S_S1024x1024 := by decide
  reducesTo_S1024x1024_S_d0_1 := by decide
  bcast_S_S1024 := by decide
  reducesTo_S1024_S_d0 := by decide

/-- A scalar has one index. -/
theorem one_index : Subsingleton S_.Idx := ⟨fun _ _ => funext fun k => k.elim0⟩

/-- A value whose absolute value is below infinity is a real number. -/
theorem fin_of_abs {x : EReal} (h : max x (-x) < ⊤) : Fin' x := by
  induction x with
  | bot => simp at h
  | top => simp at h
  | coe r => exact ⟨r, rfl⟩

section
variable {s : Shape} {axes : List (Fin s.rank)} (hb : S_.BroadcastsInDim s (![] : Fin 0 → Fin s.rank)) (hr : s.ReducesTo axes S_)
  (hu : 0 < S_.numel) (j : S_.Idx)

/-- An array of which every element's absolute value is below infinity holds real numbers. -/
theorem all_fin (x : FVec Ideal s .f32)
    (e : Host.reduce IntOp.andi (cmpf .olt (Host.absf x) (broadcastInDim s ![] hb (constant (F := Ideal) S_ .f32 0x7F800000#32)))
      (constantI S_ 1 1#1) hr hu j = 1#1) (i : s.Idx) : Fin' (x i) := by
  haveI := one_index
  have h := Host.reduce_andi_all _ _ hr hu j e i
  have h' : Ideal.cmp .olt (max (x i : EReal) (-(x i : EReal))) (Ideal.ofBits .f32 0x7F800000#32) = 1#1 := h
  rw [bits_top] at h'
  exact fin_of_abs ((Idealize.ShloMosaic.Ideal.cmp_olt_eq_one _ _).1 h')

/-- An array of words of which every one is at least `w`. -/
theorem all_ge (x : IVec s 32) (w : BitVec 32)
    (e : Host.reduce IntOp.andi (cmpi .sge x (broadcastInDim s ![] hb (constantI S_ 32 w))) (constantI S_ 1 1#1) hr hu j = 1#1)
    (i : s.Idx) : w.toInt ≤ (x i).toInt := by
  haveI := one_index
  have h : IntOp.cmpi .sge (x i) w = 1#1 := Host.reduce_andi_all _ _ hr hu j e i
  rw [WordCmp.cmpi_sge_eq] at h
  by_contra hn
  rw [decide_eq_false hn] at h
  exact absurd h (by decide)

/-- An array of words of which every one is at most `w`. -/
theorem all_le (x : IVec s 32) (w : BitVec 32)
    (e : Host.reduce IntOp.andi (cmpi .sle x (broadcastInDim s ![] hb (constantI S_ 32 w))) (constantI S_ 1 1#1) hr hu j = 1#1)
    (i : s.Idx) : (x i).toInt ≤ w.toInt := by
  haveI := one_index
  have h : IntOp.cmpi .sle (x i) w = 1#1 := Host.reduce_andi_all _ _ hr hu j e i
  rw [WordCmp.cmpi_sle_eq] at h
  by_contra hn
  rw [decide_eq_false hn] at h
  exact absurd h (by decide)
end

/-- What the precondition says: the nineteen arrays of numbers are real, and the two window arrays are in range. -/
structure Sound (x0 : FVec Ideal S2x2048x1024 .f32) (x1 : FVec Ideal S2x2048x1024 .f32) (x2 : FVec Ideal S2x2048x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024 .f32) (x14 : FVec Ideal S1024 .f32) (x15 : FVec Ideal S1024 .f32) (x16 : FVec Ideal S1024 .f32) (x17 : FVec Ideal S1024 .f32) (x18 : FVec Ideal S1024 .f32) (x19 : IVec S2x2048x1 32) (x20 : IVec S2x2048x1 32) : Prop where
  f0 : ∀ i, Fin' (x0 i)
  f1 : ∀ i, Fin' (x1 i)
  f2 : ∀ i, Fin' (x2 i)
  f3 : ∀ i, Fin' (x3 i)
  f4 : ∀ i, Fin' (x4 i)
  f5 : ∀ i, Fin' (x5 i)
  f6 : ∀ i, Fin' (x6 i)
  f7 : ∀ i, Fin' (x7 i)
  f8 : ∀ i, Fin' (x8 i)
  f9 : ∀ i, Fin' (x9 i)
  f10 : ∀ i, Fin' (x10 i)
  f11 : ∀ i, Fin' (x11 i)
  f12 : ∀ i, Fin' (x12 i)
  f13 : ∀ i, Fin' (x13 i)
  f14 : ∀ i, Fin' (x14 i)
  f15 : ∀ i, Fin' (x15 i)
  f16 : ∀ i, Fin' (x16 i)
  f17 : ∀ i, Fin' (x17 i)
  f18 : ∀ i, Fin' (x18 i)
  lw_ge : ∀ i, 2 ≤ (x19 i).toInt
  lw_le : ∀ i, (x19 i).toInt ≤ 256
  fw_ge : ∀ i, 1 ≤ (x20 i).toInt
  fw_le : ∀ i, (x20 i).toInt ≤ 64

/-- The precondition, read. -/
theorem sound [Cert.Pre_finite.Facts] (x0 : FVec Ideal S2x2048x1024 .f32) (x1 : FVec Ideal S2x2048x1024 .f32) (x2 : FVec Ideal S2x2048x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024 .f32) (x14 : FVec Ideal S1024 .f32) (x15 : FVec Ideal S1024 .f32) (x16 : FVec Ideal S1024 .f32) (x17 : FVec Ideal S1024 .f32) (x18 : FVec Ideal S1024 .f32) (x19 : IVec S2x2048x1 32) (x20 : IVec S2x2048x1 32) (x21 x22 : IVec S2x2048x1 32) (x23 : IVec S2x1x1 32)
    (h : Cert.Pre_finite.fn (F := Ideal) x0 x1 x2 x3 x4 x5 x6 x7 x8 x9 x10 x11 x12 x13 x14 x15 x16 x17 x18 x19 x20 x21 x22 x23 = fun _ => 1#1) : Sound x0 x1 x2 x3 x4 x5 x6 x7 x8 x9 x10 x11 x12 x13 x14 x15 x16 x17 x18 x19 x20 := by
  have h := congrFun h (fun k => k.elim0)
  have t := IntOp.andi_eq_one.1 (show IntOp.andi _ _ = 1#1 from h)
  clear h
  obtain ⟨h, e18⟩ := t
  replace e18 := fun i => all_fin _ _ _ _ _ e18 i
  have t := IntOp.andi_eq_one.1 (show IntOp.andi _ _ = 1#1 from h)
  clear h
  obtain ⟨h, e17⟩ := t
  replace e17 := fun i => all_fin _ _ _ _ _ e17 i
  have t := IntOp.andi_eq_one.1 (show IntOp.andi _ _ = 1#1 from h)
  clear h
  obtain ⟨h, e16⟩ := t
  replace e16 := fun i => all_fin _ _ _ _ _ e16 i
  have t := IntOp.andi_eq_one.1 (show IntOp.andi _ _ = 1#1 from h)
  clear h
  obtain ⟨h, e15⟩ := t
  replace e15 := fun i => all_fin _ _ _ _ _ e15 i
  have t := IntOp.andi_eq_one.1 (show IntOp.andi _ _ = 1#1 from h)
  clear h
  obtain ⟨h, e14⟩ := t
  replace e14 := fun i => all_fin _ _ _ _ _ e14 i
  have t := IntOp.andi_eq_one.1 (show IntOp.andi _ _ = 1#1 from h)
  clear h
  obtain ⟨h, e13⟩ := t
  replace e13 := fun i => all_fin _ _ _ _ _ e13 i
  have t := IntOp.andi_eq_one.1 (show IntOp.andi _ _ = 1#1 from h)
  clear h
  obtain ⟨h, e12⟩ := t
  replace e12 := fun i => all_fin _ _ _ _ _ e12 i
  have t := IntOp.andi_eq_one.1 (show IntOp.andi _ _ = 1#1 from h)
  clear h
  obtain ⟨h, e11⟩ := t
  replace e11 := fun i => all_fin _ _ _ _ _ e11 i
  have t := IntOp.andi_eq_one.1 (show IntOp.andi _ _ = 1#1 from h)
  clear h
  obtain ⟨h, e10⟩ := t
  replace e10 := fun i => all_fin _ _ _ _ _ e10 i
  have t := IntOp.andi_eq_one.1 (show IntOp.andi _ _ = 1#1 from h)
  clear h
  obtain ⟨h, e9⟩ := t
  replace e9 := fun i => all_fin _ _ _ _ _ e9 i
  have t := IntOp.andi_eq_one.1 (show IntOp.andi _ _ = 1#1 from h)
  clear h
  obtain ⟨h, e8⟩ := t
  replace e8 := fun i => all_fin _ _ _ _ _ e8 i
  have t := IntOp.andi_eq_one.1 (show IntOp.andi _ _ = 1#1 from h)
  clear h
  obtain ⟨h, e7⟩ := t
  replace e7 := fun i => all_fin _ _ _ _ _ e7 i
  have t := IntOp.andi_eq_one.1 (show IntOp.andi _ _ = 1#1 from h)
  clear h
  obtain ⟨h, e6⟩ := t
  replace e6 := fun i => all_fin _ _ _ _ _ e6 i
  have t := IntOp.andi_eq_one.1 (show IntOp.andi _ _ = 1#1 from h)
  clear h
  obtain ⟨h, e5⟩ := t
  replace e5 := fun i => all_fin _ _ _ _ _ e5 i
  have t := IntOp.andi_eq_one.1 (show IntOp.andi _ _ = 1#1 from h)
  clear h
  obtain ⟨h, e4⟩ := t
  replace e4 := fun i => all_fin _ _ _ _ _ e4 i
  have t := IntOp.andi_eq_one.1 (show IntOp.andi _ _ = 1#1 from h)
  clear h
  obtain ⟨h, e3⟩ := t
  replace e3 := fun i => all_fin _ _ _ _ _ e3 i
  have t := IntOp.andi_eq_one.1 (show IntOp.andi _ _ = 1#1 from h)
  clear h
  obtain ⟨h, e2⟩ := t
  replace e2 := fun i => all_fin _ _ _ _ _ e2 i
  have t := IntOp.andi_eq_one.1 (show IntOp.andi _ _ = 1#1 from h)
  clear h
  obtain ⟨h, e1⟩ := t
  replace e1 := fun i => all_fin _ _ _ _ _ e1 i
  have t := IntOp.andi_eq_one.1 (show IntOp.andi _ _ = 1#1 from h)
  clear h
  obtain ⟨h, e0⟩ := t
  replace e0 := fun i => all_fin _ _ _ _ _ e0 i
  have t := IntOp.andi_eq_one.1 (show IntOp.andi _ _ = 1#1 from h)
  clear h
  obtain ⟨h, u4⟩ := t
  replace u4 := fun i => all_le _ _ _ _ _ _ u4 i
  have t := IntOp.andi_eq_one.1 (show IntOp.andi _ _ = 1#1 from h)
  clear h
  obtain ⟨h, u3⟩ := t
  replace u3 := fun i => all_ge _ _ _ _ _ _ u3 i
  have t := IntOp.andi_eq_one.1 (show IntOp.andi _ _ = 1#1 from h)
  clear h
  obtain ⟨h, u2⟩ := t
  replace u2 := fun i => all_le _ _ _ _ _ _ u2 i
  have u1 := fun i => all_ge _ _ _ _ _ _ h i
  clear h
  exact ⟨e0, e1, e2, e3, e4, e5, e6, e7, e8, e9, e10, e11, e12, e13, e14, e15, e16, e17, e18, u1, u2, u3, u4⟩

end Cert.Attn.Pre

end
-- ==== Proof.Bridge.lean ====
/- The array the kernel's two calls leave is the reference program's result, on the stated precondition. -/
module

public import proofs.«01_k».proof.Proof.KRegion1
public import proofs.«01_k».proof.Proof.Mask
public import proofs.«01_k».proof.Proof.Pre
public import Idealize.ShloMosaic.Lib.Pointwise.IndexBridge

@[expose] public section

set_option maxRecDepth 16384

noncomputable section

namespace Cert.Attn

open Idealize.ShloMosaic hiding ix1 ix2 ix3
open Idealize.ShloMosaic.ValueIdx Cert.ReferenceIdeal.Read
open Cert.Attn.Ker (projArr gateArr bitArr outArr Act Sq Vec1 Down Along Word1 ctxK_congr)
open Cert.Attn.Ref

section
variable (X : A3) (g s c : Vec1) (W : A2) (g' s' c' : A1)

/-- A projected array, row by row. -/
theorem projArr_row (hg : ∀ k, g (ix2 0 k) = g' (ix1 k)) (hs : ∀ k, s (ix2 0 k) = s' (ix1 k)) (hc : ∀ k, c (ix2 0 k) = c' (ix1 k))
    (b : Fin 2) (i : Fin 2048) (e : Fin 1024) :
    projArr X g s c W (ix3 b i e) = lin (ln (r3 X b i) (r1 g') (r1 s')) (r2 W) (r1 c') e := by
  unfold projArr
  simp only [ix2_eq_valueIdx, ix3_eq_valueIdx]
  exact lin_congr (fun k => ln_congr (fun _ => rfl) hg hs k) (fun _ _ => rfl) hc e

/-- The gates, row by row. -/
theorem gateArr_row (hc : ∀ k, c (ix2 0 k) = c' (ix1 k)) (b : Fin 2) (i : Fin 2048) (e : Fin 1024) :
    gateArr X c W (ix3 b i e) = Ideal.logistic (lin (r3 X b i) (r2 W) (r1 c') e) := by
  unfold gateArr
  simp only [ix2_eq_valueIdx, ix3_eq_valueIdx]
  exact congrArg Ideal.logistic (lin_congr (fun _ => rfl) (fun _ _ => rfl) hc e)

/-- A projected row of real numbers is real. -/
theorem row_fin (hX : ∀ i, Fin' (X i)) (hg : ∀ i, Fin' (g' i)) (hs : ∀ i, Fin' (s' i)) (hW : ∀ i, Fin' (W i)) (hc : ∀ i, Fin' (c' i))
    (b : Fin 2) (i : Fin 2048) (e : Fin 1024) : Fin' (lin (ln (r3 X b i) (r1 g') (r1 s')) (r2 W) (r1 c') e) :=
  fin_lin (fin_ln (fun _ => hX _) (fun _ => hg _) (fun _ => hs _)) (fun _ _ => hW _) (fun _ => hc _) e
end

section
variable {x0 x1 x2 : A3} {x3 : A2} {x4 : A1} {x5 : A2} {x6 : A1} {x7 : A2} {x8 : A1} {x9 : A2} {x10 : A1} {x11 : A2}
  {x12 x13 x14 x15 x16 x17 x18 : A1} {x19 x20 x21 x22 : I3} {x23 : I1}
  (S : Pre.Sound x0 x1 x2 x3 x4 x5 x6 x7 x8 x9 x10 x11 x12 x13 x14 x15 x16 x17 x18 x19 x20)
include S

/-- The dot products are real. -/
theorem dots_fin (b : Fin 2) (h : Fin 16) (i j : Fin 2048) : Fin' (dots x0 x1 x3 x4 x5 x6 x13 x14 x15 x16 b h i j) :=
  fin_sum fun _ => fin_mul (row_fin x0 x3 x13 x14 x4 S.f0 S.f13 S.f14 S.f3 S.f4 b i _)
    (row_fin x1 x5 x15 x16 x6 S.f1 S.f15 S.f16 S.f5 S.f6 b j _)

/-- A query's own key is not masked. -/
theorem bit_diag (b : Fin 2) (i : Fin 2048) : bit x19 x20 x21 x22 x23 b i i = 1#1 := by
  rw [bit_apply]
  exact rbit_diag i.isLt (S.lw_ge _) _ _ _ _

/-- The kernel's mask bits, from the two ingredients laid along the sequence, are the reference's. -/
theorem bitArr_eq (kc gc : Along) (hkc : ∀ b j, kc (ix3 b 0 j) = x21 (ix3 b j 0)) (hgc : ∀ b j, gc (ix3 b 0 j) = x22 (ix3 b j 0))
    (b : Fin 2) (i j : Fin 2048) : bitArr x19 x20 x21 kc gc x23 b i j = bit x19 x20 x21 x22 x23 b i j := by
  unfold bitArr
  rw [bit_apply]
  simp only [ix3_eq_valueIdx]
  rw [hkc, hgc]
  exact kbit_eq_rbit i.isLt j.isLt (S.lw_ge _) (S.lw_le _) (S.fw_ge _) (S.fw_le _) _ _ _ _

/-- The two programs' results are the same array. -/
theorem outArr_eq (c4 c6 c8 c10 c12 c13 c14 c15 c16 c17 c18 : Vec1) (kc gc : Along)
    (h4 : ∀ k, c4 (ix2 0 k) = x4 (ix1 k))
    (h6 : ∀ k, c6 (ix2 0 k) = x6 (ix1 k))
    (h8 : ∀ k, c8 (ix2 0 k) = x8 (ix1 k))
    (h10 : ∀ k, c10 (ix2 0 k) = x10 (ix1 k))
    (h12 : ∀ k, c12 (ix2 0 k) = x12 (ix1 k))
    (h13 : ∀ k, c13 (ix2 0 k) = x13 (ix1 k))
    (h14 : ∀ k, c14 (ix2 0 k) = x14 (ix1 k))
    (h15 : ∀ k, c15 (ix2 0 k) = x15 (ix1 k))
    (h16 : ∀ k, c16 (ix2 0 k) = x16 (ix1 k))
    (h17 : ∀ k, c17 (ix2 0 k) = x17 (ix1 k))
    (h18 : ∀ k, c18 (ix2 0 k) = x18 (ix1 k))
    (hkc : ∀ b j, kc (ix3 b 0 j) = x21 (ix3 b j 0)) (hgc : ∀ b j, gc (ix3 b 0 j) = x22 (ix3 b j 0)) :
    outArr (projArr x0 c13 c14 c4 x3) (projArr x1 c15 c16 c6 x5) (projArr x2 c17 c18 c8 x7) (gateArr x0 c12 x11)
        (bitArr x19 x20 x21 kc gc x23) x9 c10
      = val_main_v173 x0 x1 x2 x3 x4 x5 x6 x7 x8 x9 x10 x11 x12 x13 x14 x15 x16 x17 x18 x19 x20 x21 x22 x23 := by
  funext y
  obtain ⟨b, i, o, rfl⟩ : ∃ b i o, y = ix3 b i o := ⟨y 0, y 1, y 2, ValueIdx.eq_ix3 y⟩
  rw [out_apply]
  unfold outArr
  simp only [ix2_eq_valueIdx, ix3_eq_valueIdx]
  refine lin_congr (fun e => congrArg₂ (· * ·) ?_ (gateArr_row x0 c12 x11 x12 h12 b i e)) (fun _ _ => rfl) h10 o
  refine (ctxK_congr (fun j => ?_) (bitArr_eq S kc gc hkc hgc b i) (fun j => projArr_row x2 c17 c18 c8 x7 x17 x18 x8 h17 h18 h8 b j e)).trans
    (ctx_eq (dots x0 x1 x3 x4 x5 x6 x13 x14 x15 x16 b (headOf e) i) (fun j => vRow x2 x7 x8 x17 x18 b j e) (bit x19 x20 x21 x22 x23 b i) _ (dots_fin S b _ i)
      (fun j => row_fin x2 x7 x17 x18 x8 S.f2 S.f17 S.f18 S.f7 S.f8 b j e)
      (rowMax_fin _ _ _ _ _ _ _ _ _ _ _ _ _ _ _ b (headOf e) i i (dots_fin S b _ i) (bit_diag S b i)) i (bit_diag S b i))
  exact Finset.sum_congr rfl fun d _ => congrArg₂ (· * ·) (projArr_row x0 c13 c14 c4 x3 x13 x14 x4 h13 h14 h4 b i _)
    (projArr_row x1 c15 c16 c6 x5 x15 x16 x6 h15 h16 h6 b j _)
end

end Cert.Attn

end
-- ==== Proof.KHost.lean ====
/- What the two calls find in the buffers the program's own reshapes and the first call write, and the program's result. -/
module

public import proofs.«01_k».proof.Proof.Bridge
public import proofs.«01_k».proof.Proof.Gen.KernelIdeal.Frame
public import Idealize.ShloMosaic.Lib.StableHlo.Run
public import Idealize.ShloMosaic.Lib.ValueLayout

@[expose] public section

set_option maxRecDepth 16384

noncomputable section

namespace Cert.Attn.Ker

open Idealize.ShloMosaic hiding ix1 ix2 ix3
open Idealize.ShloMosaic.TcCoe Idealize.ShloMosaic.ValueIdx Idealize.SL.Sem Cert.KernelIdeal Cert.KernelIdeal.Gen Cert.Attn

/-- A mask ingredient laid along the sequence. -/
theorem along_apply (x : Down) (h : S2x2048x1.ShapeCasts S2x1x2048) (b : Fin 2) (j : Fin 2048) :
    shapeCast S2x1x2048 x h (ix3 b 0 j) = x (ix3 b j 0) :=
  shapeCast_apply x h _ _ (by
    rw [Shape.rowMajor_val_three, Shape.rowMajor_val_three]
    show (b.val * 2048 + j.val) * 1 + 0 = (b.val * 1 + 0) * 2048 + j.val
    omega)

variable (m : (ℓ : Loc nD τ sig) → Buf (Elt Ideal) ℓ) (ρ : Dev nD → PrngReg) (c : Dev nD)

theorem entry_v2 (k : Fin 1024) : V1 m ρ c main_v2 (ix2 0 k) = m ((c : Thread nD τ).loc main_arg4) (ix1 k) := by
  show StableHlo.after hostOps0 (W0 m ρ c) (Proc.devRef .tc main_v2) _ = _
  after_results_simp
  exact shapeCast_a_1a_apply _ _ _ _

theorem entry_v3 (k : Fin 1024) : V1 m ρ c main_v3 (ix2 0 k) = m ((c : Thread nD τ).loc main_arg6) (ix1 k) := by
  show StableHlo.after hostOps0 (W0 m ρ c) (Proc.devRef .tc main_v3) _ = _
  after_results_simp
  exact shapeCast_a_1a_apply _ _ _ _

theorem entry_v4 (k : Fin 1024) : V1 m ρ c main_v4 (ix2 0 k) = m ((c : Thread nD τ).loc main_arg8) (ix1 k) := by
  show StableHlo.after hostOps0 (W0 m ρ c) (Proc.devRef .tc main_v4) _ = _
  after_results_simp
  exact shapeCast_a_1a_apply _ _ _ _

theorem entry_v5 (k : Fin 1024) : V1 m ρ c main_v5 (ix2 0 k) = m ((c : Thread nD τ).loc main_arg12) (ix1 k) := by
  show StableHlo.after hostOps0 (W0 m ρ c) (Proc.devRef .tc main_v5) _ = _
  after_results_simp
  exact shapeCast_a_1a_apply _ _ _ _

theorem entry_v6 (k : Fin 1024) : V1 m ρ c main_v6 (ix2 0 k) = m ((c : Thread nD τ).loc main_arg13) (ix1 k) := by
  show StableHlo.after hostOps0 (W0 m ρ c) (Proc.devRef .tc main_v6) _ = _
  after_results_simp
  exact shapeCast_a_1a_apply _ _ _ _

theorem entry_v7 (k : Fin 1024) : V1 m ρ c main_v7 (ix2 0 k) = m ((c : Thread nD τ).loc main_arg14) (ix1 k) := by
  show StableHlo.after hostOps0 (W0 m ρ c) (Proc.devRef .tc main_v7) _ = _
  after_results_simp
  exact shapeCast_a_1a_apply _ _ _ _

theorem entry_v8 (k : Fin 1024) : V1 m ρ c main_v8 (ix2 0 k) = m ((c : Thread nD τ).loc main_arg15) (ix1 k) := by
  show StableHlo.after hostOps0 (W0 m ρ c) (Proc.devRef .tc main_v8) _ = _
  after_results_simp
  exact shapeCast_a_1a_apply _ _ _ _

theorem entry_v9 (k : Fin 1024) : V1 m ρ c main_v9 (ix2 0 k) = m ((c : Thread nD τ).loc main_arg16) (ix1 k) := by
  show StableHlo.after hostOps0 (W0 m ρ c) (Proc.devRef .tc main_v9) _ = _
  after_results_simp
  exact shapeCast_a_1a_apply _ _ _ _

theorem entry_v10 (k : Fin 1024) : V1 m ρ c main_v10 (ix2 0 k) = m ((c : Thread nD τ).loc main_arg17) (ix1 k) := by
  show StableHlo.after hostOps0 (W0 m ρ c) (Proc.devRef .tc main_v10) _ = _
  after_results_simp
  exact shapeCast_a_1a_apply _ _ _ _

theorem entry_v11 (k : Fin 1024) : V1 m ρ c main_v11 (ix2 0 k) = m ((c : Thread nD τ).loc main_arg18) (ix1 k) := by
  show StableHlo.after hostOps0 (W0 m ρ c) (Proc.devRef .tc main_v11) _ = _
  after_results_simp
  exact shapeCast_a_1a_apply _ _ _ _

theorem entry_v0 (b : Fin 2) (j : Fin 2048) : V3 m ρ c main_v0 (ix3 b 0 j) = m ((c : Thread nD τ).loc main_arg21) (ix3 b j 0) := by
  have e : V3 m ρ c main_v0 = StableHlo.after hostOps0 (W0 m ρ c) (Proc.devRef .tc main_v0) :=
    (W3_of m ρ c main_v0 (by decide)).trans (W2_of_ne m ρ c main_v0 (by decide))
  rw [e]
  after_results_simp
  exact along_apply _ _ b j

theorem entry_v1 (b : Fin 2) (j : Fin 2048) : V3 m ρ c main_v1 (ix3 b 0 j) = m ((c : Thread nD τ).loc main_arg22) (ix3 b j 0) := by
  have e : V3 m ρ c main_v1 = StableHlo.after hostOps0 (W0 m ρ c) (Proc.devRef .tc main_v1) :=
    (W3_of m ρ c main_v1 (by decide)).trans (W2_of_ne m ρ c main_v1 (by decide))
  rw [e]
  after_results_simp
  exact along_apply _ _ b j

theorem entry_v13 (k : Fin 1024) : V3 m ρ c main_v13 (ix2 0 k) = m ((c : Thread nD τ).loc main_arg10) (ix1 k) := by
  show StableHlo.after hostOps1 (W2 m ρ c) (Proc.devRef .tc main_v13) _ = _
  after_results_simp
  rw [W2_args m ρ c main_arg10 (by decide)]
  exact shapeCast_a_1a_apply _ _ _ _

/-- An argument array, as the first call and as the second find it. -/
theorem entry1_arg (a : Ref sig .tc) (ha : a ∈ argRefs) : V1 m ρ c a = m ((c : Thread nD τ).loc a) := W1_args m ρ c a ha
theorem entry3_arg (a : Ref sig .tc) (ha : a ∈ argRefs) : V3 m ρ c a = m ((c : Thread nD τ).loc a) := W3_args m ρ c a ha

theorem projArr_congr {X X' : Act} {g s c : Vec1} {W W' : Sq} (hX : X = X') (hW : W = W') : projArr X g s c W = projArr X' g s c W' := by
  rw [hX, hW]
theorem gateArr_congr {X X' : Act} {c : Vec1} {W W' : Sq} (hX : X = X') (hW : W = W') : gateArr X c W = gateArr X' c W' := by
  rw [hX, hW]
theorem outArr_congr {q q' k k' v v' g g' : Act} {lw lw' fw fw' kr kr' : Down} {kc gc : Along} {p p' : Word1} {W W' : Sq} {s : Vec1}
    (hq : q = q') (hk : k = k') (hv : v = v') (hg : g = g') (hl : lw = lw') (hf : fw = fw') (hr : kr = kr') (hp : p = p') (hW : W = W') :
    outArr q k v g (bitArr lw fw kr kc gc p) W s = outArr q' k' v' g' (bitArr lw' fw' kr' kc gc p') W' s := by
  rw [hq, hk, hv, hg, hl, hf, hr, hp, hW]

/-- The four arrays the first call leaves, as the second call finds them. -/
theorem entry_q : V3 m ρ c main_v12_0 = projArr (m ((c : Thread nD τ).loc main_arg0)) (V1 m ρ c main_v6) (V1 m ρ c main_v7) (V1 m ρ c main_v2) (m ((c : Thread nD τ).loc main_arg3)) :=
  (W3_of m ρ c main_v12_0 (by decide)).trans ((W2_arr m ρ c 17).trans ((arr0_17 (V1 m ρ) c).trans
    (projArr_congr (entry1_arg m ρ c main_arg0 (by decide)) (entry1_arg m ρ c main_arg3 (by decide)))))
theorem entry_k : V3 m ρ c main_v12_1 = projArr (m ((c : Thread nD τ).loc main_arg1)) (V1 m ρ c main_v8) (V1 m ρ c main_v9) (V1 m ρ c main_v3) (m ((c : Thread nD τ).loc main_arg5)) :=
  (W3_of m ρ c main_v12_1 (by decide)).trans ((W2_arr m ρ c 18).trans ((arr0_18 (V1 m ρ) c).trans
    (projArr_congr (entry1_arg m ρ c main_arg1 (by decide)) (entry1_arg m ρ c main_arg5 (by decide)))))
theorem entry_v : V3 m ρ c main_v12_2 = projArr (m ((c : Thread nD τ).loc main_arg2)) (V1 m ρ c main_v10) (V1 m ρ c main_v11) (V1 m ρ c main_v4) (m ((c : Thread nD τ).loc main_arg7)) :=
  (W3_of m ρ c main_v12_2 (by decide)).trans ((W2_arr m ρ c 19).trans ((arr0_19 (V1 m ρ) c).trans
    (projArr_congr (entry1_arg m ρ c main_arg2 (by decide)) (entry1_arg m ρ c main_arg7 (by decide)))))
theorem entry_g : V3 m ρ c main_v12_3 = gateArr (m ((c : Thread nD τ).loc main_arg0)) (V1 m ρ c main_v5) (m ((c : Thread nD τ).loc main_arg11)) :=
  (W3_of m ρ c main_v12_3 (by decide)).trans ((W2_arr m ρ c 20).trans ((arr0_20 (V1 m ρ) c).trans
    (gateArr_congr (entry1_arg m ρ c main_arg0 (by decide)) (entry1_arg m ρ c main_arg11 (by decide)))))

/-- The program's result buffer holds the reference's result of the argument arrays, on the stated precondition. -/
theorem result_eq (S : Pre.Sound (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :
    W4 m ρ c (Proc.devRef .tc main_v14) = Cert.ReferenceIdeal.Read.val_main_v173 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W4_arr m ρ c 12).trans ((arr1_12 (V3 m ρ) c).trans ?_)
  refine (outArr_congr (entry_q m ρ c) (entry_k m ρ c) (entry_v m ρ c) (entry_g m ρ c) (entry3_arg m ρ c main_arg19 (by decide)) (entry3_arg m ρ c main_arg20 (by decide))
    (entry3_arg m ρ c main_arg21 (by decide)) (entry3_arg m ρ c main_arg23 (by decide)) (entry3_arg m ρ c main_arg9 (by decide))).trans ?_
  exact outArr_eq S _ _ _ _ _ _ _ _ _ _ _ _ _ (entry_v2 m ρ c) (entry_v3 m ρ c) (entry_v4 m ρ c) (entry_v13 m ρ c) (entry_v5 m ρ c) (entry_v6 m ρ c) (entry_v7 m ρ c) (entry_v8 m ρ c) (entry_v9 m ρ c) (entry_v10 m ρ c) (entry_v11 m ρ c)
    (entry_v0 m ρ c) (entry_v1 m ρ c)

end Cert.Attn.Ker

end
-- ==== Proof.StSpec.lean ====
/- The statistics of a series, column by column: eight numbers per row and the variance of the steps, written over the
   2048 entries of one feature, with the constants both programs use read as reals. -/
module

public import Idealize.ShloMosaic.PureOps.Ideal
public import Idealize.ShloMosaic.Lib.Pointwise

@[expose] public section

noncomputable section

namespace Cert.Stats

open Idealize.ShloMosaic

/-! ## Constants -/

theorem bits_0 : Ideal.ofBits .f32 0x00000000#32 = 0 := by
  simp [Ideal.ofBits, Ideal.ieee]

theorem bits_1 : Ideal.ofBits .f32 0x3F800000#32 = ((1 : ℝ) : EReal) := by
  simp [Ideal.ofBits, Ideal.ieee, -EReal.coe_mul, -EReal.coe_one]; norm_num

theorem bits_half : Ideal.ofBits .f32 0x3F000000#32 = ((1 / 2 : ℝ) : EReal) := by
  simp [Ideal.ofBits, Ideal.ieee, -EReal.coe_mul]; norm_num

theorem bits_quarter : Ideal.ofBits .f32 0x3E800000#32 = ((1 / 4 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem bits_3 : Ideal.ofBits .f32 0x40400000#32 = ((3 : ℝ) : EReal) := by
  simp [Ideal.ofBits, Ideal.ieee, -EReal.coe_mul]; norm_num

theorem bits_4 : Ideal.ofBits .f32 0x40800000#32 = ((4 : ℝ) : EReal) := by
  simp [Ideal.ofBits, Ideal.ieee, -EReal.coe_mul]; norm_num

theorem bits_5 : Ideal.ofBits .f32 0x40A00000#32 = ((5 : ℝ) : EReal) := by
  simp [Ideal.ofBits, Ideal.ieee, -EReal.coe_mul]; norm_num

theorem bits_2046 : Ideal.ofBits .f32 0x44FFC000#32 = ((2046 : ℝ) : EReal) := by
  simp [Ideal.ofBits, Ideal.ieee, -EReal.coe_mul]; norm_num

theorem bits_2047 : Ideal.ofBits .f32 0x44FFE000#32 = ((2047 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

theorem bits_inf : Ideal.ofBits .f32 0x7F800000#32 = ⊤ := by
  simp [Ideal.ofBits, Ideal.ieee]

/-! ## One feature's series and its statistics -/

/-- The 2048 values of one feature. -/
abbrev Col := Fin 2048 → EReal

/-- The absolute value. -/
def mag (z : EReal) : EReal := max z (-z)

theorem absf_eq (z : EReal) : FloatOps.absf (F := Ideal) (φ := .f32) z = mag z := rfl

/-- The row numbered `n`, the last one if there is none. -/
def row (n : Nat) : Fin 2048 := ⟨min n 2047, by omega⟩

/-- The change over `s` rows, divided by `q`: it exists on the first `n = 2048 - s` rows. -/
def change (s n : Nat) (hn : s + n = 2048) (q : ℝ) (x : Col) (r : Fin 2048) : EReal :=
  if h : r.val < n then Ideal.div (mag (x ⟨s + r.val, by omega⟩ - x r)) (q : EReal) else 0

/-- The mean of the series. -/
def meanCol (x : Col) : EReal := Ideal.div (∑ r, x r) ((2048 : ℝ) : EReal)

/-- The next row's distance from the mean. -/
def trend (x : Col) (r : Fin 2048) : EReal :=
  if h : r.val < 2047 then mag (x ⟨1 + r.val, by omega⟩ - meanCol x) else 0

/-- The mean of five values. -/
def mean5 (w : Fin 5 → EReal) : EReal := Ideal.div (∑ d, w d) ((5 : ℝ) : EReal)

/-- The sample variance of five values. -/
def var5 (w : Fin 5 → EReal) : EReal :=
  Ideal.div (∑ d, (w d - mean5 w) * (w d - mean5 w)) ((4 : ℝ) : EReal)

/-- The five values around row `r`, the ends repeated. -/
def win (x : Col) (r : Fin 2048) (d : Fin 5) : EReal := x (row (r.val + d.val - 2))

theorem win_mid (x : Col) (r : Fin 2048) : win x r 2 = x r :=
  congrArg x (Fin.ext (show min (r.val + 2 - 2) 2047 = r.val by omega))

/-- The steps from one row to the next. -/
def step (x : Col) (i : Fin 2047) : EReal := x ⟨1 + i.val, by omega⟩ - x ⟨i.val, by omega⟩

/-- The mean step. -/
def meanStep (x : Col) : EReal := Ideal.div (∑ i, step x i) ((2047 : ℝ) : EReal)

/-- The sum of the squared distances of the steps from their mean. -/
def sqStep (x : Col) : EReal := ∑ i, (step x i - meanStep x) * (step x i - meanStep x)

/-- The `j`-th of the eight numbers of row `r`. -/
def column (j : Fin 8) (x : Col) (r : Fin 2048) : EReal :=
  match j with
  | 0 => change 1 2047 rfl 1 x r
  | 1 => change 2 2046 rfl 2 x r
  | 2 => change 3 2045 rfl 3 x r
  | 3 => change 4 2044 rfl 4 x r
  | 4 => change 5 2043 rfl 5 x r
  | 5 => trend x r
  | 6 => x r * x r
  | 7 => var5 (win x r)

/-- A guarded term summed is the sum of the terms under the guard. -/
theorem sum_change {ι : Type*} [Fintype ι] (s n : Nat) (hn : s + n = 2048) (q : ℝ) (hq : q ≠ 0) (x : ι → Col)
    (r : Fin 2048) :
    ∑ k, change s n hn q (x k) r
      = if h : r.val < n then ∑ k, mag (x k ⟨s + r.val, by omega⟩ - x k r) * ((1 / q : ℝ) : EReal) else 0 := by
  unfold change
  split
  · exact Finset.sum_congr rfl fun k _ => Ideal.div_coe hq _
  · exact Finset.sum_const_zero

theorem sum_trend {ι : Type*} [Fintype ι] (x : ι → Col) (r : Fin 2048) :
    ∑ k, trend (x k) r
      = if h : r.val < 2047 then ∑ k, mag (x k ⟨1 + r.val, by omega⟩ - meanCol (x k)) else 0 := by
  unfold trend
  split
  · rfl
  · exact Finset.sum_const_zero

/-- Dividing a sum of terms by 2046 is summing the divided terms. -/
theorem sum_div_2046 {ι : Type*} [Fintype ι] (f : ι → EReal) :
    Ideal.div (∑ k, f k) ((2046 : ℝ) : EReal) = ∑ k, Ideal.div (f k) ((2046 : ℝ) : EReal) := by
  have hd : ∀ z : EReal, Ideal.div z ((2046 : ℝ) : EReal) = ((1 / 2046 : ℝ) : EReal) * z := fun z => by
    rw [Ideal.div_coe (by norm_num), mul_comm]
  simp only [hd]
  classical
  induction (Finset.univ : Finset ι) using Finset.induction_on with
  | empty => simp
  | insert a t ha ih =>
      rw [Finset.sum_insert ha, Finset.sum_insert ha, ← ih,
        EReal.left_distrib_of_nonneg_of_ne_top (by norm_cast; norm_num) (EReal.coe_ne_top _)]

end Cert.Stats

end
-- ==== Proof.StK.lean ====
/- What one grid point of the statistics call adds: the eight row numbers and the variance term of its 128 features. -/
module

public import proofs.«01_k».proof.Proof.StSpec
public import proofs.«01_k».proof.Proof.Gen.StatsIdeal.Skeleton
public import Idealize.ShloMosaic.Lib.Pointwise

@[expose] public section

set_option maxRecDepth 16384

noncomputable section

namespace Cert.Stats.Ker

open Idealize.ShloMosaic Cert.StatsIdeal Cert.StatsIdeal.Gen

theorem third_eq : Named.named (F := Ideal) κ "third" (φ := .f32) 0x3EAAAAAB#32 = ((1 / 3 : ℝ) : EReal) := by
  rw [one_div]; rfl

theorem fifth_eq : Named.named (F := Ideal) κ "fifth" (φ := .f32) 0x3E4CCCCD#32 = ((1 / 5 : ℝ) : EReal) := by
  rw [one_div]; rfl

/-- A block's feature `k` as a series. -/
abbrev colOf (v : Vec Ideal S1x2048x128 .f32) (k : Fin 128) : Col := fun r => v (ix3 0 r k)

theorem change1 (v : Vec Ideal S1x2048x128 .f32) (r : Fin 2048) (u : Fin 1) :
    k0_pay8 v (ix2 r u) = ∑ k, change 1 2047 rfl 1 (colOf v k) r := by
  rw [sum_change _ _ _ _ (by norm_num)]
  pointwise [k0_pay8, k0_pay7, absf_eq]
  simp

theorem change2 (v : Vec Ideal S1x2048x128 .f32) (r : Fin 2048) (u : Fin 1) :
    k0_pay9 v (ix2 r u) = ∑ k, change 2 2046 rfl 2 (colOf v k) r := by
  rw [sum_change _ _ _ _ (by norm_num)]
  pointwise [k0_pay9, k0_pay7, absf_eq, bits_half]

theorem change3 (v : Vec Ideal S1x2048x128 .f32) (r : Fin 2048) (u : Fin 1) :
    k0_pay10 v (ix2 r u) = ∑ k, change 3 2045 rfl 3 (colOf v k) r := by
  rw [sum_change _ _ _ _ (by norm_num)]
  pointwise [k0_pay10, k0_pay7, absf_eq, third_eq]

theorem change4 (v : Vec Ideal S1x2048x128 .f32) (r : Fin 2048) (u : Fin 1) :
    k0_pay11 v (ix2 r u) = ∑ k, change 4 2044 rfl 4 (colOf v k) r := by
  rw [sum_change _ _ _ _ (by norm_num)]
  pointwise [k0_pay11, k0_pay7, absf_eq, bits_quarter]

theorem change5 (v : Vec Ideal S1x2048x128 .f32) (r : Fin 2048) (u : Fin 1) :
    k0_pay13 (k0_pay7 v) (k0_pay12 v) (ix2 r u) = ∑ k, change 5 2043 rfl 5 (colOf v k) r := by
  rw [sum_change _ _ _ _ (by norm_num)]
  pointwise [k0_pay13, k0_pay12, k0_pay7, absf_eq, fifth_eq]

theorem trend_eq (v : Vec Ideal S1x2048x128 .f32) (r : Fin 2048) (u : Fin 1) :
    k0_pay14 (k0_pay7 v) (ix2 r u) = ∑ k, trend (colOf v k) r := by
  rw [sum_trend]
  pointwise [k0_pay14, k0_pay7, absf_eq, meanCol, bits_2048]

theorem square_eq (v : Vec Ideal S1x2048x128 .f32) (r : Fin 2048) (u : Fin 1) :
    k0_pay15 (k0_pay7 v) (ix2 r u) = ∑ k, colOf v k r * colOf v k r := by
  pointwise [k0_pay15, k0_pay7]

theorem blk_eq (v : Vec Ideal S1x2048x128 .f32) (r : Fin 2048) (k : Fin 128) :
    k0_pay7 v (ix2 r k) = colOf v k r := by
  pointwise [k0_pay7]

theorem shift0 (v : FVec Ideal S2048x128 .f32) (r : Fin 2048) (k : Fin 128) :
    k0_pay18 v (ix2 r k) = v (ix2 (row (r.val + 0 - 2)) k) := by
  pointwise [k0_pay18, k0_pay16]
  repeat' split
  all_goals refine congrArg (fun a => v (ix2 a k)) (Fin.ext ?_); simp only [row]; omega

theorem shift1 (v : FVec Ideal S2048x128 .f32) (r : Fin 2048) (k : Fin 128) :
    k0_pay19 v (ix2 r k) = v (ix2 (row (r.val + 1 - 2)) k) := by
  pointwise [k0_pay19, k0_pay16]
  repeat' split
  all_goals refine congrArg (fun a => v (ix2 a k)) (Fin.ext ?_); simp only [row]; omega

theorem shift3 (v : FVec Ideal S2048x128 .f32) (r : Fin 2048) (k : Fin 128) :
    k0_pay20 v (ix2 r k) = v (ix2 (row (r.val + 3 - 2)) k) := by
  pointwise [k0_pay20, k0_pay17]
  repeat' split
  all_goals refine congrArg (fun a => v (ix2 a k)) (Fin.ext ?_); simp only [row]; omega

theorem shift4 (v : FVec Ideal S2048x128 .f32) (r : Fin 2048) (k : Fin 128) :
    k0_pay21 v (ix2 r k) = v (ix2 (row (r.val + 4 - 2)) k) := by
  pointwise [k0_pay21, k0_pay17]
  repeat' split
  all_goals refine congrArg (fun a => v (ix2 a k)) (Fin.ext ?_); simp only [row]; omega

theorem freq_eq (v : Vec Ideal S1x2048x128 .f32) (u w : Fin 1) :
    k0_pay2 (k0_pay7 v) (ix2 u w) = Ideal.div (∑ k, sqStep (colOf v k)) ((2046 : ℝ) : EReal) := by
  pointwise [k0_pay2, k0_pay7, sqStep, step, meanStep, bits_2046, bits_2047]
  exact congrArg (fun z => Ideal.div z ((2046 : ℝ) : EReal)) Finset.sum_comm

/-- The eight numbers of every row, summed over a block's features. -/
def partOf (v : Vec Ideal S1x2048x128 .f32) : FVec Ideal S2048x8 .f32 :=
  k0_pay1 (k0_pay8 v) (k0_pay9 v) (k0_pay10 v) (k0_pay11 v) (k0_pay13 (k0_pay7 v) (k0_pay12 v)) (k0_pay14 (k0_pay7 v))
    (k0_pay15 (k0_pay7 v)) (k0_pay21 (k0_pay7 v)) (k0_pay22 (k0_pay7 v)) (k0_pay23 (k0_pay7 v))

theorem mean_eq (v : Vec Ideal S1x2048x128 .f32) (r : Fin 2048) (k : Fin 128) :
    k0_pay22 (k0_pay7 v) (ix2 r k) = mean5 (win (colOf v k) r) := by
  rw [mean5, Ideal.div_coe (by norm_num), Fin.sum_univ_five]
  pointwise [k0_pay22, fifth_eq, shift0, shift1, shift3, shift4, blk_eq]
  rw [win_mid]; rfl

theorem var_eq (v : Vec Ideal S1x2048x128 .f32) (r : Fin 2048) (u : Fin 1) :
    ∀ a b c d e f g, k0_pay1 a b c d e f g (k0_pay21 (k0_pay7 v)) (k0_pay22 (k0_pay7 v)) (k0_pay23 (k0_pay7 v)) (ix2 r 7)
      = ∑ k, var5 (win (colOf v k) r) := by
  intro a b c d e f g
  pointwise [k0_pay1, k0_pay23, mean_eq, bits_quarter, shift0, shift1, shift3, shift4, blk_eq]
  refine Finset.sum_congr rfl fun k _ => ?_
  rw [var5, Ideal.div_coe (by norm_num), Fin.sum_univ_five, win_mid]
  rfl

theorem part_eq (v : Vec Ideal S1x2048x128 .f32) (r : Fin 2048) (j : Fin 8) :
    partOf v (ix2 r j) = ∑ k, column j (colOf v k) r := by
  match j with
  | 0 => refine Eq.trans ?_ (change1 v r 0); pointwise [partOf, k0_pay1]
  | 1 => refine Eq.trans ?_ (change2 v r 0); pointwise [partOf, k0_pay1]
  | 2 => refine Eq.trans ?_ (change3 v r 0); pointwise [partOf, k0_pay1]
  | 3 => refine Eq.trans ?_ (change4 v r 0); pointwise [partOf, k0_pay1]
  | 4 => refine Eq.trans ?_ (change5 v r 0); pointwise [partOf, k0_pay1]
  | 5 => refine Eq.trans ?_ (trend_eq v r 0); pointwise [partOf, k0_pay1]
  | 6 => refine Eq.trans ?_ (square_eq v r 0); pointwise [partOf, k0_pay1]
  | 7 => exact var_eq v r 0 _ _ _ _ _ _ _

/-! ## The stores -/

theorem store_first (v : Vec Ideal S1x2048x128 .f32) (u : Fin 1) (r : Fin 2048) (j : Fin 8) :
    k0_pay3 (k0_pay8 v) (k0_pay9 v) (k0_pay10 v) (k0_pay11 v) (k0_pay13 (k0_pay7 v) (k0_pay12 v)) (k0_pay14 (k0_pay7 v))
      (k0_pay15 (k0_pay7 v)) (k0_pay21 (k0_pay7 v)) (k0_pay22 (k0_pay7 v)) (k0_pay23 (k0_pay7 v)) (ix3 u r j)
      = ∑ k, column j (colOf v k) r := by
  rw [← part_eq]
  unfold k0_pay3
  rw [← partOf]
  generalize partOf v = p
  pointwise

theorem store_later (v : Vec Ideal S1x2048x128 .f32) (o : Vec Ideal S1x2048x8 .f32) (u : Fin 1) (r : Fin 2048)
    (j : Fin 8) :
    k0_pay5 (k0_pay8 v) (k0_pay9 v) (k0_pay10 v) (k0_pay11 v) (k0_pay13 (k0_pay7 v) (k0_pay12 v)) (k0_pay14 (k0_pay7 v))
      (k0_pay15 (k0_pay7 v)) (k0_pay21 (k0_pay7 v)) (k0_pay22 (k0_pay7 v)) (k0_pay23 (k0_pay7 v)) o (ix3 u r j)
      = o (ix3 u r j) + ∑ k, column j (colOf v k) r := by
  obtain rfl := Subsingleton.elim u 0
  rw [← part_eq]
  unfold k0_pay5
  rw [← partOf]
  generalize partOf v = p
  pointwise

theorem freq_first (v : Vec Ideal S1x2048x128 .f32) (a b c : Fin 1) :
    k0_pay4 (k0_pay7 v) (ix3 a b c) = ∑ k, Ideal.div (sqStep (colOf v k)) ((2046 : ℝ) : EReal) := by
  rw [← sum_div_2046, ← freq_eq v 0 0]
  unfold k0_pay4
  generalize k0_pay2 (k0_pay7 v) = p
  pointwise

theorem freq_later (v : Vec Ideal S1x2048x128 .f32) (o : Vec Ideal S1x1x1 .f32) (a b c : Fin 1) :
    k0_pay6 (k0_pay7 v) o (ix3 a b c)
      = o (ix3 a b c) + ∑ k, Ideal.div (sqStep (colOf v k)) ((2046 : ℝ) : EReal) := by
  obtain rfl := Subsingleton.elim a 0
  obtain rfl := Subsingleton.elim b 0
  obtain rfl := Subsingleton.elim c 0
  rw [← sum_div_2046, ← freq_eq v 0 0]
  unfold k0_pay6
  generalize k0_pay2 (k0_pay7 v) = p
  pointwise

end Cert.Stats.Ker

end
-- ==== Proof.StAcc.lean ====
/- The statistics call's two results: the row numbers and the variance term, each summed over the 8 chunks of features
   a batch's grid points visit, hence over all 1024 features. -/
module

public import proofs.«01_k».proof.Proof.StK
public import proofs.«01_k».proof.Proof.Gen.StatsIdeal.Value
public import Idealize.ShloMosaic.Lib.Pipeline.ValueKit.Acc

@[expose] public section

set_option maxRecDepth 16384

noncomputable section

namespace Cert.Stats.Ker

open Idealize.ShloMosaic Idealize.ShloMosaic.TcCoe Idealize.SL.Sem Cert.StatsIdeal Cert.StatsIdeal.Gen
open Idealize.ShloMosaic.Pipeline (Dat)

variable (m : (ℓ : Loc nD τ sig) → Buf (Elt Ideal) ℓ) (c : Dev nD)

/-- The series of feature `e` of batch `b`. -/
abbrev series (X : S2x2048x1024.Idx → EReal) (b : Fin 2) (e : Fin 1024) : Col := fun r => X (ix3 b r e)

/-- The batch of a grid point. -/
def bat (t : Fin cfg0.N) : Fin 2 := grid0.coords t 0

theorem inMap : ∀ t : Fin grid0.N, win0_0.index t 0 = (grid0.coords t 0).val ∧ win0_0.index t 1 = 0
    ∧ win0_0.index t 2 = t.val % 8 ∧ (grid0.coords t 0).val = t.val / 8 := by decide +kernel
theorem outMap1 : ∀ t : Fin grid0.N, win0_1.index t 0 = (grid0.coords t 0).val ∧ win0_1.index t 1 = 0
    ∧ win0_1.index t 2 = 0 := by decide +kernel
theorem outMap2 : ∀ t : Fin grid0.N, win0_2.index t 0 = (grid0.coords t 0).val ∧ win0_2.index t 1 = 0
    ∧ win0_2.index t 2 = 0 := by decide +kernel

theorem in_emb (t : Fin cfg0.N) (r : Fin 2048) (k : Fin 128) (h : t.val % 8 * 128 + k.val < 1024) :
    (win0_0.rect t).emb (ix3 0 r k) = ix3 (bat t) r ⟨t.val % 8 * 128 + k.val, h⟩ := by
  obtain ⟨h0, h1, h2, _⟩ := inMap t
  refine (eq_ix3 _).trans (congr (congrArg₂ ix3 (Fin.ext ?_) (Fin.ext ?_)) (Fin.ext ?_))
  · show win0_0.index t 0 * 1 + 1 * 0 = (grid0.coords t 0).val
    omega
  · show win0_0.index t 1 * 2048 + 1 * r.val = r.val
    omega
  · show win0_0.index t 2 * 128 + 1 * k.val = t.val % 8 * 128 + k.val
    omega

theorem out_emb1 (t : Fin cfg0.N) (r : Fin 2048) (j : Fin 8) : (win0_1.rect t).emb (ix3 0 r j) = ix3 (bat t) r j := by
  obtain ⟨h0, h1, h2⟩ := outMap1 t
  refine (eq_ix3 _).trans (congr (congrArg₂ ix3 (Fin.ext ?_) (Fin.ext ?_)) (Fin.ext ?_))
  · show win0_1.index t 0 * 1 + 1 * 0 = (grid0.coords t 0).val
    omega
  · show win0_1.index t 1 * 2048 + 1 * r.val = r.val
    omega
  · show win0_1.index t 2 * 8 + 1 * j.val = j.val
    omega

theorem out_emb2 (t : Fin cfg0.N) : (win0_2.rect t).emb (ix3 0 0 0) = ix3 (bat t) 0 0 := by
  obtain ⟨h0, h1, h2⟩ := outMap2 t
  refine (eq_ix3 _).trans (congr (congrArg₂ ix3 (Fin.ext ?_) (Fin.ext ?_)) (Fin.ext ?_))
  · show win0_2.index t 0 * 1 + 1 * 0 = (grid0.coords t 0).val
    omega
  · show win0_2.index t 1 * 1 + 1 * 0 = 0
    omega
  · show win0_2.index t 2 * 1 + 1 * 0 = 0
    omega

/-- A block's feature is a feature of the argument. -/
theorem colOf_blk (t : Fin cfg0.N) (k : Fin 128) (h : t.val % 8 * 128 + k.val < 1024) :
    colOf (iblk m c 0 t) k = series (V m c main_arg0) (bat t) ⟨t.val % 8 * 128 + k.val, h⟩ :=
  funext fun r => congrArg (V m c main_arg0) (in_emb t r k h)

/-- What the first chunk of a batch leaves. -/
theorem first (t : Fin cfg0.N) (h : t.val % 8 = 0) (r : Fin 2048) (j : Fin 8) :
    (outsAt0 m c t.val t.isLt).1 (ix3 0 r j) = ∑ k, column j (colOf (iblk m c 0 t) k) r
    ∧ (outsAt0 m c t.val t.isLt).2 (ix3 0 0 0) = ∑ k, Ideal.div (sqStep (colOf (iblk m c 0 t) k)) ((2046 : ℝ) : EReal) := by
  constructor
  · rw [outsAt0_A m c t h (by omega)]
    frame_out
    exact store_first _ 0 r j
  · rw [outsAt0_A m c t h (by omega)]
    frame_out
    exact freq_first _ 0 0 0

/-- What a later chunk adds. -/
theorem later (t : Fin cfg0.N) (h : ¬t.val % 8 = 0) (r : Fin 2048) (j : Fin 8) :
    (outsAt0 m c t.val t.isLt).1 (ix3 0 r j)
      = (outsAt0 m c (t.val - 1) (Nat.lt_of_le_of_lt (Nat.sub_le _ _) t.isLt)).1 (ix3 0 r j)
        + ∑ k, column j (colOf (iblk m c 0 t) k) r
    ∧ (outsAt0 m c t.val t.isLt).2 (ix3 0 0 0)
      = (outsAt0 m c (t.val - 1) (Nat.lt_of_le_of_lt (Nat.sub_le _ _) t.isLt)).2 (ix3 0 0 0)
        + ∑ k, Ideal.div (sqStep (colOf (iblk m c 0 t) k)) ((2046 : ℝ) : EReal) := by
  constructor
  · rw [outsAt0_B m c t h (by omega)]
    frame_out
    exact store_later _ _ 0 r j
  · rw [outsAt0_B m c t h (by omega)]
    frame_out
    exact freq_later _ _ 0 0 0

/-- The row numbers of the whole argument. -/
def statsArr (X : S2x2048x1024.Idx → EReal) : S2x2048x8.Idx → EReal := fun y =>
  ∑ e, column (y 2) (series X (y 0) e) (y 1)

/-- The variance term of the whole argument. -/
def freqArr (X : S2x2048x1024.Idx → EReal) : S2x1x1.Idx → EReal := fun y =>
  ∑ e, Ideal.div (sqStep (series X (y 0) e)) ((2046 : ℝ) : EReal)

/-- The chunks of one batch together are all its features. -/
theorem chunks (f : Col → EReal) (t : Fin cfg0.N) (h : t.val % 8 = 8 - 1)
    (hl : ∀ s : Fin 8, 8 * (t.val / 8) + s.val < cfg0.N) :
    ∑ s : Fin 8, ∑ k : Fin 128, f (colOf (iblk m c 0 ⟨8 * (t.val / 8) + s.val, hl s⟩) k)
      = ∑ e, f (series (V m c main_arg0) (bat t) e) := by
  refine Fin.sum_mul_add_congr (fun s k hk => ?_) rfl
  have hm : (8 * (t.val / 8) + s.val) % 8 = s.val := by omega
  rw [colOf_blk m c ⟨8 * (t.val / 8) + s.val, hl s⟩ k (by show (8 * (t.val / 8) + s.val) % 8 * 128 + k.val < 1024; omega)]
  refine congrArg f (congrArg₂ (series (V m c main_arg0)) (Fin.ext ?_) (Fin.ext ?_))
  · show (grid0.coords ⟨8 * (t.val / 8) + s.val, hl s⟩ 0).val = (grid0.coords t 0).val
    have h1 := (inMap ⟨8 * (t.val / 8) + s.val, hl s⟩).2.2.2
    have h2 := (inMap t).2.2.2
    rw [h1, h2]
    show (8 * (t.val / 8) + s.val) / 8 = t.val / 8
    omega
  · show (8 * (t.val / 8) + s.val) % 8 * 128 + k.val = s.val * 128 + k.val
    rw [hm]

theorem last1 (t : Fin cfg0.N) (h : t.val % 8 = 8 - 1) (r : Fin 2048) (j : Fin 8) :
    (outsAt0 m c t.val t.isLt).1 (ix3 0 r j) = ∑ e, column j (series (V m c main_arg0) (bat t) e) r := by
  rw [Pipeline.eq_sum_fin_of_reset_step_apply_of_flush (fun n h (i : Fin 2048 × Fin 8) => (outsAt0 m c n h).1 (ix3 0 i.1 i.2)) 8
    (fun _ => 0) (fun t i => ∑ k, column i.2 (colOf (iblk m c 0 t) k) i.1)
    (fun t h i => ((first m c t h i.1 i.2).1).trans (zero_add _).symm) (fun t h i => (later m c t h i.1 i.2).1) t h (r, j),
    zero_add]
  exact chunks m c (fun x => column j x r) t h _

theorem last2 (t : Fin cfg0.N) (h : t.val % 8 = 8 - 1) :
    (outsAt0 m c t.val t.isLt).2 (ix3 0 0 0)
      = ∑ e, Ideal.div (sqStep (series (V m c main_arg0) (bat t) e)) ((2046 : ℝ) : EReal) := by
  rw [Pipeline.eq_sum_fin_of_reset_step_apply_of_flush (fun n h (_ : Unit) => (outsAt0 m c n h).2 (ix3 0 0 0)) 8
    (fun _ => 0) (fun t _ => ∑ k, Ideal.div (sqStep (colOf (iblk m c 0 t) k)) ((2046 : ℝ) : EReal))
    (fun t h _ => ((first m c t h 0 0).2).trans (zero_add _).symm) (fun t h _ => (later m c t h 0 0).2) t h (),
    zero_add]
  exact chunks m c (fun x => Ideal.div (sqStep x) ((2046 : ℝ) : EReal)) t h _

theorem last_of : ∀ b : Fin 2, ∃ t : Fin grid0.N, t.val % 8 = 7 ∧ (grid0.coords t 0).val = b.val := by
  decide +kernel

theorem cover1 (i : S2x2048x8.Idx) : ∃ t : Fin cfg0.N, t.val % 8 = 7 ∧ i ∈ (win0_1.rect t).set := by
  obtain ⟨t, h7, hb⟩ := last_of (i 0)
  refine ⟨t, h7, ?_⟩
  have h := out_emb1 t (i 1) (i 2)
  rw [show bat t = i 0 from Fin.ext hb, ← eq_ix3 i] at h
  rw [← h]
  exact (win0_1.rect t).idx_mem _

theorem cover2 (i : S2x1x1.Idx) : ∃ t : Fin cfg0.N, t.val % 8 = 7 ∧ i ∈ (win0_2.rect t).set := by
  obtain ⟨b, u, w, rfl⟩ : ∃ b u w, i = ix3 b u w := ⟨_, _, _, eq_ix3 i⟩
  obtain rfl : u = 0 := Subsingleton.elim _ _
  obtain rfl : w = 0 := Subsingleton.elim _ _
  obtain ⟨t, h7, hb⟩ := last_of b
  refine ⟨t, h7, ?_⟩
  have h := out_emb2 t
  rw [show bat t = b from Fin.ext hb] at h
  rw [← h]
  exact (win0_2.rect t).idx_mem _

/-- The row numbers' array after the call. -/
theorem arr1 : (dats m 0 c).arrAt 1 cfg0.N = statsArr (V m c main_arg0) := by
  refine (dats m 0 c).arrAt_eq_of_cover 1 (statsArr _) (fun t hf => ?_) (fun i => ?_)
  · show (cfg0.win 1).cut (grid0.coords t) ((dats m 0 c).after 1 t) = _
    rw [after0_1]
    refine funext fun y => ?_
    obtain ⟨u, r, e, rfl⟩ : ∃ u r e, y = ix3 u r e := ⟨_, _, _, eq_ix3 y⟩
    obtain rfl : u = 0 := Subsingleton.elim _ _
    exact (last1 m c t ((flush0_1 t).mp hf) r e).trans (congrArg (statsArr _) (out_emb1 t r e)).symm
  · obtain ⟨t, h7, h⟩ := cover1 i
    refine ⟨t, (flush0_1 t).mpr h7, ?_⟩
    show i ∈ ((View.whole main_v0_0).slice (win0_1.rect t)).set
    rw [View.set_slice_whole]
    exact h

/-- The variance term's array after the call. -/
theorem arr2 : (dats m 0 c).arrAt 2 cfg0.N = freqArr (V m c main_arg0) := by
  refine (dats m 0 c).arrAt_eq_of_cover 2 (freqArr _) (fun t hf => ?_) (fun i => ?_)
  · show (cfg0.win 2).cut (grid0.coords t) ((dats m 0 c).after 2 t) = _
    rw [after0_2]
    refine funext fun y => ?_
    obtain ⟨u, r, e, rfl⟩ : ∃ u r e, y = ix3 u r e := ⟨_, _, _, eq_ix3 y⟩
    obtain rfl : u = 0 := Subsingleton.elim _ _
    obtain rfl : r = 0 := Subsingleton.elim _ _
    obtain rfl : e = 0 := Subsingleton.elim _ _
    exact (last2 m c t ((flush0_2 t).mp hf)).trans (congrArg (freqArr _) (out_emb2 t)).symm
  · obtain ⟨t, h7, h⟩ := cover2 i
    refine ⟨t, (flush0_2 t).mpr h7, ?_⟩
    show i ∈ ((View.whole main_v0_1).slice (win0_2.rect t)).set
    rw [View.set_slice_whole]
    exact h

end Cert.Stats.Ker

end
-- ==== Proof.StRun.lean ====
/- The run of the plain reference for the statistics call: its host operations as one list, and the two results
   as composed terms of the argument. -/
module

public import proofs.«01_k».proof.Proof.Gen.StatsReferenceIdeal
public import proofs.«01_k».proof.Proof.Gen.ReferenceIdeal.Run
public import Idealize.ShloMosaic.Lib.StableHlo.Run

@[expose] public section

noncomputable section

namespace Cert.StRun

open Cert.StatsReferenceIdeal Cert.StatsReferenceIdeal.Gen Idealize.ShloMosaic Idealize.ShloMosaic.TcCoe Idealize.SL.Sem Idealize.ShloMosaic.StableHlo

variable {F : FTy → Type} [FloatOps F]

/-- The function of the operation that writes `main_v59`, named. It packs its operands into a list of dependent pairs
    whose shapes a later argument's type mentions, so `simp` cannot rewrite an operand where it stands; applied by
    name, the operands are plain arguments, which `run`'s simp pass rewrites before the name unfolds. -/
def fn_main_v59 : (main_v55 : Ref sig .tc).ty.Contents (Elt F) → (main_v56 : Ref sig .tc).ty.Contents (Elt F) → (main_arg0 : Ref sig .tc).ty.Contents (Elt F) → (main_v57 : Ref sig .tc).ty.Contents (Elt F) → (main_v58 : Ref sig .tc).ty.Contents (Elt F) → (main_v59 : Ref sig .tc).ty.Contents (Elt F) :=
  (fun u0 u1 u2 u3 u4 => (concatenate S2x2052x1024 1 [⟨S2x1x1024, (u0 : (⟨S2x1x1024, .f32⟩ : BufTy).Contents (Elt F))⟩, ⟨S2x1x1024, (u1 : (⟨S2x1x1024, .f32⟩ : BufTy).Contents (Elt F))⟩, ⟨S2x2048x1024, (u2 : (⟨S2x2048x1024, .f32⟩ : BufTy).Contents (Elt F))⟩, ⟨S2x1x1024, (u3 : (⟨S2x1x1024, .f32⟩ : BufTy).Contents (Elt F))⟩, ⟨S2x1x1024, (u4 : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F)))

/-- The function of the operation that writes `main_v70`, named. It packs its operands into a list of dependent pairs
    whose shapes a later argument's type mentions, so `simp` cannot rewrite an operand where it stands; applied by
    name, the operands are plain arguments, which `run`'s simp pass rewrites before the name unfolds. -/
def fn_main_v70 : (main_v65 : Ref sig .tc).ty.Contents (Elt F) → (main_v66 : Ref sig .tc).ty.Contents (Elt F) → (main_v67 : Ref sig .tc).ty.Contents (Elt F) → (main_v68 : Ref sig .tc).ty.Contents (Elt F) → (main_v69 : Ref sig .tc).ty.Contents (Elt F) → (main_v70 : Ref sig .tc).ty.Contents (Elt F) :=
  (fun u0 u1 u2 u3 u4 => (concatenate S2x2048x5x1024 2 [⟨S2x2048x1x1024, (u0 : (⟨S2x2048x1x1024, .f32⟩ : BufTy).Contents (Elt F))⟩, ⟨S2x2048x1x1024, (u1 : (⟨S2x2048x1x1024, .f32⟩ : BufTy).Contents (Elt F))⟩, ⟨S2x2048x1x1024, (u2 : (⟨S2x2048x1x1024, .f32⟩ : BufTy).Contents (Elt F))⟩, ⟨S2x2048x1x1024, (u3 : (⟨S2x2048x1x1024, .f32⟩ : BufTy).Contents (Elt F))⟩, ⟨S2x2048x1x1024, (u4 : (⟨S2x2048x1x1024, .f32⟩ : BufTy).Contents (Elt F))⟩] concatenates_S2x2048x1x1024_S2x2048x1x1024_S2x2048x1x1024_S2x2048x1x1024_S2x2048x1x1024_S2x2048x5x1024_d2 : (⟨S2x2048x5x1024, .f32⟩ : BufTy).Contents (Elt F)))

/-- The function of the operation that writes `main_v86`, named. It packs its operands into a list of dependent pairs
    whose shapes a later argument's type mentions, so `simp` cannot rewrite an operand where it stands; applied by
    name, the operands are plain arguments, which `run`'s simp pass rewrites before the name unfolds. -/
def fn_main_v86 : (main_v78 : Ref sig .tc).ty.Contents (Elt F) → (main_v79 : Ref sig .tc).ty.Contents (Elt F) → (main_v80 : Ref sig .tc).ty.Contents (Elt F) → (main_v81 : Ref sig .tc).ty.Contents (Elt F) → (main_v82 : Ref sig .tc).ty.Contents (Elt F) → (main_v83 : Ref sig .tc).ty.Contents (Elt F) → (main_v84 : Ref sig .tc).ty.Contents (Elt F) → (main_v85 : Ref sig .tc).ty.Contents (Elt F) → (main_v86 : Ref sig .tc).ty.Contents (Elt F) :=
  (fun u0 u1 u2 u3 u4 u5 u6 u7 => (concatenate S2x2048x8 2 [⟨S2x2048x1, (u0 : (⟨S2x2048x1, .f32⟩ : BufTy).Contents (Elt F))⟩, ⟨S2x2048x1, (u1 : (⟨S2x2048x1, .f32⟩ : BufTy).Contents (Elt F))⟩, ⟨S2x2048x1, (u2 : (⟨S2x2048x1, .f32⟩ : BufTy).Contents (Elt F))⟩, ⟨S2x2048x1, (u3 : (⟨S2x2048x1, .f32⟩ : BufTy).Contents (Elt F))⟩, ⟨S2x2048x1, (u4 : (⟨S2x2048x1, .f32⟩ : BufTy).Contents (Elt F))⟩, ⟨S2x2048x1, (u5 : (⟨S2x2048x1, .f32⟩ : BufTy).Contents (Elt F))⟩, ⟨S2x2048x1, (u6 : (⟨S2x2048x1, .f32⟩ : BufTy).Contents (Elt F))⟩, ⟨S2x2048x1, (u7 : (⟨S2x2048x1, .f32⟩ : BufTy).Contents (Elt F))⟩] concatenates_S2x2048x1_S2x2048x1_S2x2048x1_S2x2048x1_S2x2048x1_S2x2048x1_S2x2048x1_S2x2048x1_S2x2048x8_d2 : (⟨S2x2048x8, .f32⟩ : BufTy).Contents (Elt F)))

set_option maxHeartbeats 8000000 in
/-- @main's 162 operations, in order (a called function's operations stand in its call's place, spelt `TRef.…`). -/
abbrev ops : List (HloOp τ sig (Elt F)) :=
  [ unary main_arg0 main_v0 ((extractStridedSlice S2x2047x1024 ![0, 1, 0] · slices_S2x2048x1024_S2x2047x1024_0_1_0) : (⟨S2x2048x1024, .f32⟩ : BufTy).Contents (Elt F) → (⟨S2x2047x1024, .f32⟩ : BufTy).Contents (Elt F)),
    unary main_arg0 main_v1 ((extractStridedSlice S2x2047x1024 ![0, 0, 0] · slices_S2x2048x1024_S2x2047x1024_0_0_0) : (⟨S2x2048x1024, .f32⟩ : BufTy).Contents (Elt F) → (⟨S2x2047x1024, .f32⟩ : BufTy).Contents (Elt F)),
    binary main_v0 main_v1 main_v2 (subf : (⟨S2x2047x1024, .f32⟩ : BufTy).Contents (Elt F) → (⟨S2x2047x1024, .f32⟩ : BufTy).Contents (Elt F) → (⟨S2x2047x1024, .f32⟩ : BufTy).Contents (Elt F)),
    unary main_v2 main_v3 (Host.absf : (⟨S2x2047x1024, .f32⟩ : BufTy).Contents (Elt F) → (⟨S2x2047x1024, .f32⟩ : BufTy).Contents (Elt F)),
    nullary main_cst (constant S_ .f32 0x3F800000#32),
    unary main_cst main_v4 (broadcastInDim S2x2047x1024 ![] bcast_S_S2x2047x1024 : (⟨S_, .f32⟩ : BufTy).Contents (Elt F) → (⟨S2x2047x1024, .f32⟩ : BufTy).Contents (Elt F)),
    binary main_v3 main_v4 main_v5 (Host.divf : (⟨S2x2047x1024, .f32⟩ : BufTy).Contents (Elt F) → (⟨S2x2047x1024, .f32⟩ : BufTy).Contents (Elt F) → (⟨S2x2047x1024, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x2047x1024, .f32⟩) main_v5) (TRef.of (T := ⟨S_, .f32⟩) main_call0_v0) (TRef.of (T := ⟨S2x2048x1024, .f32⟩) main_v6) (fun x v => pad S2x2048x1024 ![0, 0, 0] ![0, 1, 0] ![0, 0, 0] x v pads_S2x2047x1024_S2x2048x1024_000_010_000 h_S_),
    nullary main_cst_0 (constant S_ .f32 0x00000000#32),
    binary main_v6 main_cst_0 main_v7 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_arg0 main_v8 ((extractStridedSlice S2x2046x1024 ![0, 2, 0] · slices_S2x2048x1024_S2x2046x1024_0_2_0) : (⟨S2x2048x1024, .f32⟩ : BufTy).Contents (Elt F) → (⟨S2x2046x1024, .f32⟩ : BufTy).Contents (Elt F)),
    unary main_arg0 main_v9 ((extractStridedSlice S2x2046x1024 ![0, 0, 0] · slices_S2x2048x1024_S2x2046x1024_0_0_0) : (⟨S2x2048x1024, .f32⟩ : BufTy).Contents (Elt F) → (⟨S2x2046x1024, .f32⟩ : BufTy).Contents (Elt F)),
    binary main_v8 main_v9 main_v10 (subf : (⟨S2x2046x1024, .f32⟩ : BufTy).Contents (Elt F) → (⟨S2x2046x1024, .f32⟩ : BufTy).Contents (Elt F) → (⟨S2x2046x1024, .f32⟩ : BufTy).Contents (Elt F)),
    unary main_v10 main_v11 (Host.absf : (⟨S2x2046x1024, .f32⟩ : BufTy).Contents (Elt F) → (⟨S2x2046x1024, .f32⟩ : BufTy).Contents (Elt F)),
    nullary main_cst_1 (constant S_ .f32 0x40000000#32),
    unary main_cst_1 main_v12 (broadcastInDim S2x2046x1024 ![] bcast_S_S2x2046x1024 : (⟨S_, .f32⟩ : BufTy).Contents (Elt F) → (⟨S2x2046x1024, .f32⟩ : BufTy).Contents (Elt F)),
    binary main_v11 main_v12 main_v13 (Host.divf : (⟨S2x2046x1024, .f32⟩ : BufTy).Contents (Elt F) → (⟨S2x2046x1024, .f32⟩ : BufTy).Contents (Elt F) → (⟨S2x2046x1024, .f32⟩ : BufTy).Contents (Elt F)),
    nullary main_c_2 (constantI S_ 32 0#32),
    TRef.unary (TRef.of (T := ⟨S_, .i32⟩) main_c_2) (TRef.of (T := ⟨S_, .f32⟩) main_call1_v0) (sitofp .f32),
    TRef.binary (TRef.of (T := ⟨S2x2046x1024, .f32⟩) main_v13) (TRef.of (T := ⟨S_, .f32⟩) main_call1_v0) (TRef.of (T := ⟨S2x2048x1024, .f32⟩) main_v14) (fun x v => pad S2x2048x1024 ![0, 0, 0] ![0, 2, 0] ![0, 0, 0] x v pads_S2x2046x1024_S2x2048x1024_000_020_000 h_S_),
    nullary main_cst_3 (constant S_ .f32 0x00000000#32),
    binary main_v14 main_cst_3 main_v15 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_arg0 main_v16 ((extractStridedSlice S2x2045x1024 ![0, 3, 0] · slices_S2x2048x1024_S2x2045x1024_0_3_0) : (⟨S2x2048x1024, .f32⟩ : BufTy).Contents (Elt F) → (⟨S2x2045x1024, .f32⟩ : BufTy).Contents (Elt F)),
    unary main_arg0 main_v17 ((extractStridedSlice S2x2045x1024 ![0, 0, 0] · slices_S2x2048x1024_S2x2045x1024_0_0_0) : (⟨S2x2048x1024, .f32⟩ : BufTy).Contents (Elt F) → (⟨S2x2045x1024, .f32⟩ : BufTy).Contents (Elt F)),
    binary main_v16 main_v17 main_v18 (subf : (⟨S2x2045x1024, .f32⟩ : BufTy).Contents (Elt F) → (⟨S2x2045x1024, .f32⟩ : BufTy).Contents (Elt F) → (⟨S2x2045x1024, .f32⟩ : BufTy).Contents (Elt F)),
    unary main_v18 main_v19 (Host.absf : (⟨S2x2045x1024, .f32⟩ : BufTy).Contents (Elt F) → (⟨S2x2045x1024, .f32⟩ : BufTy).Contents (Elt F)),
    nullary main_cst_4 (constant S_ .f32 0x40400000#32),
    unary main_cst_4 main_v20 (broadcastInDim S2x2045x1024 ![] bcast_S_S2x2045x1024 : (⟨S_, .f32⟩ : BufTy).Contents (Elt F) → (⟨S2x2045x1024, .f32⟩ : BufTy).Contents (Elt F)),
    binary main_v19 main_v20 main_v21 (Host.divf : (⟨S2x2045x1024, .f32⟩ : BufTy).Contents (Elt F) → (⟨S2x2045x1024, .f32⟩ : BufTy).Contents (Elt F) → (⟨S2x2045x1024, .f32⟩ : BufTy).Contents (Elt F)),
    nullary main_c_5 (constantI S_ 32 0#32),
    TRef.unary (TRef.of (T := ⟨S_, .i32⟩) main_c_5) (TRef.of (T := ⟨S_, .f32⟩) main_call2_v0) (sitofp .f32),
    TRef.binary (TRef.of (T := ⟨S2x2045x1024, .f32⟩) main_v21) (TRef.of (T := ⟨S_, .f32⟩) main_call2_v0) (TRef.of (T := ⟨S2x2048x1024, .f32⟩) main_v22) (fun x v => pad S2x2048x1024 ![0, 0, 0] ![0, 3, 0] ![0, 0, 0] x v pads_S2x2045x1024_S2x2048x1024_000_030_000 h_S_),
    nullary main_cst_6 (constant S_ .f32 0x00000000#32),
    binary main_v22 main_cst_6 main_v23 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_arg0 main_v24 ((extractStridedSlice S2x2044x1024 ![0, 4, 0] · slices_S2x2048x1024_S2x2044x1024_0_4_0) : (⟨S2x2048x1024, .f32⟩ : BufTy).Contents (Elt F) → (⟨S2x2044x1024, .f32⟩ : BufTy).Contents (Elt F)),
    unary main_arg0 main_v25 ((extractStridedSlice S2x2044x1024 ![0, 0, 0] · slices_S2x2048x1024_S2x2044x1024_0_0_0) : (⟨S2x2048x1024, .f32⟩ : BufTy).Contents (Elt F) → (⟨S2x2044x1024, .f32⟩ : BufTy).Contents (Elt F)),
    binary main_v24 main_v25 main_v26 (subf : (⟨S2x2044x1024, .f32⟩ : BufTy).Contents (Elt F) → (⟨S2x2044x1024, .f32⟩ : BufTy).Contents (Elt F) → (⟨S2x2044x1024, .f32⟩ : BufTy).Contents (Elt F)),
    unary main_v26 main_v27 (Host.absf : (⟨S2x2044x1024, .f32⟩ : BufTy).Contents (Elt F) → (⟨S2x2044x1024, .f32⟩ : BufTy).Contents (Elt F)),
    nullary main_cst_7 (constant S_ .f32 0x40800000#32),
    unary main_cst_7 main_v28 (broadcastInDim S2x2044x1024 ![] bcast_S_S2x2044x1024 : (⟨S_, .f32⟩ : BufTy).Contents (Elt F) → (⟨S2x2044x1024, .f32⟩ : BufTy).Contents (Elt F)),
    binary main_v27 main_v28 main_v29 (Host.divf : (⟨S2x2044x1024, .f32⟩ : BufTy).Contents (Elt F) → (⟨S2x2044x1024, .f32⟩ : BufTy).Contents (Elt F) → (⟨S2x2044x1024, .f32⟩ : BufTy).Contents (Elt F)),
    nullary main_c_8 (constantI S_ 32 0#32),
    TRef.unary (TRef.of (T := ⟨S_, .i32⟩) main_c_8) (TRef.of (T := ⟨S_, .f32⟩) main_call3_v0) (sitofp .f32),
    TRef.binary (TRef.of (T := ⟨S2x2044x1024, .f32⟩) main_v29) (TRef.of (T := ⟨S_, .f32⟩) main_call3_v0) (TRef.of (T := ⟨S2x2048x1024, .f32⟩) main_v30) (fun x v => pad S2x2048x1024 ![0, 0, 0] ![0, 4, 0] ![0, 0, 0] x v pads_S2x2044x1024_S2x2048x1024_000_040_000 h_S_),
    nullary main_cst_9 (constant S_ .f32 0x00000000#32),
    binary main_v30 main_cst_9 main_v31 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_arg0 main_v32 ((extractStridedSlice S2x2043x1024 ![0, 5, 0] · slices_S2x2048x1024_S2x2043x1024_0_5_0) : (⟨S2x2048x1024, .f32⟩ : BufTy).Contents (Elt F) → (⟨S2x2043x1024, .f32⟩ : BufTy).Contents (Elt F)),
    unary main_arg0 main_v33 ((extractStridedSlice S2x2043x1024 ![0, 0, 0] · slices_S2x2048x1024_S2x2043x1024_0_0_0) : (⟨S2x2048x1024, .f32⟩ : BufTy).Contents (Elt F) → (⟨S2x2043x1024, .f32⟩ : BufTy).Contents (Elt F)),
    binary main_v32 main_v33 main_v34 (subf : (⟨S2x2043x1024, .f32⟩ : BufTy).Contents (Elt F) → (⟨S2x2043x1024, .f32⟩ : BufTy).Contents (Elt F) → (⟨S2x2043x1024, .f32⟩ : BufTy).Contents (Elt F)),
    unary main_v34 main_v35 (Host.absf : (⟨S2x2043x1024, .f32⟩ : BufTy).Contents (Elt F) → (⟨S2x2043x1024, .f32⟩ : BufTy).Contents (Elt F)),
    nullary main_cst_10 (constant S_ .f32 0x40A00000#32),
    unary main_cst_10 main_v36 (broadcastInDim S2x2043x1024 ![] bcast_S_S2x2043x1024 : (⟨S_, .f32⟩ : BufTy).Contents (Elt F) → (⟨S2x2043x1024, .f32⟩ : BufTy).Contents (Elt F)),
    binary main_v35 main_v36 main_v37 (Host.divf : (⟨S2x2043x1024, .f32⟩ : BufTy).Contents (Elt F) → (⟨S2x2043x1024, .f32⟩ : BufTy).Contents (Elt F) → (⟨S2x2043x1024, .f32⟩ : BufTy).Contents (Elt F)),
    nullary main_c_11 (constantI S_ 32 0#32),
    TRef.unary (TRef.of (T := ⟨S_, .i32⟩) main_c_11) (TRef.of (T := ⟨S_, .f32⟩) main_call4_v0) (sitofp .f32),
    TRef.binary (TRef.of (T := ⟨S2x2043x1024, .f32⟩) main_v37) (TRef.of (T := ⟨S_, .f32⟩) main_call4_v0) (TRef.of (T := ⟨S2x2048x1024, .f32⟩) main_v38) (fun x v => pad S2x2048x1024 ![0, 0, 0] ![0, 5, 0] ![0, 0, 0] x v pads_S2x2043x1024_S2x2048x1024_000_050_000 h_S_),
    nullary main_cst_12 (constant S_ .f32 0x00000000#32),
    binary main_v38 main_cst_12 main_v39 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    nullary main_cst_13 (constant S_ .f32 0x00000000#32),
    binary main_arg0 main_cst_13 main_v40 ((fun x v => Host.reduceAdd x v reducesTo_S2x2048x1024_S2x1024_d1 h_S_) : (⟨S2x2048x1024, .f32⟩ : BufTy).Contents (Elt F) → (⟨S_, .f32⟩ : BufTy).Contents (Elt F) → (⟨S2x1024, .f32⟩ : BufTy).Contents (Elt F)),
    unary main_v40 main_v41 (broadcastInDim S2x1x1024 ![0, 2] bcast_S2x1024_S2x1x1024_0_2 : (⟨S2x1024, .f32⟩ : BufTy).Contents (Elt F) → (⟨S2x1x1024, .f32⟩ : BufTy).Contents (Elt F)),
    nullary main_cst_14 (constant S_ .f32 0x45000000#32),
    unary main_cst_14 main_v42 (broadcastInDim S2x1x1024 ![] bcast_S_S2x1x1024 : (⟨S_, .f32⟩ : BufTy).Contents (Elt F) → (⟨S2x1x1024, .f32⟩ : BufTy).Contents (Elt F)),
    binary main_v41 main_v42 main_v43 (Host.divf : (⟨S2x1x1024, .f32⟩ : BufTy).Contents (Elt F) → (⟨S2x1x1024, .f32⟩ : BufTy).Contents (Elt F) → (⟨S2x1x1024, .f32⟩ : BufTy).Contents (Elt F)),
    unary main_v43 main_v44 (broadcastInDim S2x2048x1024 ![0, 1, 2] bcast_S2x1x1024_S2x2048x1024_0_1_2 : (⟨S2x1x1024, .f32⟩ : BufTy).Contents (Elt F) → (⟨S2x2048x1024, .f32⟩ : BufTy).Contents (Elt F)),
    binary main_arg0 main_v44 main_v45 (subf : (⟨S2x2048x1024, .f32⟩ : BufTy).Contents (Elt F) → (⟨S2x2048x1024, .f32⟩ : BufTy).Contents (Elt F) → (⟨S2x2048x1024, .f32⟩ : BufTy).Contents (Elt F)),
    TRef.nullary (TRef.of (T := ⟨S_, .f32⟩) main_call5_call0_cst) (constant S_ .f32 0x00000000#32),
    TRef.unary (TRef.of (T := ⟨S_, .f32⟩) main_call5_call0_cst) (TRef.of (T := ⟨S_, .f32⟩) main_call5_call0_v0) (broadcastInDim S_ ![] bcast_S_S_),
    TRef.binary (TRef.of (T := ⟨S2x2048x1024, .f32⟩) main_v45) (TRef.of (T := ⟨S_, .f32⟩) main_call5_call0_v0) (TRef.of (T := ⟨S2x2048x1024, .f32⟩) main_v46) (fun x v => Host.reduceWindowAdd ![1, 2048, 1] ![1, 1, 1] ![0, 2047, 0] ![0, 0, 0] x v reduceWindows_S2x2048x1024_S2x2048x1024_w1s1p0_0_w2048s1p2047_0_w1s1p0_0 h_S_),
    unary main_v46 main_v47 ((extractStridedSlice S2x2047x1024 ![0, 1, 0] · slices_S2x2048x1024_S2x2047x1024_0_1_0) : (⟨S2x2048x1024, .f32⟩ : BufTy).Contents (Elt F) → (⟨S2x2047x1024, .f32⟩ : BufTy).Contents (Elt F)),
    unary main_v46 main_v48 ((extractStridedSlice S2x2047x1024 ![0, 0, 0] · slices_S2x2048x1024_S2x2047x1024_0_0_0) : (⟨S2x2048x1024, .f32⟩ : BufTy).Contents (Elt F) → (⟨S2x2047x1024, .f32⟩ : BufTy).Contents (Elt F)),
    binary main_v47 main_v48 main_v49 (subf : (⟨S2x2047x1024, .f32⟩ : BufTy).Contents (Elt F) → (⟨S2x2047x1024, .f32⟩ : BufTy).Contents (Elt F) → (⟨S2x2047x1024, .f32⟩ : BufTy).Contents (Elt F)),
    unary main_v49 main_v50 (Host.absf : (⟨S2x2047x1024, .f32⟩ : BufTy).Contents (Elt F) → (⟨S2x2047x1024, .f32⟩ : BufTy).Contents (Elt F)),
    nullary main_c_15 (constantI S_ 32 0#32),
    TRef.unary (TRef.of (T := ⟨S_, .i32⟩) main_c_15) (TRef.of (T := ⟨S_, .f32⟩) main_call6_v0) (sitofp .f32),
    TRef.binary (TRef.of (T := ⟨S2x2047x1024, .f32⟩) main_v50) (TRef.of (T := ⟨S_, .f32⟩) main_call6_v0) (TRef.of (T := ⟨S2x2048x1024, .f32⟩) main_v51) (fun x v => pad S2x2048x1024 ![0, 0, 0] ![0, 1, 0] ![0, 0, 0] x v pads_S2x2047x1024_S2x2048x1024_000_010_000 h_S_),
    nullary main_cst_16 (constant S_ .f32 0x00000000#32),
    binary main_v51 main_cst_16 main_v52 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    binary main_arg0 main_arg0 main_v53 (mulf : (⟨S2x2048x1024, .f32⟩ : BufTy).Contents (Elt F) → (⟨S2x2048x1024, .f32⟩ : BufTy).Contents (Elt F) → (⟨S2x2048x1024, .f32⟩ : BufTy).Contents (Elt F)),
    nullary main_cst_17 (constant S_ .f32 0x00000000#32),
    binary main_v53 main_cst_17 main_v54 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_arg0 main_v55 ((extractStridedSlice S2x1x1024 ![0, 0, 0] · slices_S2x2048x1024_S2x1x1024_0_0_0) : (⟨S2x2048x1024, .f32⟩ : BufTy).Contents (Elt F) → (⟨S2x1x1024, .f32⟩ : BufTy).Contents (Elt F)),
    unary main_arg0 main_v56 ((extractStridedSlice S2x1x1024 ![0, 0, 0] · slices_S2x2048x1024_S2x1x1024_0_0_0) : (⟨S2x2048x1024, .f32⟩ : BufTy).Contents (Elt F) → (⟨S2x1x1024, .f32⟩ : BufTy).Contents (Elt F)),
    unary main_arg0 main_v57 ((extractStridedSlice S2x1x1024 ![0, 2047, 0] · slices_S2x2048x1024_S2x1x1024_0_2047_0) : (⟨S2x2048x1024, .f32⟩ : BufTy).Contents (Elt F) → (⟨S2x1x1024, .f32⟩ : BufTy).Contents (Elt F)),
    unary main_arg0 main_v58 ((extractStridedSlice S2x1x1024 ![0, 2047, 0] · slices_S2x2048x1024_S2x1x1024_0_2047_0) : (⟨S2x2048x1024, .f32⟩ : BufTy).Contents (Elt F) → (⟨S2x1x1024, .f32⟩ : BufTy).Contents (Elt F)),
    nary ![main_v55, main_v56, main_arg0, main_v57, main_v58] main_v59 (fun u => fn_main_v59 (F := F) (u 0) (u 1) (u 2) (u 3) (u 4)),
    unary main_v59 main_v60 ((extractStridedSlice S2x2048x1024 ![0, 0, 0] · slices_S2x2052x1024_S2x2048x1024_0_0_0) : (⟨S2x2052x1024, .f32⟩ : BufTy).Contents (Elt F) → (⟨S2x2048x1024, .f32⟩ : BufTy).Contents (Elt F)),
    unary main_v59 main_v61 ((extractStridedSlice S2x2048x1024 ![0, 1, 0] · slices_S2x2052x1024_S2x2048x1024_0_1_0) : (⟨S2x2052x1024, .f32⟩ : BufTy).Contents (Elt F) → (⟨S2x2048x1024, .f32⟩ : BufTy).Contents (Elt F)),
    unary main_v59 main_v62 ((extractStridedSlice S2x2048x1024 ![0, 2, 0] · slices_S2x2052x1024_S2x2048x1024_0_2_0) : (⟨S2x2052x1024, .f32⟩ : BufTy).Contents (Elt F) → (⟨S2x2048x1024, .f32⟩ : BufTy).Contents (Elt F)),
    unary main_v59 main_v63 ((extractStridedSlice S2x2048x1024 ![0, 3, 0] · slices_S2x2052x1024_S2x2048x1024_0_3_0) : (⟨S2x2052x1024, .f32⟩ : BufTy).Contents (Elt F) → (⟨S2x2048x1024, .f32⟩ : BufTy).Contents (Elt F)),
    unary main_v59 main_v64 ((extractStridedSlice S2x2048x1024 ![0, 4, 0] · slices_S2x2052x1024_S2x2048x1024_0_4_0) : (⟨S2x2052x1024, .f32⟩ : BufTy).Contents (Elt F) → (⟨S2x2048x1024, .f32⟩ : BufTy).Contents (Elt F)),
    unary main_v60 main_v65 (broadcastInDim S2x2048x1x1024 ![0, 1, 3] bcast_S2x2048x1024_S2x2048x1x1024_0_1_3 : (⟨S2x2048x1024, .f32⟩ : BufTy).Contents (Elt F) → (⟨S2x2048x1x1024, .f32⟩ : BufTy).Contents (Elt F)),
    unary main_v61 main_v66 (broadcastInDim S2x2048x1x1024 ![0, 1, 3] bcast_S2x2048x1024_S2x2048x1x1024_0_1_3 : (⟨S2x2048x1024, .f32⟩ : BufTy).Contents (Elt F) → (⟨S2x2048x1x1024, .f32⟩ : BufTy).Contents (Elt F)),
    unary main_v62 main_v67 (broadcastInDim S2x2048x1x1024 ![0, 1, 3] bcast_S2x2048x1024_S2x2048x1x1024_0_1_3 : (⟨S2x2048x1024, .f32⟩ : BufTy).Contents (Elt F) → (⟨S2x2048x1x1024, .f32⟩ : BufTy).Contents (Elt F)),
    unary main_v63 main_v68 (broadcastInDim S2x2048x1x1024 ![0, 1, 3] bcast_S2x2048x1024_S2x2048x1x1024_0_1_3 : (⟨S2x2048x1024, .f32⟩ : BufTy).Contents (Elt F) → (⟨S2x2048x1x1024, .f32⟩ : BufTy).Contents (Elt F)),
    unary main_v64 main_v69 (broadcastInDim S2x2048x1x1024 ![0, 1, 3] bcast_S2x2048x1024_S2x2048x1x1024_0_1_3 : (⟨S2x2048x1024, .f32⟩ : BufTy).Contents (Elt F) → (⟨S2x2048x1x1024, .f32⟩ : BufTy).Contents (Elt F)),
    nary ![main_v65, main_v66, main_v67, main_v68, main_v69] main_v70 (fun u => fn_main_v70 (F := F) (u 0) (u 1) (u 2) (u 3) (u 4)),
    nullary main_c_18 (constantI S_ 32 1#32),
    TRef.nullary (TRef.of (T := ⟨S_, .f32⟩) main_call7_cst) (constant S_ .f32 0x00000000#32),
    TRef.binary (TRef.of (T := ⟨S2x2048x5x1024, .f32⟩) main_v70) (TRef.of (T := ⟨S_, .f32⟩) main_call7_cst) (TRef.of (T := ⟨S2x2048x1024, .f32⟩) main_call7_v0) (fun x v => Host.reduceAdd x v reducesTo_S2x2048x5x1024_S2x2048x1024_d2 h_S_),
    TRef.unary (TRef.of (T := ⟨S2x2048x1024, .f32⟩) main_call7_v0) (TRef.of (T := ⟨S2x2048x1x1024, .f32⟩) main_call7_v1) (broadcastInDim S2x2048x1x1024 ![0, 1, 3] bcast_S2x2048x1024_S2x2048x1x1024_0_1_3),
    TRef.nullary (TRef.of (T := ⟨S_, .f32⟩) main_call7_cst_0) (constant S_ .f32 0x40A00000#32),
    TRef.unary (TRef.of (T := ⟨S_, .f32⟩) main_call7_cst_0) (TRef.of (T := ⟨S2x2048x1x1024, .f32⟩) main_call7_v2) (broadcastInDim S2x2048x1x1024 ![] bcast_S_S2x2048x1x1024),
    TRef.binary (TRef.of (T := ⟨S2x2048x1x1024, .f32⟩) main_call7_v1) (TRef.of (T := ⟨S2x2048x1x1024, .f32⟩) main_call7_v2) (TRef.of (T := ⟨S2x2048x1x1024, .f32⟩) main_call7_v3) Host.divf,
    TRef.unary (TRef.of (T := ⟨S2x2048x1x1024, .f32⟩) main_call7_v3) (TRef.of (T := ⟨S2x2048x5x1024, .f32⟩) main_call7_v4) (broadcastInDim S2x2048x5x1024 ![0, 1, 2, 3] bcast_S2x2048x1x1024_S2x2048x5x1024_0_1_2_3),
    TRef.binary (TRef.of (T := ⟨S2x2048x5x1024, .f32⟩) main_v70) (TRef.of (T := ⟨S2x2048x5x1024, .f32⟩) main_call7_v4) (TRef.of (T := ⟨S2x2048x5x1024, .f32⟩) main_call7_v5) subf,
    TRef.binary (TRef.of (T := ⟨S2x2048x5x1024, .f32⟩) main_call7_v5) (TRef.of (T := ⟨S2x2048x5x1024, .f32⟩) main_call7_v5) (TRef.of (T := ⟨S2x2048x5x1024, .f32⟩) main_call7_v6) mulf,
    TRef.unary (TRef.of (T := ⟨S_, .i32⟩) main_c_18) (TRef.of (T := ⟨S_, .f32⟩) main_call7_v7) (sitofp .f32),
    TRef.nullary (TRef.of (T := ⟨S_, .f32⟩) main_call7_cst_1) (constant S_ .f32 0x40A00000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S2x2048x5x1024, .f32⟩) main_call7_v6) (TRef.of (T := ⟨S_, .f32⟩) main_call7_cst_2) (TRef.of (T := ⟨S2x2048x1024, .f32⟩) main_call7_v9) (fun x v => Host.reduceAdd x v reducesTo_S2x2048x5x1024_S2x2048x1024_d2 h_S_),
    TRef.unary (TRef.of (T := ⟨S_, .f32⟩) main_call7_v8) (TRef.of (T := ⟨S2x2048x1024, .f32⟩) main_call7_v10) (broadcastInDim S2x2048x1024 ![] bcast_S_S2x2048x1024),
    TRef.binary (TRef.of (T := ⟨S2x2048x1024, .f32⟩) main_call7_v9) (TRef.of (T := ⟨S2x2048x1024, .f32⟩) main_call7_v10) (TRef.of (T := ⟨S2x2048x1024, .f32⟩) main_call7_v11) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v12) (cmpf .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S2x2048x1024, .f32⟩) main_call7_call0_v1) (broadcastInDim S2x2048x1024 ![] bcast_S_S2x2048x1024),
    TRef.ternary (TRef.of (T := ⟨S_, .i1⟩) main_call7_v12) (TRef.of (T := ⟨S2x2048x1024, .f32⟩) main_call7_v11) (TRef.of (T := ⟨S2x2048x1024, .f32⟩) main_call7_call0_v1) (TRef.of (T := ⟨S2x2048x1024, .f32⟩) main_v71) (fun p a b => select (broadcastInDim S2x2048x1024 ![] bcast_S_S2x2048x1024 p) a b),
    nullary main_cst_19 (constant S_ .f32 0x00000000#32),
    binary main_v71 main_cst_19 main_v72 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_arg0 main_v73 ((extractStridedSlice S2x2047x1024 ![0, 1, 0] · slices_S2x2048x1024_S2x2047x1024_0_1_0) : (⟨S2x2048x1024, .f32⟩ : BufTy).Contents (Elt F) → (⟨S2x2047x1024, .f32⟩ : BufTy).Contents (Elt F)),
    unary main_arg0 main_v74 ((extractStridedSlice S2x2047x1024 ![0, 0, 0] · slices_S2x2048x1024_S2x2047x1024_0_0_0) : (⟨S2x2048x1024, .f32⟩ : BufTy).Contents (Elt F) → (⟨S2x2047x1024, .f32⟩ : BufTy).Contents (Elt F)),
    binary main_v73 main_v74 main_v75 (subf : (⟨S2x2047x1024, .f32⟩ : BufTy).Contents (Elt F) → (⟨S2x2047x1024, .f32⟩ : BufTy).Contents (Elt F) → (⟨S2x2047x1024, .f32⟩ : BufTy).Contents (Elt F)),
    nullary main_c_20 (constantI S_ 32 1#32),
    TRef.nullary (TRef.of (T := ⟨S_, .f32⟩) main_call8_cst) (constant S_ .f32 0x00000000#32),
    TRef.binary (TRef.of (T := ⟨S2x2047x1024, .f32⟩) main_v75) (TRef.of (T := ⟨S_, .f32⟩) main_call8_cst) (TRef.of (T := ⟨S2x1024, .f32⟩) main_call8_v0) (fun x v => Host.reduceAdd x v reducesTo_S2x2047x1024_S2x1024_d1 h_S_),
    TRef.unary (TRef.of (T := ⟨S2x1024, .f32⟩) main_call8_v0) (TRef.of (T := ⟨S2x1x1024, .f32⟩) main_call8_v1) (broadcastInDim S2x1x1024 ![0, 2] bcast_S2x1024_S2x1x1024_0_2),
    TRef.nullary (TRef.of (T := ⟨S_, .f32⟩) main_call8_cst_0) (constant S_ .f32 0x44FFE000#32),
    TRef.unary (TRef.of (T := ⟨S_, .f32⟩) main_call8_cst_0) (TRef.of (T := ⟨S2x1x1024, .f32⟩) main_call8_v2) (broadcastInDim S2x1x1024 ![] bcast_S_S2x1x1024),
    TRef.binary (TRef.of (T := ⟨S2x1x1024, .f32⟩) main_call8_v1) (TRef.of (T := ⟨S2x1x1024, .f32⟩) main_call8_v2) (TRef.of (T := ⟨S2x1x1024, .f32⟩) main_call8_v3) Host.divf,
    TRef.unary (TRef.of (T := ⟨S2x1x1024, .f32⟩) main_call8_v3) (TRef.of (T := ⟨S2x2047x1024, .f32⟩) main_call8_v4) (broadcastInDim S2x2047x1024 ![0, 1, 2] bcast_S2x1x1024_S2x2047x1024_0_1_2),
    TRef.binary (TRef.of (T := ⟨S2x2047x1024, .f32⟩) main_v75) (TRef.of (T := ⟨S2x2047x1024, .f32⟩) main_call8_v4) (TRef.of (T := ⟨S2x2047x1024, .f32⟩) main_call8_v5) subf,
    TRef.binary (TRef.of (T := ⟨S2x2047x1024, .f32⟩) main_call8_v5) (TRef.of (T := ⟨S2x2047x1024, .f32⟩) main_call8_v5) (TRef.of (T := ⟨S2x2047x1024, .f32⟩) main_call8_v6) mulf,
    TRef.unary (TRef.of (T := ⟨S_, .i32⟩) main_c_20) (TRef.of (T := ⟨S_, .f32⟩) main_call8_v7) (sitofp .f32),
    TRef.nullary (TRef.of (T := ⟨S_, .f32⟩) main_call8_cst_1) (constant S_ .f32 0x44FFE000#32),
    TRef.binary (TRef.of (T := ⟨S_, .f32⟩) main_call8_cst_1) (TRef.of (T := ⟨S_, .f32⟩) main_call8_v7) (TRef.of (T := ⟨S_, .f32⟩) main_call8_v8) subf,
    TRef.nullary (TRef.of (T := ⟨S_, .f32⟩) main_call8_cst_2) (constant S_ .f32 0x00000000#32),
    TRef.binary (TRef.of (T := ⟨S2x2047x1024, .f32⟩) main_call8_v6) (TRef.of (T := ⟨S_, .f32⟩) main_call8_cst_2) (TRef.of (T := ⟨S2x1024, .f32⟩) main_call8_v9) (fun x v => Host.reduceAdd x v reducesTo_S2x2047x1024_S2x1024_d1 h_S_),
    TRef.unary (TRef.of (T := ⟨S_, .f32⟩) main_call8_v8) (TRef.of (T := ⟨S2x1024, .f32⟩) main_call8_v10) (broadcastInDim S2x1024 ![] bcast_S_S2x1024),
    TRef.binary (TRef.of (T := ⟨S2x1024, .f32⟩) main_call8_v9) (TRef.of (T := ⟨S2x1024, .f32⟩) main_call8_v10) (TRef.of (T := ⟨S2x1024, .f32⟩) main_call8_v11) Host.divf,
    TRef.nullary (TRef.of (T := ⟨S_, .f32⟩) main_call8_cst_3) (constant S_ .f32 0x00000000#32),
    TRef.binary (TRef.of (T := ⟨S_, .f32⟩) main_call8_v8) (TRef.of (T := ⟨S_, .f32⟩) main_call8_cst_3) (TRef.of (T := ⟨S_, .i1⟩) main_call8_v12) (cmpf .ogt),
    TRef.nullary (TRef.of (T := ⟨S_, .f32⟩) main_call8_cst_4) (constant S_ .f32 0x7FC00000#32),
    TRef.unary (TRef.of (T := ⟨S_, .f32⟩) main_call8_cst_4) (TRef.of (T := ⟨S_, .f32⟩) main_call8_call0_v0) id,
    TRef.unary (TRef.of (T := ⟨S_, .f32⟩) main_call8_call0_v0) (TRef.of (T := ⟨S2x1024, .f32⟩) main_call8_call0_v1) (broadcastInDim S2x1024 ![] bcast_S_S2x1024),
    TRef.ternary (TRef.of (T := ⟨S_, .i1⟩) main_call8_v12) (TRef.of (T := ⟨S2x1024, .f32⟩) main_call8_v11) (TRef.of (T := ⟨S2x1024, .f32⟩) main_call8_call0_v1) (TRef.of (T := ⟨S2x1024, .f32⟩) main_v76) (fun p a b => select (broadcastInDim S2x1024 ![] bcast_S_S2x1024 p) a b),
    nullary main_cst_21 (constant S_ .f32 0x00000000#32),
    binary main_v76 main_cst_21 main_v77 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    unary main_v7 main_v78 (broadcastInDim S2x2048x1 ![0, 1] bcast_S2x2048_S2x2048x1_0_1 : (⟨S2x2048, .f32⟩ : BufTy).Contents (Elt F) → (⟨S2x2048x1, .f32⟩ : BufTy).Contents (Elt F)),
    unary main_v15 main_v79 (broadcastInDim S2x2048x1 ![0, 1] bcast_S2x2048_S2x2048x1_0_1 : (⟨S2x2048, .f32⟩ : BufTy).Contents (Elt F) → (⟨S2x2048x1, .f32⟩ : BufTy).Contents (Elt F)),
    unary main_v23 main_v80 (broadcastInDim S2x2048x1 ![0, 1] bcast_S2x2048_S2x2048x1_0_1 : (⟨S2x2048, .f32⟩ : BufTy).Contents (Elt F) → (⟨S2x2048x1, .f32⟩ : BufTy).Contents (Elt F)),
    unary main_v31 main_v81 (broadcastInDim S2x2048x1 ![0, 1] bcast_S2x2048_S2x2048x1_0_1 : (⟨S2x2048, .f32⟩ : BufTy).Contents (Elt F) → (⟨S2x2048x1, .f32⟩ : BufTy).Contents (Elt F)),
    unary main_v39 main_v82 (broadcastInDim S2x2048x1 ![0, 1] bcast_S2x2048_S2x2048x1_0_1 : (⟨S2x2048, .f32⟩ : BufTy).Contents (Elt F) → (⟨S2x2048x1, .f32⟩ : BufTy).Contents (Elt F)),
    unary main_v52 main_v83 (broadcastInDim S2x2048x1 ![0, 1] bcast_S2x2048_S2x2048x1_0_1 : (⟨S2x2048, .f32⟩ : BufTy).Contents (Elt F) → (⟨S2x2048x1, .f32⟩ : BufTy).Contents (Elt F)),
    unary main_v54 main_v84 (broadcastInDim S2x2048x1 ![0, 1] bcast_S2x2048_S2x2048x1_0_1 : (⟨S2x2048, .f32⟩ : BufTy).Contents (Elt F) → (⟨S2x2048x1, .f32⟩ : BufTy).Contents (Elt F)),
    unary main_v72 main_v85 (broadcastInDim S2x2048x1 ![0, 1] bcast_S2x2048_S2x2048x1_0_1 : (⟨S2x2048, .f32⟩ : BufTy).Contents (Elt F) → (⟨S2x2048x1, .f32⟩ : BufTy).Contents (Elt F)),
    nary ![main_v78, main_v79, main_v80, main_v81, main_v82, main_v83, main_v84, main_v85] main_v86 (fun u => fn_main_v86 (F := F) (u 0) (u 1) (u 2) (u 3) (u 4) (u 5) (u 6) (u 7)),
    unary main_v77 main_v87 (broadcastInDim S2x1x1 ![0] bcast_S2_S2x1x1_0 : (⟨S2, .f32⟩ : BufTy).Contents (Elt F) → (⟨S2x1x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., nullary_bufs_sub .., unary_bufs_sub .., binary_bufs_sub .., nullary_bufs_sub .., binary_bufs_sub .., binary_bufs_sub .., nullary_bufs_sub .., binary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub ..⟩

set_option maxRecDepth 8192 in
/-- `main_v86`'s composed term of the arguments (named: it is long). -/
def res_main_v86 (m : (ℓ : Loc nD τ sig) → Buf (Elt F) ℓ) (c : Dev nD) : Buf (Elt F) ((c.tc : Thread nD τ).loc main_v86) :=
  (concatenate S2x2048x8 2 [⟨S2x2048x1, ((broadcastInDim S2x2048x1 ![0, 1] bcast_S2x2048_S2x2048x1_0_1 (Host.reduceAdd (pad S2x2048x1024 ![0, 0, 0] ![0, 1, 0] ![0, 0, 0] (Host.divf (Host.absf (subf (extractStridedSlice S2x2047x1024 ![0, 1, 0] (m ((c.tc : Thread nD τ).loc main_arg0)) slices_S2x2048x1024_S2x2047x1024_0_1_0) (extractStridedSlice S2x2047x1024 ![0, 0, 0] (m ((c.tc : Thread nD τ).loc main_arg0)) slices_S2x2048x1024_S2x2047x1024_0_0_0))) (broadcastInDim S2x2047x1024 ![] bcast_S_S2x2047x1024 (constant S_ .f32 0x3F800000#32))) (sitofp .f32 (constantI S_ 32 0#32)) pads_S2x2047x1024_S2x2048x1024_000_010_000 h_S_) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (pad S2x2048x1024 ![0, 0, 0] ![0, 2, 0] ![0, 0, 0] (Host.divf (Host.absf (subf (extractStridedSlice S2x2046x1024 ![0, 2, 0] (m ((c.tc : Thread nD τ).loc main_arg0)) slices_S2x2048x1024_S2x2046x1024_0_2_0) (extractStridedSlice S2x2046x1024 ![0, 0, 0] (m ((c.tc : Thread nD τ).loc main_arg0)) slices_S2x2048x1024_S2x2046x1024_0_0_0))) (broadcastInDim S2x2046x1024 ![] bcast_S_S2x2046x1024 (constant S_ .f32 0x40000000#32))) (sitofp .f32 (constantI S_ 32 0#32)) pads_S2x2046x1024_S2x2048x1024_000_020_000 h_S_) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (pad S2x2048x1024 ![0, 0, 0] ![0, 3, 0] ![0, 0, 0] (Host.divf (Host.absf (subf (extractStridedSlice S2x2045x1024 ![0, 3, 0] (m ((c.tc : Thread nD τ).loc main_arg0)) slices_S2x2048x1024_S2x2045x1024_0_3_0) (extractStridedSlice S2x2045x1024 ![0, 0, 0] (m ((c.tc : Thread nD τ).loc main_arg0)) slices_S2x2048x1024_S2x2045x1024_0_0_0))) (broadcastInDim S2x2045x1024 ![] bcast_S_S2x2045x1024 (constant S_ .f32 0x40400000#32))) (sitofp .f32 (constantI S_ 32 0#32)) pads_S2x2045x1024_S2x2048x1024_000_030_000 h_S_) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (pad S2x2048x1024 ![0, 0, 0] ![0, 4, 0] ![0, 0, 0] (Host.divf (Host.absf (subf (extractStridedSlice S2x2044x1024 ![0, 4, 0] (m ((c.tc : Thread nD τ).loc main_arg0)) slices_S2x2048x1024_S2x2044x1024_0_4_0) (extractStridedSlice S2x2044x1024 ![0, 0, 0] (m ((c.tc : Thread nD τ).loc main_arg0)) slices_S2x2048x1024_S2x2044x1024_0_0_0))) (broadcastInDim S2x2044x1024 ![] bcast_S_S2x2044x1024 (constant S_ .f32 0x40800000#32))) (sitofp .f32 (constantI S_ 32 0#32)) pads_S2x2044x1024_S2x2048x1024_000_040_000 h_S_) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (pad S2x2048x1024 ![0, 0, 0] ![0, 5, 0] ![0, 0, 0] (Host.divf (Host.absf (subf (extractStridedSlice S2x2043x1024 ![0, 5, 0] (m ((c.tc : Thread nD τ).loc main_arg0)) slices_S2x2048x1024_S2x2043x1024_0_5_0) (extractStridedSlice S2x2043x1024 ![0, 0, 0] (m ((c.tc : Thread nD τ).loc main_arg0)) slices_S2x2048x1024_S2x2043x1024_0_0_0))) (broadcastInDim S2x2043x1024 ![] bcast_S_S2x2043x1024 (constant S_ .f32 0x40A00000#32))) (sitofp .f32 (constantI S_ 32 0#32)) pads_S2x2043x1024_S2x2048x1024_000_050_000 h_S_) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (pad S2x2048x1024 ![0, 0, 0] ![0, 1, 0] ![0, 0, 0] (Host.absf (subf (extractStridedSlice S2x2047x1024 ![0, 1, 0] (Host.reduceWindowAdd ![1, 2048, 1] ![1, 1, 1] ![0, 2047, 0] ![0, 0, 0] (subf (m ((c.tc : Thread nD τ).loc main_arg0)) (broadcastInDim S2x2048x1024 ![0, 1, 2] bcast_S2x1x1024_S2x2048x1024_0_1_2 (Host.divf (broadcastInDim S2x1x1024 ![0, 2] bcast_S2x1024_S2x1x1024_0_2 (Host.reduceAdd (m ((c.tc : Thread nD τ).loc main_arg0)) (constant S_ .f32 0x00000000#32) reducesTo_S2x2048x1024_S2x1024_d1 h_S_)) (broadcastInDim S2x1x1024 ![] bcast_S_S2x1x1024 (constant S_ .f32 0x45000000#32))))) (broadcastInDim S_ ![] bcast_S_S_ (constant S_ .f32 0x00000000#32)) reduceWindows_S2x2048x1024_S2x2048x1024_w1s1p0_0_w2048s1p2047_0_w1s1p0_0 h_S_) slices_S2x2048x1024_S2x2047x1024_0_1_0) (extractStridedSlice S2x2047x1024 ![0, 0, 0] (Host.reduceWindowAdd ![1, 2048, 1] ![1, 1, 1] ![0, 2047, 0] ![0, 0, 0] (subf (m ((c.tc : Thread nD τ).loc main_arg0)) (broadcastInDim S2x2048x1024 ![0, 1, 2] bcast_S2x1x1024_S2x2048x1024_0_1_2 (Host.divf (broadcastInDim S2x1x1024 ![0, 2] bcast_S2x1024_S2x1x1024_0_2 (Host.reduceAdd (m ((c.tc : Thread nD τ).loc main_arg0)) (constant S_ .f32 0x00000000#32) reducesTo_S2x2048x1024_S2x1024_d1 h_S_)) (broadcastInDim S2x1x1024 ![] bcast_S_S2x1x1024 (constant S_ .f32 0x45000000#32))))) (broadcastInDim S_ ![] bcast_S_S_ (constant S_ .f32 0x00000000#32)) reduceWindows_S2x2048x1024_S2x2048x1024_w1s1p0_0_w2048s1p2047_0_w1s1p0_0 h_S_) slices_S2x2048x1024_S2x2047x1024_0_0_0))) (sitofp .f32 (constantI S_ 32 0#32)) pads_S2x2047x1024_S2x2048x1024_000_010_000 h_S_) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (mulf (m ((c.tc : Thread nD τ).loc main_arg0)) (m ((c.tc : Thread nD τ).loc main_arg0))) (constant S_ .f32 0x00000000#32) reducesTo_S2x2048x1024_S2x2048_d2 h_S_)) : (⟨S2x2048x1, .f32⟩ : BufTy).Contents (Elt F))⟩, ⟨S2x2048x1, ((broadcastInDim S2x2048x1 ![0, 1] bcast_S2x2048_S2x2048x1_0_1 (Host.reduceAdd (select (broadcastInDim S2x2048x1024 ![] bcast_S_S2x2048x1024 (cmpf .ogt (subf (constant S_ .f32 0x40A00000#32) (sitofp .f32 (constantI S_ 32 1#32)) : (⟨S_, .f32⟩ : BufTy).Contents (Elt F)) (constant S_ .f32 0x00000000#32))) (Host.divf (Host.reduceAdd (mulf (subf ((concatenate S2x2048x5x1024 2 [⟨S2x2048x1x1024, ((broadcastInDim S2x2048x1x1024 ![0, 1, 3] bcast_S2x2048x1024_S2x2048x1x1024_0_1_3 (extractStridedSlice S2x2048x1024 ![0, 0, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_0_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 1, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_1_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 2, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_2_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 3, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_3_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 4, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_4_0)) : (⟨S2x2048x1x1024, .f32⟩ : BufTy).Contents (Elt F))⟩] concatenates_S2x2048x1x1024_S2x2048x1x1024_S2x2048x1x1024_S2x2048x1x1024_S2x2048x1x1024_S2x2048x5x1024_d2 : (⟨S2x2048x5x1024, .f32⟩ : BufTy).Contents (Elt F))) (broadcastInDim S2x2048x5x1024 ![0, 1, 2, 3] bcast_S2x2048x1x1024_S2x2048x5x1024_0_1_2_3 (Host.divf (broadcastInDim S2x2048x1x1024 ![0, 1, 3] bcast_S2x2048x1024_S2x2048x1x1024_0_1_3 (Host.reduceAdd ((concatenate S2x2048x5x1024 2 [⟨S2x2048x1x1024, ((broadcastInDim S2x2048x1x1024 ![0, 1, 3] bcast_S2x2048x1024_S2x2048x1x1024_0_1_3 (extractStridedSlice S2x2048x1024 ![0, 0, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_0_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 1, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_1_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 2, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_2_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 3, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_3_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 4, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_4_0)) : (⟨S2x2048x1x1024, .f32⟩ : BufTy).Contents (Elt F))⟩] concatenates_S2x2048x1x1024_S2x2048x1x1024_S2x2048x1x1024_S2x2048x1x1024_S2x2048x1x1024_S2x2048x5x1024_d2 : (⟨S2x2048x5x1024, .f32⟩ : BufTy).Contents (Elt F))) (constant S_ .f32 0x00000000#32) reducesTo_S2x2048x5x1024_S2x2048x1024_d2 h_S_)) (broadcastInDim S2x2048x1x1024 ![] bcast_S_S2x2048x1x1024 (constant S_ .f32 0x40A00000#32))))) (subf ((concatenate S2x2048x5x1024 2 [⟨S2x2048x1x1024, ((broadcastInDim S2x2048x1x1024 ![0, 1, 3] bcast_S2x2048x1024_S2x2048x1x1024_0_1_3 (extractStridedSlice S2x2048x1024 ![0, 0, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_0_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 1, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_1_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 2, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_2_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 3, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_3_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 4, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_4_0)) : (⟨S2x2048x1x1024, .f32⟩ : BufTy).Contents (Elt F))⟩] concatenates_S2x2048x1x1024_S2x2048x1x1024_S2x2048x1x1024_S2x2048x1x1024_S2x2048x1x1024_S2x2048x5x1024_d2 : (⟨S2x2048x5x1024, .f32⟩ : BufTy).Contents (Elt F))) (broadcastInDim S2x2048x5x1024 ![0, 1, 2, 3] bcast_S2x2048x1x1024_S2x2048x5x1024_0_1_2_3 (Host.divf (broadcastInDim S2x2048x1x1024 ![0, 1, 3] bcast_S2x2048x1024_S2x2048x1x1024_0_1_3 (Host.reduceAdd ((concatenate S2x2048x5x1024 2 [⟨S2x2048x1x1024, ((broadcastInDim S2x2048x1x1024 ![0, 1, 3] bcast_S2x2048x1024_S2x2048x1x1024_0_1_3 (extractStridedSlice S2x2048x1024 ![0, 0, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_0_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 1, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_1_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 2, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_2_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 3, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_3_0)) : (⟨S2x2048x1x1024, .f32⟩ : BufTy).Contents (Elt F))⟩, ⟨S2x2048x1x1024, ((broadcastInDim S2x2048x1x1024 ![0, 1, 3] bcast_S2x2048x1024_S2x2048x1x1024_0_1_3 (extractStridedSlice S2x2048x1024 ![0, 4, 0] ((concatenate S2x2052x1024 1 [⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x1x1024, ((extractStridedSlice S2x1x1024 ![0, 0, 0] (m ((c.tc : Thread nD τ).loc main_arg0)) slices_S2x2048x1024_S2x1x1024_0_0_0) : (⟨S2x1x1024, .f32⟩ : BufTy).Contents (Elt F))⟩, ⟨S2x2048x1024, ((m ((c.tc : Thread nD τ).loc main_arg0)) : (⟨S2x2048x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩, ⟨S2x1x1024, ((extractStridedSlice S2x1x1024 ![0, 2047, 0] (m ((c.tc : Thread nD τ).loc main_arg0)) slices_S2x2048x1024_S2x1x1024_0_2047_0) : (⟨S2x1x1024, .f32⟩ : BufTy).Contents (Elt F))⟩] concatenates_S2x1x1024_S2x1x1024_S2x2048x1024_S2x1x1024_S2x1x1024_S2x2052x1024_d1 : (⟨S2x2052x1024, .f32⟩ : BufTy).Contents (Elt F))) slices_S2x2052x1024_S2x2048x1024_0_4_0)) : (⟨S2x2048x1x1024, .f32⟩ : BufTy).Contents (Elt F))⟩] concatenates_S2x2048x1x1024_S2x2048x1x1024_S2x2048x1x1024_S2x2048x1x1024_S2x2048x1x1024_S2x2048x5x1024_d2 : (⟨S2x2048x5x1024, .f32⟩ : BufTy).Contents (Elt F))) (constant S_ .f32 0x00000000#32) reducesTo_S2x2048x5x1024_S2x2048x1024_d2 h_S_)) (broadcastInDim S2x2048x1x1024 ![] bcast_S_S2x2048x1x1024 (constant S_ .f32 0x40A00000#32)))))) (constant S_ .f32 0x00000000#32) reducesTo_S2x2048x5x1024_S2x2048x1024_d2 h_S_) (broadcastInDim S2x2048x1024 ![] bcast_S_S2x2048x1024 (subf (constant S_ .f32 0x40A00000#32) (sitofp .f32 (constantI S_ 32 1#32))))) (broadcastInDim S2x2048x1024 ![] bcast_S_S2x2048x1024 (id (constant S_ .f32 0x7FC00000#32)))) (constant S_ .f32 0x00000000#32) reducesTo_S2x2048x1024_S2x2048_d2 h_S_)) : (⟨S2x2048x1, .f32⟩ : BufTy).Contents (Elt F))⟩] concatenates_S2x2048x1_S2x2048x1_S2x2048x1_S2x2048x1_S2x2048x1_S2x2048x1_S2x2048x1_S2x2048x1_S2x2048x8_d2 : (⟨S2x2048x8, .f32⟩ : BufTy).Contents (Elt F))

/-- `res_main_v86` by its position among the values @main returns, 0 counting from 0: the name for hand proofs to cite, since
    a re-print renumbers `main_v86`. An abbreviation: it unfolds to the `res_main_v86` that `run` states. -/
abbrev res_out0 (m : (ℓ : Loc nD τ sig) → Buf (Elt F) ℓ) (c : Dev nD) : Buf (Elt F) ((c.tc : Thread nD τ).loc main_v86) := res_main_v86 m c

set_option maxRecDepth 8192 in
set_option maxHeartbeats 64800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = res_main_v86 m c
      ∧ r.2.mem ((c.tc : Thread nD τ).loc main_v87) = broadcastInDim S2x1x1 ![0] bcast_S2_S2x1x1_0 (Host.reduceAdd (select (broadcastInDim S2x1024 ![] bcast_S_S2x1024 (cmpf .ogt (subf (constant S_ .f32 0x44FFE000#32) (sitofp .f32 (constantI S_ 32 1#32)) : (⟨S_, .f32⟩ : BufTy).Contents (Elt F)) (constant S_ .f32 0x00000000#32))) (Host.divf (Host.reduceAdd (mulf (subf (subf (extractStridedSlice S2x2047x1024 ![0, 1, 0] (m ((c.tc : Thread nD τ).loc main_arg0)) slices_S2x2048x1024_S2x2047x1024_0_1_0) (extractStridedSlice S2x2047x1024 ![0, 0, 0] (m ((c.tc : Thread nD τ).loc main_arg0)) slices_S2x2048x1024_S2x2047x1024_0_0_0)) (broadcastInDim S2x2047x1024 ![0, 1, 2] bcast_S2x1x1024_S2x2047x1024_0_1_2 (Host.divf (broadcastInDim S2x1x1024 ![0, 2] bcast_S2x1024_S2x1x1024_0_2 (Host.reduceAdd (subf (extractStridedSlice S2x2047x1024 ![0, 1, 0] (m ((c.tc : Thread nD τ).loc main_arg0)) slices_S2x2048x1024_S2x2047x1024_0_1_0) (extractStridedSlice S2x2047x1024 ![0, 0, 0] (m ((c.tc : Thread nD τ).loc main_arg0)) slices_S2x2048x1024_S2x2047x1024_0_0_0)) (constant S_ .f32 0x00000000#32) reducesTo_S2x2047x1024_S2x1024_d1 h_S_)) (broadcastInDim S2x1x1024 ![] bcast_S_S2x1x1024 (constant S_ .f32 0x44FFE000#32))))) (subf (subf (extractStridedSlice S2x2047x1024 ![0, 1, 0] (m ((c.tc : Thread nD τ).loc main_arg0)) slices_S2x2048x1024_S2x2047x1024_0_1_0) (extractStridedSlice S2x2047x1024 ![0, 0, 0] (m ((c.tc : Thread nD τ).loc main_arg0)) slices_S2x2048x1024_S2x2047x1024_0_0_0)) (broadcastInDim S2x2047x1024 ![0, 1, 2] bcast_S2x1x1024_S2x2047x1024_0_1_2 (Host.divf (broadcastInDim S2x1x1024 ![0, 2] bcast_S2x1024_S2x1x1024_0_2 (Host.reduceAdd (subf (extractStridedSlice S2x2047x1024 ![0, 1, 0] (m ((c.tc : Thread nD τ).loc main_arg0)) slices_S2x2048x1024_S2x2047x1024_0_1_0) (extractStridedSlice S2x2047x1024 ![0, 0, 0] (m ((c.tc : Thread nD τ).loc main_arg0)) slices_S2x2048x1024_S2x2047x1024_0_0_0)) (constant S_ .f32 0x00000000#32) reducesTo_S2x2047x1024_S2x1024_d1 h_S_)) (broadcastInDim S2x1x1024 ![] bcast_S_S2x1x1024 (constant S_ .f32 0x44FFE000#32)))))) (constant S_ .f32 0x00000000#32) reducesTo_S2x2047x1024_S2x1024_d1 h_S_) (broadcastInDim S2x1024 ![] bcast_S_S2x1024 (subf (constant S_ .f32 0x44FFE000#32) (sitofp .f32 (constantI S_ 32 1#32))))) (broadcastInDim S2x1024 ![] bcast_S_S2x1024 (id (constant S_ .f32 0x7FC00000#32)))) (constant S_ .f32 0x00000000#32) reducesTo_S2x1024_S2_d1 h_S_)
      ∧ r.2.mem ((c.tc : Thread nD τ).loc main_arg0) = m ((c.tc : Thread nD τ).loc main_arg0) :=
  (θ_run defs _ _).mono (fun _ h c => ⟨(h c main_v86).trans (by simp only [ops, TRef.binary, TRef.nullary, TRef.ternary, TRef.unary, TRef.toBuf, TRef.ofBuf, cast_eq]; after_results_simp <;> (try dsimp only [Matrix.cons_val]) <;> (try after_results_simp) <;> (try dsimp only [Matrix.cons_val]) <;> (try after_results_simp) <;> (try dsimp only [Matrix.cons_val]) <;> (try after_results_simp) <;> rfl <;> (unfold res_main_v86; rfl)),
      (h c main_v87).trans (by simp only [ops, TRef.binary, TRef.nullary, TRef.ternary, TRef.unary, TRef.toBuf, TRef.ofBuf, cast_eq]; after_results_simp <;> (try dsimp only [Matrix.cons_val]) <;> (try after_results_simp) <;> (try dsimp only [Matrix.cons_val]) <;> (try after_results_simp) <;> (try dsimp only [Matrix.cons_val]) <;> (try after_results_simp) <;> rfl),
      (h c main_arg0).trans (by simp only [ops, TRef.binary, TRef.nullary, TRef.ternary, TRef.unary, TRef.toBuf, TRef.ofBuf, cast_eq]; after_results_simp <;> (try dsimp only [Matrix.cons_val]) <;> (try after_results_simp) <;> (try dsimp only [Matrix.cons_val]) <;> (try after_results_simp) <;> (try dsimp only [Matrix.cons_val]) <;> (try after_results_simp) <;> rfl)⟩)
    (run_seq scopedRefs_eq scopedSems_eq defs main (fun _ => ops) main_eq (fun _ => ops_sub) m ρ)

end Cert.StRun

end
-- ==== Proof.StRef.lean ====
/- The statistics reference's results, piece by piece, and what each piece holds at an index. -/
module

public import proofs.«01_k».proof.Proof.StSpec
public import proofs.«01_k».proof.Proof.StRun
public import proofs.«01_k».proof.Proof.Softmax
public import Idealize.ShloMosaic.Lib.Pointwise

@[expose] public section

set_option maxRecDepth 16384

noncomputable section

namespace Cert.Stats.Ref

open Idealize.ShloMosaic Idealize.ShloMosaic.TcCoe Cert.StatsReferenceIdeal Cert.StatsReferenceIdeal.Gen

/-- The series with each end repeated twice. -/
def padOf (X : FVec Ideal S2x2048x1024 .f32) : FVec Ideal S2x2052x1024 .f32 :=
  (concatenate S2x2052x1024 1 [⟨S2x1x1024, ((extractStridedSlice S2x1x1024 ![0, 0, 0] X
    slices_S2x2048x1024_S2x1x1024_0_0_0) : (⟨S2x1x1024, .f32⟩ : BufTy).Contents (Elt Ideal))⟩, ⟨S2x1x1024,
    ((extractStridedSlice S2x1x1024 ![0, 0, 0] X slices_S2x2048x1024_S2x1x1024_0_0_0) : (⟨S2x1x1024, .f32⟩ :
    BufTy).Contents (Elt Ideal))⟩, ⟨S2x2048x1024, (X : (⟨S2x2048x1024, .f32⟩ : BufTy).Contents (Elt Ideal))⟩,
    ⟨S2x1x1024, ((extractStridedSlice S2x1x1024 ![0, 2047, 0] X slices_S2x2048x1024_S2x1x1024_0_2047_0) : (⟨S2x1x1024,
    .f32⟩ : BufTy).Contents (Elt Ideal))⟩, ⟨S2x1x1024, ((extractStridedSlice S2x1x1024 ![0, 2047, 0] X
    slices_S2x2048x1024_S2x1x1024_0_2047_0) : (⟨S2x1x1024, .f32⟩ : BufTy).Contents (Elt Ideal))⟩]
    concatenates_S2x1x1024_S2x1x1024_S2x2048x1024_S2x1x1024_S2x1x1024_S2x2052x1024_d1 : (⟨S2x2052x1024, .f32⟩ :
    BufTy).Contents (Elt Ideal))

/-- The five values around every row. -/
def winOf (X : FVec Ideal S2x2048x1024 .f32) : FVec Ideal S2x2048x5x1024 .f32 :=
  (concatenate S2x2048x5x1024 2 [⟨S2x2048x1x1024, ((broadcastInDim S2x2048x1x1024 ![0, 1, 3]
    bcast_S2x2048x1024_S2x2048x1x1024_0_1_3 (extractStridedSlice S2x2048x1024 ![0, 0, 0] (padOf X)
    slices_S2x2052x1024_S2x2048x1024_0_0_0)) : (⟨S2x2048x1x1024, .f32⟩ : BufTy).Contents (Elt Ideal))⟩, ⟨S2x2048x1x1024,
    ((broadcastInDim S2x2048x1x1024 ![0, 1, 3] bcast_S2x2048x1024_S2x2048x1x1024_0_1_3 (extractStridedSlice S2x2048x1024
    ![0, 1, 0] (padOf X) slices_S2x2052x1024_S2x2048x1024_0_1_0)) : (⟨S2x2048x1x1024, .f32⟩ : BufTy).Contents (Elt
    Ideal))⟩, ⟨S2x2048x1x1024, ((broadcastInDim S2x2048x1x1024 ![0, 1, 3] bcast_S2x2048x1024_S2x2048x1x1024_0_1_3
    (extractStridedSlice S2x2048x1024 ![0, 2, 0] (padOf X) slices_S2x2052x1024_S2x2048x1024_0_2_0)) : (⟨S2x2048x1x1024,
    .f32⟩ : BufTy).Contents (Elt Ideal))⟩, ⟨S2x2048x1x1024, ((broadcastInDim S2x2048x1x1024 ![0, 1, 3]
    bcast_S2x2048x1024_S2x2048x1x1024_0_1_3 (extractStridedSlice S2x2048x1024 ![0, 3, 0] (padOf X)
    slices_S2x2052x1024_S2x2048x1024_0_3_0)) : (⟨S2x2048x1x1024, .f32⟩ : BufTy).Contents (Elt Ideal))⟩, ⟨S2x2048x1x1024,
    ((broadcastInDim S2x2048x1x1024 ![0, 1, 3] bcast_S2x2048x1024_S2x2048x1x1024_0_1_3 (extractStridedSlice S2x2048x1024
    ![0, 4, 0] (padOf X) slices_S2x2052x1024_S2x2048x1024_0_4_0)) : (⟨S2x2048x1x1024, .f32⟩ : BufTy).Contents (Elt
    Ideal))⟩] concatenates_S2x2048x1x1024_S2x2048x1x1024_S2x2048x1x1024_S2x2048x1x1024_S2x2048x1x1024_S2x2048x5x1024_d2
    : (⟨S2x2048x5x1024, .f32⟩ : BufTy).Contents (Elt Ideal))

/-- Their distances from their mean. -/
def devOf (X : FVec Ideal S2x2048x1024 .f32) : FVec Ideal S2x2048x5x1024 .f32 :=
  subf (winOf X) (broadcastInDim S2x2048x5x1024 ![0, 1, 2, 3] bcast_S2x2048x1x1024_S2x2048x5x1024_0_1_2_3 (Host.divf
    (broadcastInDim S2x2048x1x1024 ![0, 1, 3] bcast_S2x2048x1024_S2x2048x1x1024_0_1_3 (Host.reduceAdd (winOf X)
    (constant S_ .f32 0x00000000#32) reducesTo_S2x2048x5x1024_S2x2048x1024_d2 h_S_)) (broadcastInDim S2x2048x1x1024 ![]
    bcast_S_S2x2048x1x1024 (constant S_ .f32 0x40A00000#32))))

/-- Their sample variance. -/
def varOf (X : FVec Ideal S2x2048x1024 .f32) : FVec Ideal S2x2048x1024 .f32 :=
  select (broadcastInDim S2x2048x1024 ![] bcast_S_S2x2048x1024 (cmpf (F := Ideal) (φ := .f32) .ogt (subf (constant S_
    .f32 0x40A00000#32) (sitofp .f32 (constantI S_ 32 1#32))) (constant S_ .f32 0x00000000#32))) (Host.divf
    (Host.reduceAdd (mulf (devOf X) (devOf X)) (constant S_ .f32 0x00000000#32) reducesTo_S2x2048x5x1024_S2x2048x1024_d2
    h_S_) (broadcastInDim S2x2048x1024 ![] bcast_S_S2x2048x1024 (subf (constant S_ .f32 0x40A00000#32) (sitofp .f32
    (constantI S_ 32 1#32))))) (broadcastInDim S2x2048x1024 ![] bcast_S_S2x2048x1024 (id (constant S_ .f32
    0x7FC00000#32)))

/-- The series less its mean. -/
def centredOf (X : FVec Ideal S2x2048x1024 .f32) : FVec Ideal S2x2048x1024 .f32 :=
  subf X (broadcastInDim S2x2048x1024 ![0, 1, 2] bcast_S2x1x1024_S2x2048x1024_0_1_2 (Host.divf (broadcastInDim S2x1x1024
    ![0, 2] bcast_S2x1024_S2x1x1024_0_2 (Host.reduceAdd X (constant S_ .f32 0x00000000#32)
    reducesTo_S2x2048x1024_S2x1024_d1 h_S_)) (broadcastInDim S2x1x1024 ![] bcast_S_S2x1x1024 (constant S_ .f32
    0x45000000#32))))

/-- The running sums of the centred series. -/
def cumOf (X : FVec Ideal S2x2048x1024 .f32) : FVec Ideal S2x2048x1024 .f32 :=
  Host.reduceWindowAdd ![1, 2048, 1] ![1, 1, 1] ![0, 2047, 0] ![0, 0, 0] (centredOf X) (broadcastInDim S_ ![] bcast_S_S_
    (constant S_ .f32 0x00000000#32)) reduceWindows_S2x2048x1024_S2x2048x1024_w1s1p0_0_w2048s1p2047_0_w1s1p0_0 h_S_

/-- The eight numbers of every row. -/
def statsOf (X : FVec Ideal S2x2048x1024 .f32) : FVec Ideal S2x2048x8 .f32 :=
  (concatenate S2x2048x8 2 [⟨S2x2048x1, ((broadcastInDim S2x2048x1 ![0, 1] bcast_S2x2048_S2x2048x1_0_1 (Host.reduceAdd
    (pad S2x2048x1024 ![0, 0, 0] ![0, 1, 0] ![0, 0, 0] (Host.divf (Host.absf (subf (extractStridedSlice S2x2047x1024
    ![0, 1, 0] X slices_S2x2048x1024_S2x2047x1024_0_1_0) (extractStridedSlice S2x2047x1024 ![0, 0, 0] X
    slices_S2x2048x1024_S2x2047x1024_0_0_0))) (broadcastInDim S2x2047x1024 ![] bcast_S_S2x2047x1024 (constant S_ .f32
    0x3F800000#32))) (sitofp .f32 (constantI S_ 32 0#32)) pads_S2x2047x1024_S2x2048x1024_000_010_000 h_S_) (constant S_
    .f32 0x00000000#32) reducesTo_S2x2048x1024_S2x2048_d2 h_S_)) : (⟨S2x2048x1, .f32⟩ : BufTy).Contents (Elt Ideal))⟩,
    ⟨S2x2048x1, ((broadcastInDim S2x2048x1 ![0, 1] bcast_S2x2048_S2x2048x1_0_1 (Host.reduceAdd (pad S2x2048x1024 ![0, 0,
    0] ![0, 2, 0] ![0, 0, 0] (Host.divf (Host.absf (subf (extractStridedSlice S2x2046x1024 ![0, 2, 0] X
    slices_S2x2048x1024_S2x2046x1024_0_2_0) (extractStridedSlice S2x2046x1024 ![0, 0, 0] X
    slices_S2x2048x1024_S2x2046x1024_0_0_0))) (broadcastInDim S2x2046x1024 ![] bcast_S_S2x2046x1024 (constant S_ .f32
    0x40000000#32))) (sitofp .f32 (constantI S_ 32 0#32)) pads_S2x2046x1024_S2x2048x1024_000_020_000 h_S_) (constant S_
    .f32 0x00000000#32) reducesTo_S2x2048x1024_S2x2048_d2 h_S_)) : (⟨S2x2048x1, .f32⟩ : BufTy).Contents (Elt Ideal))⟩,
    ⟨S2x2048x1, ((broadcastInDim S2x2048x1 ![0, 1] bcast_S2x2048_S2x2048x1_0_1 (Host.reduceAdd (pad S2x2048x1024 ![0, 0,
    0] ![0, 3, 0] ![0, 0, 0] (Host.divf (Host.absf (subf (extractStridedSlice S2x2045x1024 ![0, 3, 0] X
    slices_S2x2048x1024_S2x2045x1024_0_3_0) (extractStridedSlice S2x2045x1024 ![0, 0, 0] X
    slices_S2x2048x1024_S2x2045x1024_0_0_0))) (broadcastInDim S2x2045x1024 ![] bcast_S_S2x2045x1024 (constant S_ .f32
    0x40400000#32))) (sitofp .f32 (constantI S_ 32 0#32)) pads_S2x2045x1024_S2x2048x1024_000_030_000 h_S_) (constant S_
    .f32 0x00000000#32) reducesTo_S2x2048x1024_S2x2048_d2 h_S_)) : (⟨S2x2048x1, .f32⟩ : BufTy).Contents (Elt Ideal))⟩,
    ⟨S2x2048x1, ((broadcastInDim S2x2048x1 ![0, 1] bcast_S2x2048_S2x2048x1_0_1 (Host.reduceAdd (pad S2x2048x1024 ![0, 0,
    0] ![0, 4, 0] ![0, 0, 0] (Host.divf (Host.absf (subf (extractStridedSlice S2x2044x1024 ![0, 4, 0] X
    slices_S2x2048x1024_S2x2044x1024_0_4_0) (extractStridedSlice S2x2044x1024 ![0, 0, 0] X
    slices_S2x2048x1024_S2x2044x1024_0_0_0))) (broadcastInDim S2x2044x1024 ![] bcast_S_S2x2044x1024 (constant S_ .f32
    0x40800000#32))) (sitofp .f32 (constantI S_ 32 0#32)) pads_S2x2044x1024_S2x2048x1024_000_040_000 h_S_) (constant S_
    .f32 0x00000000#32) reducesTo_S2x2048x1024_S2x2048_d2 h_S_)) : (⟨S2x2048x1, .f32⟩ : BufTy).Contents (Elt Ideal))⟩,
    ⟨S2x2048x1, ((broadcastInDim S2x2048x1 ![0, 1] bcast_S2x2048_S2x2048x1_0_1 (Host.reduceAdd (pad S2x2048x1024 ![0, 0,
    0] ![0, 5, 0] ![0, 0, 0] (Host.divf (Host.absf (subf (extractStridedSlice S2x2043x1024 ![0, 5, 0] X
    slices_S2x2048x1024_S2x2043x1024_0_5_0) (extractStridedSlice S2x2043x1024 ![0, 0, 0] X
    slices_S2x2048x1024_S2x2043x1024_0_0_0))) (broadcastInDim S2x2043x1024 ![] bcast_S_S2x2043x1024 (constant S_ .f32
    0x40A00000#32))) (sitofp .f32 (constantI S_ 32 0#32)) pads_S2x2043x1024_S2x2048x1024_000_050_000 h_S_) (constant S_
    .f32 0x00000000#32) reducesTo_S2x2048x1024_S2x2048_d2 h_S_)) : (⟨S2x2048x1, .f32⟩ : BufTy).Contents (Elt Ideal))⟩,
    ⟨S2x2048x1, ((broadcastInDim S2x2048x1 ![0, 1] bcast_S2x2048_S2x2048x1_0_1 (Host.reduceAdd (pad S2x2048x1024 ![0, 0,
    0] ![0, 1, 0] ![0, 0, 0] (Host.absf (subf (extractStridedSlice S2x2047x1024 ![0, 1, 0] (cumOf X)
    slices_S2x2048x1024_S2x2047x1024_0_1_0) (extractStridedSlice S2x2047x1024 ![0, 0, 0] (cumOf X)
    slices_S2x2048x1024_S2x2047x1024_0_0_0))) (sitofp .f32 (constantI S_ 32 0#32))
    pads_S2x2047x1024_S2x2048x1024_000_010_000 h_S_) (constant S_ .f32 0x00000000#32) reducesTo_S2x2048x1024_S2x2048_d2
    h_S_)) : (⟨S2x2048x1, .f32⟩ : BufTy).Contents (Elt Ideal))⟩, ⟨S2x2048x1, ((broadcastInDim S2x2048x1 ![0, 1]
    bcast_S2x2048_S2x2048x1_0_1 (Host.reduceAdd (mulf X X) (constant S_ .f32 0x00000000#32)
    reducesTo_S2x2048x1024_S2x2048_d2 h_S_)) : (⟨S2x2048x1, .f32⟩ : BufTy).Contents (Elt Ideal))⟩, ⟨S2x2048x1,
    ((broadcastInDim S2x2048x1 ![0, 1] bcast_S2x2048_S2x2048x1_0_1 (Host.reduceAdd (varOf X) (constant S_ .f32
    0x00000000#32) reducesTo_S2x2048x1024_S2x2048_d2 h_S_)) : (⟨S2x2048x1, .f32⟩ : BufTy).Contents (Elt Ideal))⟩]
    concatenates_S2x2048x1_S2x2048x1_S2x2048x1_S2x2048x1_S2x2048x1_S2x2048x1_S2x2048x1_S2x2048x1_S2x2048x8_d2 :
    (⟨S2x2048x8, .f32⟩ : BufTy).Contents (Elt Ideal))

/-- The steps. -/
def difOf (X : FVec Ideal S2x2048x1024 .f32) : FVec Ideal S2x2047x1024 .f32 :=
  subf (extractStridedSlice S2x2047x1024 ![0, 1, 0] X slices_S2x2048x1024_S2x2047x1024_0_1_0) (extractStridedSlice
    S2x2047x1024 ![0, 0, 0] X slices_S2x2048x1024_S2x2047x1024_0_0_0)

/-- Their distances from their mean. -/
def difDevOf (X : FVec Ideal S2x2048x1024 .f32) : FVec Ideal S2x2047x1024 .f32 :=
  subf (difOf X) (broadcastInDim S2x2047x1024 ![0, 1, 2] bcast_S2x1x1024_S2x2047x1024_0_1_2 (Host.divf (broadcastInDim
    S2x1x1024 ![0, 2] bcast_S2x1024_S2x1x1024_0_2 (Host.reduceAdd (difOf X) (constant S_ .f32 0x00000000#32)
    reducesTo_S2x2047x1024_S2x1024_d1 h_S_)) (broadcastInDim S2x1x1024 ![] bcast_S_S2x1x1024 (constant S_ .f32
    0x44FFE000#32))))

/-- Their sample variance. -/
def difVarOf (X : FVec Ideal S2x2048x1024 .f32) : FVec Ideal S2x1024 .f32 :=
  select (broadcastInDim S2x1024 ![] bcast_S_S2x1024 (cmpf (F := Ideal) (φ := .f32) .ogt (subf (constant S_ .f32
    0x44FFE000#32) (sitofp .f32 (constantI S_ 32 1#32))) (constant S_ .f32 0x00000000#32))) (Host.divf (Host.reduceAdd
    (mulf (difDevOf X) (difDevOf X)) (constant S_ .f32 0x00000000#32) reducesTo_S2x2047x1024_S2x1024_d1 h_S_)
    (broadcastInDim S2x1024 ![] bcast_S_S2x1024 (subf (constant S_ .f32 0x44FFE000#32) (sitofp .f32 (constantI S_ 32
    1#32))))) (broadcastInDim S2x1024 ![] bcast_S_S2x1024 (id (constant S_ .f32 0x7FC00000#32)))

/-- The variances summed over the features. -/
def freqOf (X : FVec Ideal S2x2048x1024 .f32) : FVec Ideal S2x1x1 .f32 :=
  broadcastInDim S2x1x1 ![0] bcast_S2_S2x1x1_0 (Host.reduceAdd (difVarOf X) (constant S_ .f32 0x00000000#32)
    reducesTo_S2x1024_S2_d1 h_S_)

/-- The run's first result is these pieces. -/
theorem stats_res (m : (ℓ : Loc nD τ sig) → Buf (Elt Ideal) ℓ) (c : Dev nD) :
    Cert.StRun.res_main_v86 m c = statsOf (m ((c.tc : Thread nD τ).loc main_arg0)) := by
  unfold Cert.StRun.res_main_v86 statsOf cumOf centredOf varOf devOf winOf padOf
  rfl

section
variable (X : S2x2048x1024.Idx → EReal) (b : Fin 2) (e : Fin 1024)

abbrev series (X : S2x2048x1024.Idx → EReal) (b : Fin 2) (e : Fin 1024) : Col := fun r => X (ix3 b r e)

theorem int_0 : FloatOps.sitofp (F := Ideal) FTy.f32 (0#32) = (0 : EReal) := by
  show (((0#32 : BitVec 32).toInt : ℝ) : EReal) = 0
  simp

theorem int_1 : FloatOps.sitofp (F := Ideal) FTy.f32 (1#32) = ((1 : ℝ) : EReal) := by
  show (((1#32 : BitVec 32).toInt : ℝ) : EReal) = ((1 : ℝ) : EReal)
  simp

theorem padOf_apply (p : Fin 2052) : padOf X (ix3 b p e) = X (ix3 b (row (p.val - 2)) e) := by
  pointwise [padOf]
  repeat' split
  all_goals refine congrArg (fun a => X (ix3 b a e)) (Fin.ext ?_); simp only [row]; omega

theorem winOf_apply (r : Fin 2048) (d : Fin 5) : winOf X (ix4 b r d e) = win (series X b e) r d := by
  match d with
  | 0 =>
    pointwise [winOf, padOf_apply]
    exact congrArg (fun n => X (ix3 b (row n) e)) (show _ = r.val + 0 - 2 by omega)
  | 1 =>
    pointwise [winOf, padOf_apply]
    exact congrArg (fun n => X (ix3 b (row n) e)) (show _ = r.val + 1 - 2 by omega)
  | 2 =>
    pointwise [winOf, padOf_apply]
    exact congrArg (fun n => X (ix3 b (row n) e)) (show _ = r.val + 2 - 2 by omega)
  | 3 =>
    pointwise [winOf, padOf_apply]
    exact congrArg (fun n => X (ix3 b (row n) e)) (show _ = r.val + 3 - 2 by omega)
  | 4 =>
    pointwise [winOf, padOf_apply]
    exact congrArg (fun n => X (ix3 b (row n) e)) (show _ = r.val + 4 - 2 by omega)

theorem devOf_apply (r : Fin 2048) (d : Fin 5) :
    devOf X (ix4 b r d e) = win (series X b e) r d - mean5 (win (series X b e) r) := by
  pointwise [devOf, winOf_apply, mean5, bits_5]

theorem varOf_apply (r : Fin 2048) : varOf X (ix3 b r e) = var5 (win (series X b e) r) := by
  pointwise [varOf, devOf_apply, var5, bits_5, bits_0, int_1]
  rw [← EReal.coe_sub, show (5 : ℝ) - 1 = 4 by norm_num, if_pos (EReal.coe_pos.2 (by norm_num))]

theorem difOf_apply (i : Fin 2047) : difOf X (ix3 b i e) = step (series X b e) i := by
  pointwise [difOf, step]

theorem difDevOf_apply (i : Fin 2047) :
    difDevOf X (ix3 b i e) = step (series X b e) i - meanStep (series X b e) := by
  pointwise [difDevOf, difOf_apply, meanStep, bits_2047]

theorem difVarOf_apply : difVarOf X (ix2 b e) = Ideal.div (sqStep (series X b e)) ((2046 : ℝ) : EReal) := by
  pointwise [difVarOf, difDevOf_apply, sqStep, bits_2047, bits_0, int_1]
  rw [← EReal.coe_sub, show (2047 : ℝ) - 1 = 2046 by norm_num, if_pos (EReal.coe_pos.2 (by norm_num))]

theorem freqOf_apply (u w : Fin 1) :
    freqOf X (ix3 b u w) = ∑ e, Ideal.div (sqStep (series X b e)) ((2046 : ℝ) : EReal) := by
  pointwise [freqOf, difVarOf_apply]

theorem centredOf_apply (r : Fin 2048) : centredOf X (ix3 b r e) = X (ix3 b r e) - meanCol (series X b e) := by
  pointwise [centredOf, meanCol, bits_2048]

/-- A window sum is the sum, over the window's positions, of the entries it covers. -/
theorem window_sum {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j
      = ∑ k : (⟨s.rank, window⟩ : Shape).Idx,
          if hin : ∀ a, lo a ≤ (j (a.cast h.1.symm)).val * strides a + (k a).val
              ∧ (j (a.cast h.1.symm)).val * strides a + (k a).val - lo a < s.size a
            then x (fun a => ⟨(j (a.cast h.1.symm)).val * strides a + (k a).val - lo a, (hin a).2⟩) else 0 := by
  unfold Host.reduceWindow
  rw [h0]
  refine Eq.trans ?_ (sum_idx_eq_foldl (M := EReal) (⟨s.rank, window⟩ : Shape) _).symm
  dsimp only
  congr! 4
  exact dite_congr rfl (fun _ => rfl) (fun _ => rfl)

/-- The value `k` positions into a series that starts after 2047 zeros. -/
def delayed (y : Col) (k : Nat) : EReal := if h : 2047 ≤ k ∧ k - 2047 < 2048 then y ⟨k - 2047, h.2⟩ else 0

theorem cumOf_apply (r : Fin 2048) :
    cumOf X (ix3 b r e) = ∑ w : Fin 2048, delayed (fun r => centredOf X (ix3 b r e)) (r.val + w.val) := by
  unfold cumOf
  generalize centredOf X = y
  unfold Host.reduceWindowAdd
  rw [Ideal.hostReduceWindowAdd_def]
  unfold Ideal.hostReduceWindowAdd
  rw [window_sum _ _ _ _ _ _ _ _ bits_0, sum_idx3, Fin.sum_univ_one]
  refine Finset.sum_congr rfl fun w _ => ?_
  rw [Fin.sum_univ_one]
  unfold delayed
  by_cases hc : 2047 ≤ r.val + w.val ∧ r.val + w.val - 2047 < 2048
  · rw [dif_pos hc, dif_pos ?_]
    · refine congrArg y (funext fun a => Fin.ext ?_)
      match a with
      | 0 => show b.val * 1 + 0 - 0 = b.val; omega
      | 1 => show r.val * 1 + w.val - 2047 = r.val + w.val - 2047; omega
      | 2 => show e.val * 1 + 0 - 0 = e.val; omega
    · intro a
      match a with
      | 0 => exact ⟨Nat.zero_le _, (show b.val * 1 + 0 - 0 < 2 by omega)⟩
      | 1 => exact ⟨(show 2047 ≤ r.val * 1 + w.val by omega), (show r.val * 1 + w.val - 2047 < 2048 by omega)⟩
      | 2 => exact ⟨Nat.zero_le _, (show e.val * 1 + 0 - 0 < 1024 by omega)⟩
  · rw [dif_neg hc, dif_neg fun hin => hc ?_]
    have h1 : 2047 ≤ r.val * 1 + w.val ∧ r.val * 1 + w.val - 2047 < 2048 := hin 1
    omega

/-- The next running sum adds the next value. -/
theorem cum_next (r : Fin 2048) (h : r.val < 2047) :
    cumOf X (ix3 b ⟨1 + r.val, by omega⟩ e) = cumOf X (ix3 b r e) + centredOf X (ix3 b ⟨1 + r.val, by omega⟩ e) := by
  rw [cumOf_apply, cumOf_apply]
  generalize hy : (fun r => centredOf X (ix3 b r e)) = y
  rw [show centredOf X (ix3 b ⟨1 + r.val, by omega⟩ e) = y ⟨1 + r.val, by omega⟩ from congrFun hy _]
  have h1 := Fin.sum_univ_succ fun w : Fin 2049 => delayed y (r.val + w.val)
  have h2 := Fin.sum_univ_castSucc fun w : Fin 2049 => delayed y (r.val + w.val)
  have h0 : delayed y (r.val + (0 : Fin 2049).val) = 0 := dif_neg fun hc => by
    have := hc.1
    simp only [Fin.val_zero] at this
    omega
  have hl : delayed y (r.val + (Fin.last 2048).val) = y ⟨1 + r.val, by omega⟩ :=
    (dif_pos (show 2047 ≤ r.val + 2048 ∧ r.val + 2048 - 2047 < 2048 by omega)).trans
      (congrArg y (Fin.ext (show r.val + 2048 - 2047 = 1 + r.val by omega)))
  rw [h0, zero_add] at h1
  rw [hl] at h2
  refine Eq.trans (Finset.sum_congr rfl fun w _ => ?_) (h1.symm.trans h2)
  exact congrArg (delayed y) (show 1 + r.val + w.val = r.val + (w.val + 1) by omega)

/-- Sums and quotients of reals are reals. -/
theorem real_sum {n : Nat} (f : Fin n → EReal) (hf : ∀ k, ∃ a : ℝ, f k = a) : ∃ a : ℝ, ∑ k, f k = a := by
  choose g hg using hf
  exact ⟨∑ k, g k, by rw [Cert.Attn.coe_sum]; exact Finset.sum_congr rfl fun k _ => hg k⟩

theorem real_mean (x : Col) (hx : ∀ r, ∃ a : ℝ, x r = a) : ∃ a : ℝ, meanCol x = a := by
  obtain ⟨a, ha⟩ := real_sum x hx
  exact ⟨a * (1 / 2048), by rw [meanCol, Ideal.div_coe (by norm_num), ha, EReal.coe_mul]⟩

theorem real_cum (hX : ∀ i, ∃ a : ℝ, X i = a) (r : Fin 2048) : ∃ a : ℝ, cumOf X (ix3 b r e) = a := by
  rw [cumOf_apply]
  refine real_sum _ fun w => ?_
  unfold delayed
  split
  · show ∃ a : ℝ, centredOf X (ix3 b _ e) = a
    rw [centredOf_apply]
    obtain ⟨a, ha⟩ := hX (ix3 b ⟨r.val + w.val - 2047, by omega⟩ e)
    obtain ⟨n, hn⟩ := real_mean (series X b e) fun r => hX _
    exact ⟨a - n, by rw [ha, hn, EReal.coe_sub]⟩
  · exact ⟨0, rfl⟩

/-- Two neighbouring running sums of real values differ by the next centred value. -/
theorem cum_diff (hX : ∀ i, ∃ a : ℝ, X i = a) (r : Fin 2048) (h : r.val < 2047) :
    cumOf X (ix3 b ⟨1 + r.val, by omega⟩ e) - cumOf X (ix3 b r e)
      = X (ix3 b ⟨1 + r.val, by omega⟩ e) - meanCol (series X b e) := by
  rw [cum_next X b e r h, centredOf_apply]
  obtain ⟨s, hs⟩ := real_cum X b e hX r
  obtain ⟨a, ha⟩ := hX (ix3 b ⟨1 + r.val, by omega⟩ e)
  obtain ⟨n, hn⟩ := real_mean (series X b e) fun r => hX _
  rw [hs, ha, hn]
  rw [← EReal.coe_sub, ← EReal.coe_add, ← EReal.coe_sub]
  exact congrArg Real.toEReal (by ring)

theorem column_ref0 (r : Fin 2048) : statsOf X (ix3 b r 0) = ∑ e, column 0 (series X b e) r := by
  pointwise [statsOf, column, change, bits_1, int_0, absf_eq]

theorem column_ref1 (r : Fin 2048) : statsOf X (ix3 b r 1) = ∑ e, column 1 (series X b e) r := by
  pointwise [statsOf, column, change, bits_2, int_0, absf_eq]

theorem column_ref2 (r : Fin 2048) : statsOf X (ix3 b r 2) = ∑ e, column 2 (series X b e) r := by
  pointwise [statsOf, column, change, bits_3, int_0, absf_eq]

theorem column_ref3 (r : Fin 2048) : statsOf X (ix3 b r 3) = ∑ e, column 3 (series X b e) r := by
  pointwise [statsOf, column, change, bits_4, int_0, absf_eq]

theorem column_ref4 (r : Fin 2048) : statsOf X (ix3 b r 4) = ∑ e, column 4 (series X b e) r := by
  pointwise [statsOf, column, change, bits_5, int_0, absf_eq]

theorem column_ref5 (hX : ∀ i, ∃ a : ℝ, X i = a) (r : Fin 2048) : statsOf X (ix3 b r 5) = ∑ e, column 5 (series X b e) r := by
  pointwise [statsOf, column, int_0, absf_eq]
  refine Finset.sum_congr rfl fun e _ => ?_
  unfold trend
  by_cases h : r.val < 2047
  · rw [dif_pos h, dif_pos h, cum_diff X b e hX r h]
  · rw [dif_neg h, dif_neg h]

theorem column_ref6 (r : Fin 2048) : statsOf X (ix3 b r 6) = ∑ e, column 6 (series X b e) r := by
  pointwise [statsOf, column]

theorem column_ref7 (r : Fin 2048) : statsOf X (ix3 b r 7) = ∑ e, column 7 (series X b e) r := by
  pointwise [statsOf, column, varOf_apply]

theorem stats_apply (hX : ∀ i, ∃ a : ℝ, X i = a) (r : Fin 2048) (j : Fin 8) :
    statsOf X (ix3 b r j) = ∑ e, column j (series X b e) r := by
  match j with
  | 0 => exact column_ref0 X b r
  | 1 => exact column_ref1 X b r
  | 2 => exact column_ref2 X b r
  | 3 => exact column_ref3 X b r
  | 4 => exact column_ref4 X b r
  | 5 => exact column_ref5 X b hX r
  | 6 => exact column_ref6 X b r
  | 7 => exact column_ref7 X b r

end

end Cert.Stats.Ref

end
-- ==== Proof.StMain.lean ====
/- The statistics call and its reference: both leave the same two arrays, on the precondition. -/
module

public import proofs.«01_k».proof.Defs
public import proofs.«01_k».proof.Proof.Pre
public import proofs.«01_k».proof.Proof.StAcc
public import proofs.«01_k».proof.Proof.StRef

@[expose] public section

set_option maxRecDepth 16384

noncomputable section

namespace Cert.Stats.Main

open Idealize.ShloMosaic Idealize.SL.Sem

/-- The shape relations of the precondition's operations hold. -/
theorem pre_facts : Cert.Pre_finite_queries.Facts where
  bcast_S_S2x2048x1024 := by decide
  reducesTo_S2x2048x1024_S_d0_1_2 := by decide
  h_S_ := by decide

/-- An array the precondition's function accepts holds real numbers. -/
theorem real_of_fn [Cert.Pre_finite_queries.Facts] (x : FVec Ideal Cert.Pre_finite_queries.S2x2048x1024 .f32)
    (h : Cert.Pre_finite_queries.fn (F := Ideal) x = fun _ => 1#1) (i : Cert.Pre_finite_queries.S2x2048x1024.Idx) :
    ∃ a : ℝ, x i = (a : EReal) := by
  have e := congrFun h (fun k => k.elim0)
  unfold Cert.Pre_finite_queries.fn at e
  exact Cert.Attn.Pre.all_fin _ _ _ _ _ e i

/-- On the precondition every element of the series is a real number. -/
theorem finite (m : (ℓ : Loc Cert.StatsIdeal.nD Cert.StatsIdeal.τ Cert.StatsIdeal.sig) → Buf (Elt Ideal) ℓ)
    (h : Pre_StatsIdeal_finite_queries (hPre_finite_queries := pre_facts) m) (c : Dev Cert.StatsIdeal.nD)
    (i : Cert.StatsIdeal.S2x2048x1024.Idx) :
    ∃ a : ℝ, (m ((c.tc : Thread Cert.StatsIdeal.nD Cert.StatsIdeal.τ).loc Cert.StatsIdeal.main_arg0) : Cert.StatsIdeal.S2x2048x1024.Idx → EReal) i = (a : EReal) :=
  haveI := pre_facts
  real_of_fn _ (h c) i

/-- The eight columns: the kernel's array is the reference's. -/
theorem stats_eq (X : FVec Ideal Cert.StatsIdeal.S2x2048x1024 .f32) (hX : ∀ i, ∃ a : ℝ, X i = (a : EReal)) :
    Cert.Stats.Ker.statsArr X = Cert.Stats.Ref.statsOf X :=
  funext fun y => by
    rw [eq_ix3 y]
    exact (Cert.Stats.Ref.stats_apply X _ hX _ _).symm

/-- The variance of the changes: the kernel's array is the reference's. -/
theorem freq_eq (X : FVec Ideal Cert.StatsIdeal.S2x2048x1024 .f32) : Cert.Stats.Ker.freqArr X = Cert.Stats.Ref.freqOf X :=
  funext fun y => by
    rw [eq_ix3 y]
    exact (Cert.Stats.Ref.freqOf_apply X _ _ _).symm

/-- The reference ends with its argument unchanged and its counters, of which it has none, at zero. -/
theorem reference_frame : quiescent_StatsReferenceIdeal (hStatsReferenceIdeal := Cert.StatsReferenceIdeal.Gen.facts) := by
  intro m g _
  exact (θ_run Cert.StatsReferenceIdeal.defs _ _).mono
    (fun r h => ⟨fun c => (h c).2.2, sem_eq_zero_of_no_sems (by decide) r.2⟩) (Cert.StRun.run (F := Ideal) m g)

/-- The reference leaves `statsOf` and `freqOf` of its argument. -/
theorem reference_run (m : (ℓ : Loc Cert.StatsReferenceIdeal.nD Cert.StatsReferenceIdeal.τ Cert.StatsReferenceIdeal.sig) → Buf (Elt Ideal) ℓ)
    (g : Dev Cert.StatsReferenceIdeal.nD → PrngReg) :
    θ_run (Cert.StatsReferenceIdeal.defs (F := Ideal)) (onTc (τ := Cert.StatsReferenceIdeal.τ) (Cert.StatsReferenceIdeal.main (F := Ideal))) ⟨m, fun _ => 0, g⟩
      (fun r => ∀ c : Dev Cert.StatsReferenceIdeal.nD,
        r.2.mem ((c.tc : Thread Cert.StatsReferenceIdeal.nD Cert.StatsReferenceIdeal.τ).loc Cert.StatsReferenceIdeal.main_v86)
          = Cert.Stats.Ref.statsOf (m ((c.tc : Thread Cert.StatsReferenceIdeal.nD Cert.StatsReferenceIdeal.τ).loc Cert.StatsReferenceIdeal.main_arg0))
        ∧ r.2.mem ((c.tc : Thread Cert.StatsReferenceIdeal.nD Cert.StatsReferenceIdeal.τ).loc Cert.StatsReferenceIdeal.main_v87)
          = Cert.Stats.Ref.freqOf (m ((c.tc : Thread Cert.StatsReferenceIdeal.nD Cert.StatsReferenceIdeal.τ).loc Cert.StatsReferenceIdeal.main_arg0))
        ∧ r.2.mem ((c.tc : Thread Cert.StatsReferenceIdeal.nD Cert.StatsReferenceIdeal.τ).loc Cert.StatsReferenceIdeal.main_arg0)
          = m ((c.tc : Thread Cert.StatsReferenceIdeal.nD Cert.StatsReferenceIdeal.τ).loc Cert.StatsReferenceIdeal.main_arg0)) :=
  (θ_run Cert.StatsReferenceIdeal.defs _ _).mono
    (fun r h c => ⟨(h c).1.trans (Cert.Stats.Ref.stats_res m c), (h c).2.1.trans rfl, (h c).2.2⟩) (Cert.StRun.run (F := Ideal) m g)

/-- The kernel's call and the reference end with equal results, on the precondition. -/
theorem algebraic : algebraic_StatsIdeal_StatsReferenceIdeal_pre_finite_queries (hStatsIdeal := Cert.StatsIdeal.Gen.facts)
    (hStatsReferenceIdeal := Cert.StatsReferenceIdeal.Gen.facts) (hPre_finite_queries := pre_facts) := by
  intro m g m' g' hpre hagree
  refine ⟨fun c => Cert.Stats.Ref.statsOf (m ((c.tc : Thread Cert.StatsIdeal.nD Cert.StatsIdeal.τ).loc Cert.StatsIdeal.main_arg0)),
    fun c => Cert.Stats.Ref.freqOf (m ((c.tc : Thread Cert.StatsIdeal.nD Cert.StatsIdeal.τ).loc Cert.StatsIdeal.main_arg0)),
    (θ_run Cert.StatsIdeal.defs _ _).mono (fun r h c => ⟨(h c).1.trans ?_, (h c).2.1.trans ?_, (h c).2.2⟩)
      (Cert.StatsIdeal.Value.run_blocks (F := Ideal) m g),
    (θ_run Cert.StatsReferenceIdeal.defs _ _).mono (fun r h c => ⟨(h c).1.trans ?_, (h c).2.1.trans ?_, (h c).2.2⟩)
      (reference_run m' g')⟩
  · exact (Cert.Stats.Ker.arr1 m c).trans (stats_eq _ (finite m hpre c))
  · exact (Cert.Stats.Ker.arr2 m c).trans (freq_eq _)
  · exact congrArg Cert.Stats.Ref.statsOf (hagree c)
  · exact congrArg Cert.Stats.Ref.freqOf (hagree c)

end Cert.Stats.Main

end
-- ==== Proof.PoPick.lean ====
/- Four rounds of "take the first greatest element not yet taken" mark the elements a stable descending sort puts first. -/
module

public import proofs.«01_k».proof.Proof.Gen.PostIdeal.Frame
public import Idealize.ShloMosaic.Lib.SortPrefix
public import Idealize.ShloMosaic.Lib.SortNet.Extract
public import Idealize.ShloMosaic.Lib.Pointwise
public import Idealize.ShloMosaic.PureOps.Ideal.Laws

@[expose] public section

noncomputable section

namespace Cert.Post.Pick

open Idealize.ShloMosaic Idealize.SL.Sem Idealize.ShloMosaic.SortNet

/-! ## Reductions of a whole column -/

theorem one_idx (a b : (⟨1, ![1]⟩ : Shape).Idx) : a = b :=
  funext fun k => Fin.ext (match k with
    | ⟨0, _⟩ => by
      have h1 : (a 0).val < 1 := (a 0).isLt
      have h2 : (b 0).val < 1 := (b 0).isLt
      show (a 0).val = (b 0).val
      omega)

theorem col_idx {n : ℕ} (x : (⟨3, ![1, n, 1]⟩ : Shape).Idx) : ∃ i : Fin n, x = ix3 0 i 0 :=
  ⟨x 1, funext fun k => Fin.ext (match k with
    | ⟨0, _⟩ => by
      have h1 : (x 0).val < 1 := (x 0).isLt
      show (x 0).val = 0
      omega
    | ⟨1, _⟩ => rfl
    | ⟨2, _⟩ => by
      have h1 : (x 2).val < 1 := (x 2).isLt
      show (x 2).val = 0
      omega)⟩

/-- The greatest element of a column. -/
theorem max_all {n : ℕ} (src : FVec Ideal (⟨3, ![1, n, 1]⟩ : Shape) .f32)
    (h : (⟨3, ![1, n, 1]⟩ : Shape).Reduces [1, 2] ⟨1, ![1]⟩) (hφ : FKind.Formats .f32)
    (hacc : (0xFF800000#32 : BitVec 32) = FKind.maximumf.neutral .f32 hφ) (j : (⟨1, ![1]⟩ : Shape).Idx) :
    multiReduction .maximumf [1, 2] ⟨1, ![1]⟩ src 0xFF800000#32 h hφ hacc j = ⨆ i : Fin n, src (ix3 0 i 0) := by
  rw [multiReduction_maximumf_eq_fold]
  change Finset.fold max _ _ _ = _
  refine le_antisymm ((Finset.fold_max_le _).mpr ⟨?_, fun x _ => ?_⟩) (iSup_le fun i => (Finset.le_fold_max _).mpr (Or.inr ⟨ix3 0 i 0, ?_, le_rfl⟩))
  · rw [show FloatOps.ofBits (F := Ideal) .f32 0xFF800000#32 = (⊥ : EReal) from by simp [Ideal.ofBits, Ideal.ieee]]
    exact bot_le
  · obtain ⟨i, rfl⟩ := col_idx x
    exact le_iSup (fun i : Fin n => src (ix3 0 i 0)) i
  · simp only [Finset.mem_filter, Finset.mem_univ, true_and]
    exact one_idx _ _

/-- The least element of a column. -/
theorem min_all {n : ℕ} (src : FVec Ideal (⟨3, ![1, n, 1]⟩ : Shape) .f32)
    (h : (⟨3, ![1, n, 1]⟩ : Shape).Reduces [1, 2] ⟨1, ![1]⟩) (hφ : FKind.Formats .f32)
    (hacc : (0x7F800000#32 : BitVec 32) = FKind.minimumf.neutral .f32 hφ) (j : (⟨1, ![1]⟩ : Shape).Idx) :
    multiReduction .minimumf [1, 2] ⟨1, ![1]⟩ src 0x7F800000#32 h hφ hacc j = ⨅ i : Fin n, src (ix3 0 i 0) := by
  rw [multiReduction_minimumf_eq_fold]
  change Finset.fold min _ _ _ = _
  refine le_antisymm (le_iInf fun i => (Finset.fold_min_le _).mpr (Or.inr ⟨ix3 0 i 0, ?_, le_rfl⟩)) ((Finset.le_fold_min _).mpr ⟨?_, fun x _ => ?_⟩)
  · simp only [Finset.mem_filter, Finset.mem_univ, true_and]
    exact one_idx _ _
  · rw [show FloatOps.ofBits (F := Ideal) .f32 0x7F800000#32 = (⊤ : EReal) from by simp [Ideal.ofBits, Ideal.ieee]]
    exact le_top
  · obtain ⟨i, rfl⟩ := col_idx x
    exact iInf_le (fun i : Fin n => src (ix3 0 i 0)) i

/-- A fold of the signed minimum is at most every word met, and is the start or one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  obtain ⟨h2, h3⟩ := ih
  rw [Finset.fold_insert has]
  have hm := toInt_minsi (g a) (s.fold IntOp.minsi init g)
  refine ⟨fun i hi => ?_, ?_⟩
  · rw [hm]
    rcases Finset.mem_insert.mp hi with rfl | hi
    · exact min_le_left _ _
    · exact le_trans (min_le_right _ _) (h2 i hi)
  · rcases min_choice (g a).toInt (s.fold IntOp.minsi init g).toInt with h | h
    · exact Or.inr ⟨a, Finset.mem_insert_self a s, BitVec.eq_of_toInt_eq (hm.trans h)⟩
    · have e := BitVec.eq_of_toInt_eq (hm.trans h)
      rcases h3 with h3 | ⟨i, hi, h3⟩
      · exact Or.inl (e.trans h3)
      · exact Or.inr ⟨i, Finset.mem_insert_of_mem hi, e.trans h3⟩

/-- The signed minimum of a column of words that hold their own position where `c` holds and `n` elsewhere is the first
    position where `c` holds. -/
theorem min_pos (c : Fin 512 → Prop) [DecidablePred c] (hc : ∃ q, c q) (src : IVec (⟨3, ![1, 512, 1]⟩ : Shape) 32)
    (hsrc : ∀ i : Fin 512, src (ix3 0 i 0) = if c i then BitVec.ofNat 32 i.val else 512#32)
    (h : (⟨3, ![1, 512, 1]⟩ : Shape).Reduces [1, 2] ⟨1, ![1]⟩)
    (hacc : (2147483647#32 : BitVec 32) = IKind.minsi.neutral) (j : (⟨1, ![1]⟩ : Shape).Idx) :
    ∃ p : Fin 512, c p ∧ (∀ q, c q → p ≤ q) ∧
      multiReductionI .minsi [1, 2] ⟨1, ![1]⟩ src 2147483647#32 h hacc j = BitVec.ofNat 32 p.val := by
  have toI : ∀ p : Fin 512, (BitVec.ofNat 32 p.val).toInt = p.val := fun p => by
    have := p.isLt
    have e : (BitVec.ofNat 32 p.val).toNat = p.val := by rw [BitVec.toNat_ofNat]; exact Nat.mod_eq_of_lt (by omega)
    rw [BitVec.toInt_eq_toNat_of_lt (by rw [e]; omega), e]
  rw [multiReductionI_eq_fold]
  change ∃ p : Fin 512, _ ∧ _ ∧ Finset.fold IntOp.minsi _ _ _ = _
  obtain ⟨h2, h3⟩ := fold_minsi_spec src (Finset.univ.filter fun i => h.drop i = j) 2147483647#32
  set r := Finset.fold IntOp.minsi 2147483647#32 src (Finset.univ.filter fun i => h.drop i = j) with hr
  have mem : ∀ i, i ∈ Finset.univ.filter fun i => h.drop i = j := fun i => by
    simp only [Finset.mem_filter, Finset.mem_univ, true_and]
    exact one_idx _ _
  have le : ∀ q, c q → r.toInt ≤ (q.val : Int) := fun q hq => by
    have e := h2 (ix3 0 q 0) (mem _)
    rw [hsrc, if_pos hq, toI] at e
    exact e
  obtain ⟨q, hq⟩ := hc
  have hlt : r.toInt < 512 := lt_of_le_of_lt (le q hq) (by have := q.isLt; omega)
  rcases h3 with h3 | ⟨i, -, h3⟩
  · rw [h3] at hlt
    exact absurd hlt (by decide)
  · obtain ⟨i, rfl⟩ := col_idx i
    rw [hsrc] at h3
    by_cases hi : c i
    · rw [if_pos hi] at h3
      refine ⟨i, hi, fun q hq => ?_, h3⟩
      have e := le q hq
      rw [h3, toI] at e
      exact Fin.le_def.mpr (by exact_mod_cast e)
    · rw [if_neg hi] at h3
      rw [h3] at hlt
      exact absurd hlt (by decide)

/-! ## The order of a stable descending sort -/

/-- `a` comes before `b`: its key is greater, or the keys are equal and its position is smaller. -/
def before {n : ℕ} (v : Fin n → EReal) (a b : Fin n) : Bool :=
  decide (v b < v a) || (decide (v a = v b) && decide (a < b))

theorem before_total {n : ℕ} (v : Fin n → EReal) : StrictTotalBefore (before v) :=
  StrictTotalBefore.of_key_then_position (fun x y : EReal => decide (y < x)) v (fun a => by simp)
    (fun a b c h h' => by simp only [decide_eq_true_eq] at h h' ⊢; exact lt_trans h' h)
    (fun a b => by simp only [decide_eq_true_eq]; rcases lt_trichotomy a b with h | h | h <;> simp [h])

/-- Sorting a list of increasing positions by the key alone, stably, is sorting by the key and then the position. -/
theorem stableSort_key {n : ℕ} (v : Fin n → EReal) (l : List (Fin n)) (hl : l.Pairwise (· < ·)) :
    stableSort (fun a b => decide (v b < v a)) l = stableSort (before v) l := by
  induction l with
  | nil => rfl
  | cons a l ih =>
    rw [List.pairwise_cons] at hl
    unfold stableSort
    rw [ih hl.2]
    refine insertBefore_congr _ _ a _ fun b hb => ?_
    have hab : a < b := hl.1 b ((perm_stableSort (before v) l).mem_iff.mp hb)
    have : ¬ b < a := not_lt.mpr hab.le
    simp [before, this]

theorem sortedFrom_key {n : ℕ} (v : Fin n → EReal) :
    sortedFrom (fun a b => decide (v b < v a)) = sortedFrom (before v) := by
  funext k
  unfold sortedFrom
  rw [List.get_of_eq (show sortPositions n (fun a b => decide (v b < v a)) = sortPositions n (before v) from
    stableSort_key v _ (List.pairwise_lt_finRange n))]
  rfl

/-! ## One round, and four -/

open Cert.PostIdeal Cert.PostIdeal.Gen

theorem low_eq : Named.named (F := Ideal) κ "low" (φ := .f32) 0xF149F2CA#32 = (⊥ : EReal) := rfl

/-- A segment's elements, the taken ones at the bottom. -/
def left (v : FVec Ideal S512x1 .f32) (T : IVec S512x1 1) : FVec Ideal S512x1 .f32 :=
  select T (broadcast S512x1 (Named.named (F := Ideal) κ "low" (φ := .f32) 0xF149F2CA#32)) v

/-- The greatest of them. -/
def top (v : FVec Ideal S512x1 .f32) (T : IVec S512x1 1) : EReal :=
  extractAt ![0, 0, 0] (shapeCast S1x1x1 (multiReduction .maximumf [1, 2] S1 (shapeCast S1x512x1 (left v T) shapeCasts_S512x1_S1x512x1)
    0xFF800000#32 reduces_S1x512x1_S1 (.inl rfl) rfl) shapeCasts_S1_S1x1x1) inpos_S1x1x1_p0_0_0

/-- Each position where the greatest stands and is not taken, 512 elsewhere. -/
def marks (v : FVec Ideal S512x1 .f32) (T : IVec S512x1 1) : IVec S512x1 32 :=
  select (andi (cmpf .oeq (left v T) (broadcast S512x1 (top v T : Ideal .f32))) (xori T (constantI S512x1 1 1#1)))
    (iota .tc S512x1 32 [0] iota_S512x1_d0_w32) (broadcast S512x1 512#32)

/-- One round: the first position where the greatest stands joins the taken ones. -/
def round (v : FVec Ideal S512x1 .f32) (T : IVec S512x1 1) : IVec S512x1 1 :=
  ori T (cmpi .eq (iota .tc S512x1 32 [0] iota_S512x1_d0_w32)
    (broadcast S512x1 (extractAt ![0, 0, 0] (shapeCast S1x1x1 (multiReductionI .minsi [1, 2] S1
      (shapeCast S1x512x1 (marks v T) shapeCasts_S512x1_S1x512x1) 2147483647#32 reduces_S1x512x1_S1 rfl) shapeCasts_S1_S1x1x1)
      inpos_S1x1x1_p0_0_0)))

theorem bit_cases (b : BitVec 1) : b = 0#1 ∨ b = 1#1 := by revert b; decide

theorem left_apply (v : FVec Ideal S512x1 .f32) (T : IVec S512x1 1) (i : Fin 512) (u : Fin 1) :
    left v T (ix2 i u) = if T (ix2 i u) = 1#1 then (⊥ : EReal) else v (ix2 i u) := by
  pointwise [left, low_eq]
  rcases bit_cases (T (ix2 i u)) with h | h <;> rw [h] <;> rfl

theorem top_eq (v : FVec Ideal S512x1 .f32) (T : IVec S512x1 1) :
    top v T = ⨆ i : Fin 512, left v T (ix2 i 0) := by
  unfold top
  rw [show multiReduction .maximumf [1, 2] S1 (shapeCast S1x512x1 (left v T) shapeCasts_S512x1_S1x512x1)
    0xFF800000#32 reduces_S1x512x1_S1 (.inl rfl) rfl = fun _ => ⨆ i : Fin 512, left v T (ix2 i 0) from funext fun j => by
      refine (max_all (shapeCast S1x512x1 (left v T) shapeCasts_S512x1_S1x512x1) reduces_S1x512x1_S1 (.inl rfl) rfl j).trans ?_
      refine iSup_congr fun i => ?_
      pointwise]
  rfl

theorem marks_apply (v : FVec Ideal S512x1 .f32) (T : IVec S512x1 1) (i : Fin 512) :
    marks v T (ix2 i 0) = if left v T (ix2 i 0) = top v T ∧ T (ix2 i 0) = 0#1 then BitVec.ofNat 32 i.val else 512#32 := by
  pointwise [marks]
  rcases bit_cases (T (ix2 i 0)) with h | h <;> by_cases h' : left v T (ix2 i 0) = top v T <;> simp [h, h', Ideal.cmp] <;> rfl

theorem round_spec (v : FVec Ideal S512x1 .f32) (T : IVec S512x1 1) (hT : ∃ q, T (ix2 q 0) = 0#1) :
    ∃ p : Fin 512, T (ix2 p 0) = 0#1 ∧ (∀ q, T (ix2 q 0) = 0#1 → before (fun i => v (ix2 i 0)) q p = false) ∧
      ∀ i, round v T (ix2 i 0) = T (ix2 i 0) ||| (if i = p then 1#1 else 0#1) := by
  have hle : ∀ q, T (ix2 q 0) = 0#1 → v (ix2 q 0) ≤ top v T := fun q hq => by
    rw [top_eq]
    refine le_trans (le_of_eq ?_) (le_iSup (fun i : Fin 512 => left v T (ix2 i 0)) q)
    rw [left_apply, hq, if_neg (by decide)]
  have hc : ∃ q, left v T (ix2 q 0) = top v T ∧ T (ix2 q 0) = 0#1 := by
    obtain ⟨i, hi⟩ := exists_eq_ciSup_of_finite (f := fun i : Fin 512 => left v T (ix2 i 0))
    rw [← top_eq] at hi
    rcases bit_cases (T (ix2 i 0)) with h | h
    · exact ⟨i, hi, h⟩
    · obtain ⟨q, hq⟩ := hT
      refine ⟨q, ?_, hq⟩
      have hbot : top v T = ⊥ := by rw [← hi, left_apply, h, if_pos rfl]
      have := hle q hq
      rw [left_apply, hq, if_neg (by decide), hbot]
      rw [hbot] at this
      exact le_bot_iff.mp this
  have hv : ∀ q, T (ix2 q 0) = 0#1 → left v T (ix2 q 0) = v (ix2 q 0) := fun q hq => by
    rw [left_apply, hq, if_neg (by decide)]
  obtain ⟨p, ⟨hp, hp0⟩, hmin, hr⟩ := min_pos (fun q => left v T (ix2 q 0) = top v T ∧ T (ix2 q 0) = 0#1) hc
    (shapeCast S1x512x1 (marks v T) shapeCasts_S512x1_S1x512x1) (fun i => by
      rw [← marks_apply]
      pointwise) reduces_S1x512x1_S1 rfl (ix1 0)
  refine ⟨p, hp0, fun q hq => ?_, fun i => ?_⟩
  · rw [hv p hp0] at hp
    have h1 : ¬ v (ix2 p 0) < v (ix2 q 0) := not_lt.mpr (hp ▸ hle q hq)
    simp only [before, h1, decide_false, Bool.false_or, Bool.and_eq_false_iff, decide_eq_false_iff_not]
    by_cases he : v (ix2 q 0) = v (ix2 p 0)
    · exact Or.inr (not_lt.mpr (hmin q ⟨(hv q hq).trans (he.trans hp), hq⟩))
    · exact Or.inl he
  · unfold round
    rw [show multiReductionI .minsi [1, 2] S1 (shapeCast S1x512x1 (marks v T) shapeCasts_S512x1_S1x512x1) 2147483647#32
      reduces_S1x512x1_S1 rfl = fun _ => BitVec.ofNat 32 p.val from funext fun j => by rw [one_idx j (ix1 0)]; exact hr]
    pointwise
    congr 1
    have := i.isLt
    have := p.isLt
    by_cases hip : i = p
    · subst hip
      rw [if_pos rfl]
      show BitVec.ofBool (BitVec.ofNat 32 i.val == BitVec.ofNat 32 i.val) = 1#1
      rw [beq_self_eq_true]
      rfl
    · have : BitVec.ofNat 32 i.val ≠ BitVec.ofNat 32 p.val := fun e => hip (Fin.ext (by
        have e' := congrArg BitVec.toNat e
        simp only [BitVec.toNat_ofNat] at e'
        omega))
      rw [if_neg hip]
      show BitVec.ofBool (BitVec.ofNat 32 i.val == BitVec.ofNat 32 p.val) = 0#1
      rw [beq_eq_false_iff_ne.mpr this]
      rfl

/-- After `k` rounds: `k` different positions are taken, in order, and none of the others comes before one of them. -/
def Taken (v : Fin 512 → EReal) (k : ℕ) (T : IVec S512x1 1) : Prop :=
  ∃ σ : Fin k → Fin 512, Function.Injective σ ∧ (∀ i j, i < j → before v (σ j) (σ i) = false) ∧
    (∀ i p, (∀ j, σ j ≠ p) → before v p (σ i) = false) ∧ ∀ i, (T (ix2 i 0) = 1#1 ↔ ∃ j, σ j = i)

theorem taken_zero (v : Fin 512 → EReal) : Taken v 0 (broadcast S512x1 0#1) :=
  ⟨fun i => i.elim0, fun i => i.elim0, fun i => i.elim0, fun i => i.elim0, fun i => by
    constructor
    · intro h; exact absurd h (by pointwise; decide)
    · rintro ⟨j, -⟩; exact j.elim0⟩

theorem taken_succ (v : FVec Ideal S512x1 .f32) (k : ℕ) (hk : k < 512) (T : IVec S512x1 1)
    (h : Taken (fun i => v (ix2 i 0)) k T) : Taken (fun i => v (ix2 i 0)) (k + 1) (round v T) := by
  obtain ⟨σ, hinj, hord, hdom, hT⟩ := h
  have free : ∀ q, (∀ j, σ j ≠ q) → T (ix2 q 0) = 0#1 := fun q hq => by
    rcases bit_cases (T (ix2 q 0)) with h | h
    · exact h
    · obtain ⟨j, hj⟩ := (hT q).mp h
      exact absurd hj (hq j)
  have hex : ∃ q, ∀ j, σ j ≠ q := by
    by_contra hne
    push Not at hne
    have := Fintype.card_le_of_surjective σ hne
    simp only [Fintype.card_fin] at this
    omega
  obtain ⟨q, hq⟩ := hex
  obtain ⟨p, hp0, hpb, hr⟩ := round_spec v T ⟨q, free q hq⟩
  have hpσ : ∀ j, σ j ≠ p := fun j hj => by
    have := (hT p).mpr ⟨j, hj⟩
    rw [hp0] at this
    exact absurd this (by decide)
  refine ⟨Fin.snoc (α := fun _ => Fin 512) σ p, ?_, ?_, ?_, ?_⟩
  · exact Fin.snoc_injective_iff.mpr ⟨hinj, fun ⟨j, hj⟩ => hpσ j hj⟩
  · intro i j hij
    induction j using Fin.lastCases with
    | last =>
      induction i using Fin.lastCases with
      | last => exact absurd hij (lt_irrefl _)
      | cast i => simp only [Fin.snoc_last, Fin.snoc_castSucc]; exact hdom i p hpσ
    | cast j =>
      induction i using Fin.lastCases with
      | last => exact absurd hij (not_lt.mpr (Fin.le_last _))
      | cast i => simp only [Fin.snoc_castSucc]; exact hord i j (by simpa using hij)
  · intro i q hq
    have h1 : ∀ j, σ j ≠ q := fun j => by simpa using hq j.castSucc
    induction i using Fin.lastCases with
    | last => simp only [Fin.snoc_last]; exact hpb q (free q h1)
    | cast i => simp only [Fin.snoc_castSucc]; exact hdom i q h1
  · intro i
    rw [hr i]
    constructor
    · intro h
      by_cases hip : i = p
      · exact ⟨Fin.last k, by simp [hip]⟩
      · rw [if_neg hip, BitVec.or_zero] at h
        obtain ⟨j, hj⟩ := (hT i).mp h
        exact ⟨j.castSucc, by simpa using hj⟩
    · rintro ⟨j, hj⟩
      induction j using Fin.lastCases with
      | last =>
        rw [Fin.snoc_last] at hj
        rw [if_pos hj.symm]
        rcases bit_cases (T (ix2 i 0)) with h | h <;> rw [h] <;> decide
      | cast j =>
        rw [Fin.snoc_castSucc] at hj
        rw [(hT i).mpr ⟨j, hj⟩]
        split <;> decide

/-- The four rounds from nothing taken. -/
def four (v : FVec Ideal S512x1 .f32) : IVec S512x1 1 := round v (round v (round v (round v (broadcast S512x1 0#1))))

/-- The four rounds take the first four of the stable descending sort. -/
theorem four_iff (v : FVec Ideal S512x1 .f32) (i : Fin 512) :
    four v (ix2 i 0) = 1#1 ↔ ∃ j : Fin 4, sortedFrom (fun a b : Fin 512 => decide (v (ix2 b 0) < v (ix2 a 0))) (j.castLE (by omega)) = i := by
  obtain ⟨σ, hinj, hord, hdom, hT⟩ := taken_succ v 3 (by omega) _ (taken_succ v 2 (by omega) _ (taken_succ v 1 (by omega) _
    (taken_succ v 0 (by omega) _ (taken_zero fun i => v (ix2 i 0)))))
  refine (hT i).trans (exists_congr fun j => ?_)
  rw [sortedFrom_key (fun i => v (ix2 i 0)), (before_total _).sortedFrom_eq_of_prefix (by omega) σ hinj hord hdom j]

end Cert.Post.Pick

end
-- ==== Proof.PoSpec.lean ====
/- The windows, the key points and the global columns of one batch, from its eight columns of sums and its variance. -/
module

public import proofs.«01_k».proof.Proof.PoPick

@[expose] public section

noncomputable section

namespace Cert.Post

open Idealize.ShloMosaic Cert.Post.Pick

/-- A batch's series, and its eight columns of sums. -/
abbrev Ser : Type := Fin 2048 → EReal
abbrev Sums : Type := Fin 2048 → Fin 8 → EReal

/-- Column `k` as a mean over the features. -/
def mean (P : Sums) (k : Fin 8) : Ser := fun i => P i k * Ideal.ofBits .f32 0x3A800000#32

/-- The least and the greatest element of a series. -/
def lo (f : Ser) : EReal := Finset.univ.fold min (Ideal.ofBits .f32 0x7F800000#32) fun x : Fin 2048 × Fin 1 => f x.1
def hi (f : Ser) : EReal := Finset.univ.fold max (Ideal.ofBits .f32 0xFF800000#32) fun x : Fin 2048 × Fin 1 => f x.1

theorem fold_pair (op : EReal → EReal → EReal) [Std.Commutative op] [Std.Associative op] (b : EReal) (f : Ser) :
    Finset.univ.fold op b (fun x : Fin 2048 × Fin 1 => f x.1) = Finset.univ.fold op b f := by
  have e : (Finset.univ : Finset (Fin 2048 × Fin 1)) = Finset.univ.map (Equiv.prodUnique (Fin 2048) (Fin 1)).symm.toEmbedding := by
    rw [Finset.map_univ_equiv]
  rw [e, Finset.fold_map]
  rfl

theorem lo_eq (f : Ser) : lo f = Finset.univ.fold min (Ideal.ofBits .f32 0x7F800000#32) f := fold_pair min _ f
theorem hi_eq (f : Ser) : hi f = Finset.univ.fold max (Ideal.ofBits .f32 0xFF800000#32) f := fold_pair max _ f

/-- A series scaled to its range. -/
def norm (f : Ser) : Ser := fun i => Ideal.div (f i - lo f) (hi f - lo f + Ideal.ofBits .f32 0x358637BD#32)

/-- A window's width: `base` times a half plus half the importance, rounded, clipped to `[a, z]`, as an integer. -/
def width (base : BitVec 32) (a z : BitVec 32) (f : Ser) (i : Fin 2048) : BitVec 32 :=
  FloatOps.fptosi (F := Ideal) (φ := .f32) 32 (min ((z.toInt : ℝ) : EReal) (max ((a.toInt : ℝ) : EReal)
    (Ideal.liftRound Ideal.roundHalfEven (Ideal.ofBits .f32 base * (Ideal.ofBits .f32 0x3F000000#32
      + Ideal.ofBits .f32 0x3F000000#32 * norm f i)))))

/-- The importance the past window follows. -/
def imp (P : Sums) : Ser := fun i =>
  Ideal.ofBits .f32 0x3F000000#32 * mean P 0 i + Ideal.ofBits .f32 0x3E99999A#32 * mean P 1 i
    + Ideal.ofBits .f32 0x3E4CCCCD#32 * mean P 3 i

/-- The weighted change the key points are read from. -/
def chg (P : Sums) : Ser := fun i =>
  Ideal.ofBits .f32 0x3ECCCCCD#32 * mean P 0 i + Ideal.ofBits .f32 0x3E99999A#32 * mean P 1 i
    + Ideal.ofBits .f32 0x3E4CCCCD#32 * mean P 2 i + Ideal.ofBits .f32 0x3DCCCCCD#32 * mean P 4 i

/-- The mean of a series, and the threshold: the mean plus half the standard deviation. -/
def avg (f : Ser) : EReal := Ideal.div (∑ i, f i) (Ideal.ofBits .f32 0x45000000#32)
def thr (f : Ser) : EReal :=
  avg f + Ideal.ofBits .f32 0x3F000000#32 * Ideal.sqrt (Ideal.div (∑ i, (f i - avg f) * (f i - avg f)) (Ideal.ofBits .f32 0x44FFE000#32))

/-- A key point: above the threshold, and, inside, above both neighbours. -/
def Key (f : Ser) (i : Fin 2048) : Prop :=
  thr f < f i ∧ ∀ h : 0 < i.val ∧ i.val < 2047, f ⟨i.val - 1, by omega⟩ < f i ∧ f ⟨i.val + 1, by omega⟩ < f i

open Classical in
def key (f : Ser) (i : Fin 2048) : BitVec 32 := if Key f i then 1#32 else 0#32

open Classical in
def keyAny (f : Ser) : BitVec 32 := if ∃ i, Key f i then 1#32 else 0#32

/-- The importance the global columns follow. -/
def glob (P : Sums) (q : EReal) : Ser := fun i =>
  Ideal.ofBits .f32 0x3E99999A#32 * Ideal.sqrt (P i 6) + Ideal.ofBits .f32 0x3ECCCCCD#32 * mean P 0 i
    + (if 0 < i.val ∧ i.val < 2047 then Ideal.ofBits .f32 0x3E99999A#32
        * Ideal.div (mean P 7 i) (q * Ideal.ofBits .f32 0x3A800000#32 + Ideal.ofBits .f32 0x358637BD#32) else 0)

/-- The greatest four of position `i`'s segment of 512. -/
def seg (f : Ser) (s : Fin 4) : Fin 512 → EReal := fun r => f ⟨512 * s.val + r.val, by omega⟩

def Chosen (f : Ser) (s : Fin 4) (r : Fin 512) : Prop :=
  ∃ j : Fin 4, sortedFrom (fun a b : Fin 512 => decide (seg f s b < seg f s a)) (j.castLE (by omega)) = r

open Classical in
def chosen (f : Ser) (i : Fin 2048) : BitVec 32 :=
  if Chosen f ⟨i.val / 512, by omega⟩ ⟨i.val % 512, by omega⟩ then 1#32 else 0#32

end Cert.Post

end
-- ==== Proof.PoK.lean ====
/- What one batch of the post call leaves: its five blocks at an index. -/
module

public import proofs.«01_k».proof.Proof.PoSpec

@[expose] public section

set_option maxRecDepth 16384

noncomputable section

namespace Cert.Post.Ker

open Idealize.ShloMosaic Cert.PostIdeal Cert.PostIdeal.Gen Cert.Post Cert.Post.Pick

/-- A block's sums. -/
abbrev sums (v : Vec Ideal S1x2048x8 .f32) : Sums := fun i k => v (ix3 0 i k)

theorem lw_eq (v : Vec Ideal S1x2048x8 .f32) (i : Fin 2048) :
    k0_pay14 (k0_pay11 v) (k0_pay12 v) (k0_pay13 v) (ix3 0 i 0) = width 0x43000000#32 2#32 256#32 (imp (sums v)) i := by
  pointwise [k0_pay14, k0_pay11, k0_pay12, k0_pay13, k0_pay2, k0_pay3, k0_pay4, width, norm, lo, hi, imp, mean]

theorem fw_eq (v : Vec Ideal S1x2048x8 .f32) (i : Fin 2048) :
    k0_pay16 (k0_pay15 (k0_pay7 v)) (ix3 0 i 0) = width 0x42800000#32 1#32 64#32 (mean (sums v) 5) i := by
  pointwise [k0_pay16, k0_pay15, k0_pay7, k0_pay2, width, norm, lo, hi, mean]

theorem chg_eq (v : Vec Ideal S1x2048x8 .f32) (i : Fin 2048) :
    k0_pay17 (k0_pay3 v) (k0_pay4 v) (k0_pay5 v) (k0_pay6 v) (ix2 i 0) = chg (sums v) i := by
  pointwise [k0_pay17, k0_pay3, k0_pay4, k0_pay5, k0_pay6, k0_pay2, chg, mean]

theorem gt_eq (v : Vec Ideal S1x2048x8 .f32) (i : Fin 2048) :
    k0_pay18 (k0_pay3 v) (k0_pay4 v) (k0_pay5 v) (k0_pay6 v) (ix2 i 0)
      = BitVec.setWidth 32 (BitVec.ofBool (decide (thr (chg (sums v)) < chg (sums v) i))) := by
  pointwise [k0_pay18, chg_eq, thr, avg]
  simp
  rfl

theorem word_of (p : Prop) [Decidable p] : BitVec.setWidth 32 (BitVec.ofBool (decide p)) = if p then 1#32 else 0#32 := by
  by_cases h : p <;> simp [h]

theorem word_mul (p q r : Prop) [Decidable p] [Decidable q] [Decidable r] :
    IntOp.muli (BitVec.setWidth 32 (IntOp.andi (BitVec.ofBool (decide p)) (BitVec.ofBool (decide q))))
      (BitVec.setWidth 32 (BitVec.ofBool (decide r))) = if r ∧ p ∧ q then 1#32 else 0#32 := by
  by_cases hp : p <;> by_cases hq : q <;> by_cases hr : r <;> simp [hp, hq, hr] <;> decide

theorem key_edge (f : Ser) (i : Fin 2048) (h : i.val = 0 ∨ i.val = 2047) : key f i = if thr f < f i then 1#32 else 0#32 := by
  unfold key
  classical exact if_congr ⟨fun e => e.1, fun e => ⟨e, fun h' => by omega⟩⟩ rfl rfl

theorem key_inner (f : Ser) (i : Fin 2048) (h : 0 < i.val ∧ i.val < 2047) :
    key f i = if thr f < f i ∧ f ⟨i.val - 1, by omega⟩ < f i ∧ f ⟨i.val + 1, by omega⟩ < f i then 1#32 else 0#32 := by
  unfold key
  classical exact if_congr ⟨fun e => ⟨e.1, e.2 h⟩, fun e => ⟨e.1, fun _ => e.2⟩⟩ rfl rfl

theorem kp_eq (v : Vec Ideal S1x2048x8 .f32) (i : Fin 2048) :
    k0_pay20 (k0_pay17 (k0_pay3 v) (k0_pay4 v) (k0_pay5 v) (k0_pay6 v)) (k0_pay18 (k0_pay3 v) (k0_pay4 v) (k0_pay5 v) (k0_pay6 v))
      (k0_pay19 (k0_pay3 v) (k0_pay4 v) (k0_pay5 v) (k0_pay6 v)) (ix2 i 0) = key (chg (sums v)) i := by
  pointwise [k0_pay20, k0_pay19, chg_eq, gt_eq]
  generalize chg (sums v) = f
  have hi := i.isLt
  by_cases h0 : i.val < 1
  · rw [dif_pos h0, key_edge f i (Or.inl (by omega)), word_of]
  · rw [dif_neg h0]
    by_cases h1 : i.val - 1 < 2046
    · rw [dif_pos h1]
      have e1 : (⟨1 + (i.val - 1), by omega⟩ : Fin 2048) = i := Fin.ext (by show 1 + (i.val - 1) = i.val; omega)
      have e2 : (⟨2 + (i.val - 1), by omega⟩ : Fin 2048) = ⟨i.val + 1, by omega⟩ := Fin.ext (by show 2 + (i.val - 1) = i.val + 1; omega)
      rw [e1, e2, key_inner f i (by omega)]
      exact word_mul _ _ _
    · rw [dif_neg h1]
      have e3 : (⟨2047 + (i.val - 1 - 2046), by omega⟩ : Fin 2048) = i := Fin.ext (by show 2047 + (i.val - 1 - 2046) = i.val; omega)
      rw [e3, key_edge f i (Or.inr (by omega)), word_of]

theorem inside (i : Fin 2048) : IntOp.andi (IntOp.cmpi .sgt (BitVec.ofNat 32 i.val) 0#32) (IntOp.cmpi .slt (BitVec.ofNat 32 i.val) 2047#32)
    = if 0 < i.val ∧ i.val < 2047 then 1#1 else 0#1 := by
  have hi := i.isLt
  have e : (BitVec.ofNat 32 i.val).toInt = i.val := by
    have e : (BitVec.ofNat 32 i.val).toNat = i.val := by rw [BitVec.toNat_ofNat]; exact Nat.mod_eq_of_lt (by omega)
    rw [BitVec.toInt_eq_toNat_of_lt (by rw [e]; omega), e]
  have h1 : IntOp.cmpi .sgt (BitVec.ofNat 32 i.val) 0#32 = BitVec.ofBool (decide (0 < i.val)) := by
    show BitVec.ofBool (decide _) = _
    rw [e]
    congr 1
    exact decide_eq_decide.mpr (by rw [show (0#32 : BitVec 32).toInt = 0 from rfl]; omega)
  have h2 : IntOp.cmpi .slt (BitVec.ofNat 32 i.val) 2047#32 = BitVec.ofBool (decide (i.val < 2047)) := by
    show BitVec.ofBool (decide _) = _
    rw [e]
    congr 1
    exact decide_eq_decide.mpr (by rw [show (2047#32 : BitVec 32).toInt = 2047 from rfl]; omega)
  rw [h1, h2]
  by_cases h : 0 < i.val <;> by_cases h' : i.val < 2047 <;> simp [h, h'] <;> decide

theorem glob_eq (v : Vec Ideal S1x2048x8 .f32) (q : Vec Ideal S1x1x1 .f32) (i : Fin 2048) :
    k0_pay23 (k0_pay3 v) (k0_pay8 v) (k0_pay9 v) (k0_pay10 q) (ix2 i 0) = glob (sums v) (q (ix3 0 0 0)) i := by
  pointwise [k0_pay23, k0_pay3, k0_pay2, k0_pay8, k0_pay9, k0_pay10, glob, mean]
  refine congrArg₂ (· + ·) rfl ((congrArg (fun b => Scalar.select b _ _) (inside i)).trans ?_)
  by_cases h : 0 < i.val ∧ i.val < 2047
  · rw [if_pos h, if_pos h]; rfl
  · rw [if_neg h, if_neg h]; rfl

theorem norm_eq (g : FVec Ideal S2048x1 .f32) (i : Fin 2048) :
    k0_pay25 g (shapeCast S1x2048x1 g shapeCasts_S2048x1_S1x2048x1) (ix2 i 0) = norm (fun i => g (ix2 i 0)) i := by
  pointwise [k0_pay25, norm, lo, hi]

theorem four0 (g : FVec Ideal S2048x1 .f32) (g' : FVec Ideal S1x2048x1 .f32) :
    k0_pay30 (k0_pay29 (iota .tc S512x1 32 [0] iota_S512x1_d0_w32) (k0_pay26 g g') (k0_pay27 g g') (k0_pay28 g g'))
      = shapeCast S1x512x1 (extui 32 (four (extractStridedSlice S512x1 ![0, 0] (k0_pay25 g g') slices_S2048x1_o0_0_S512x1)) natLt_1_32) shapeCasts_S512x1_S1x512x1 := rfl

theorem four1 (g : FVec Ideal S2048x1 .f32) :
    k0_pay35 (iota .tc S512x1 32 [0] iota_S512x1_d0_w32) (k0_pay31 g) (k0_pay32 g (iota .tc S512x1 32 [0] iota_S512x1_d0_w32))
        (k0_pay33 g (iota .tc S512x1 32 [0] iota_S512x1_d0_w32)) (k0_pay34 g (iota .tc S512x1 32 [0] iota_S512x1_d0_w32))
      = shapeCast S1x512x1 (extui 32 (four (extractStridedSlice S512x1 ![512, 0] g slices_S2048x1_o512_0_S512x1)) natLt_1_32) shapeCasts_S512x1_S1x512x1 := rfl

theorem four2 (g : FVec Ideal S2048x1 .f32) :
    k0_pay42 (iota .tc S512x1 32 [0] iota_S512x1_d0_w32) (k0_pay36 g)
        (k0_pay40 (iota .tc S512x1 32 [0] iota_S512x1_d0_w32) (k0_pay36 g) k0_pay37 (k0_pay38 g) (k0_pay39 g))
        (k0_pay41 (iota .tc S512x1 32 [0] iota_S512x1_d0_w32) (k0_pay36 g) k0_pay37 (k0_pay38 g) (k0_pay39 g))
      = shapeCast S1x512x1 (extui 32 (four (extractStridedSlice S512x1 ![1024, 0] g slices_S2048x1_o1024_0_S512x1)) natLt_1_32) shapeCasts_S512x1_S1x512x1 := rfl

theorem four3 (g : FVec Ideal S2048x1 .f32) :
    k0_pay1 (iota .tc S512x1 32 [0] iota_S512x1_d0_w32)
        (k0_pay46 (iota .tc S512x1 32 [0] iota_S512x1_d0_w32) (k0_pay43 g) k0_pay44 (k0_pay45 g (iota .tc S512x1 32 [0] iota_S512x1_d0_w32)))
        (k0_pay47 (iota .tc S512x1 32 [0] iota_S512x1_d0_w32) (k0_pay43 g) k0_pay44 (k0_pay45 g (iota .tc S512x1 32 [0] iota_S512x1_d0_w32)))
        (k0_pay48 (iota .tc S512x1 32 [0] iota_S512x1_d0_w32) (k0_pay43 g) k0_pay44 (k0_pay45 g (iota .tc S512x1 32 [0] iota_S512x1_d0_w32)))
      = shapeCast S1x512x1 (extui 32 (four (extractStridedSlice S512x1 ![1536, 0] g slices_S2048x1_o1536_0_S512x1)) natLt_1_32) shapeCasts_S512x1_S1x512x1 := rfl

/-- A segment's marks, from the segment's four rounds. -/
theorem seg_marks (f : Ser) (s : Fin 4) (w : FVec Ideal S512x1 .f32) (hw : ∀ r : Fin 512, w (ix2 r 0) = seg f s r) (r : Fin 512) :
    shapeCast S1x512x1 (extui 32 (four w) natLt_1_32) shapeCasts_S512x1_S1x512x1 (ix3 0 r 0) = chosen f ⟨512 * s.val + r.val, by omega⟩ := by
  have hs : (⟨(512 * s.val + r.val) / 512, by omega⟩ : Fin 4) = s := Fin.ext (by show (512 * s.val + r.val) / 512 = s.val; omega)
  have hr : (⟨(512 * s.val + r.val) % 512, by omega⟩ : Fin 512) = r := Fin.ext (by show (512 * s.val + r.val) % 512 = r.val; omega)
  pointwise [chosen]
  rw [hs, hr]
  have hif : four w (ix2 r 0) = 1#1 ↔ Chosen f s r := by
    rw [four_iff]
    simp only [hw]
    rfl
  by_cases h : Chosen f s r
  · rw [if_pos h, hif.mpr h]; rfl
  · rw [if_neg h, (bit_cases _).resolve_right (fun e => h (hif.mp e))]; rfl

open Classical in
/-- The signed maximum of words that are zero or one. -/
theorem max_words {ι : Type} [Fintype ι] (g : ι → BitVec 32) (hg : ∀ i, g i = 0#32 ∨ g i = 1#32) (a : ι) :
    Finset.univ.fold IntOp.maxsi 2147483648#32 g = if ∃ i, g i = 1#32 then 1#32 else 0#32 := by
  obtain ⟨_, h2, h3⟩ := SortNet.fold_maxsi_spec g Finset.univ 2147483648#32
  generalize Finset.fold IntOp.maxsi (2147483648#32) g Finset.univ = z at h2 h3 ⊢
  have hl : (2147483648#32 : BitVec 32).toInt < 0 := by decide
  have hz : z = 0#32 ∨ z = 1#32 := by
    rcases h3 with h3 | ⟨i, _, h3⟩
    · have e := h2 a (Finset.mem_univ _)
      rw [h3] at e
      rcases hg a with h | h
      · rw [h, show (0#32 : BitVec 32).toInt = 0 from rfl] at e
        omega
      · rw [h, show (1#32 : BitVec 32).toInt = 1 from rfl] at e
        omega
    · rw [h3]
      exact hg i
  by_cases h : ∃ i, g i = 1#32
  · rw [if_pos h]
    obtain ⟨i, hi⟩ := h
    refine hz.resolve_left fun h0 => ?_
    have e := h2 i (Finset.mem_univ _)
    rw [hi, h0] at e
    exact absurd e (by decide)
  · rw [if_neg h]
    refine hz.resolve_right fun h1 => ?_
    rcases h3 with h3 | ⟨i, _, h3⟩
    · rw [h1] at h3
      exact absurd h3 (by decide)
    · exact h ⟨i, h3.symm.trans h1⟩

theorem any_eq (v : Vec Ideal S1x2048x8 .f32) :
    k0_pay22 (k0_pay17 (k0_pay3 v) (k0_pay4 v) (k0_pay5 v) (k0_pay6 v)) (k0_pay18 (k0_pay3 v) (k0_pay4 v) (k0_pay5 v) (k0_pay6 v))
      (k0_pay19 (k0_pay3 v) (k0_pay4 v) (k0_pay5 v) (k0_pay6 v)) (ix3 0 0 0) = keyAny (chg (sums v)) := by
  pointwise [k0_pay22, kp_eq]
  generalize chg (sums v) = f
  refine (max_words (fun x : Fin 2048 × Fin 1 => key f x.1) (fun x => ?_) (0, 0)).trans ?_
  · unfold key
    split
    · exact Or.inr rfl
    · exact Or.inl rfl
  · unfold keyAny
    classical refine if_congr ⟨?_, ?_⟩ rfl rfl
    · rintro ⟨x, hx⟩
      refine ⟨x.1, ?_⟩
      unfold key at hx
      split at hx
      · assumption
      · exact absurd hx (by decide)
    · rintro ⟨i, hi⟩
      exact ⟨(i, 0), if_pos hi⟩

end Cert.Post.Ker
end
-- ==== Proof.PoAcc.lean ====
/- The post call's five results as functions of its two arguments. -/
module

public import proofs.«01_k».proof.Proof.PoK
public import proofs.«01_k».proof.Proof.Gen.PostIdeal.Value
public import Idealize.ShloMosaic.Lib.Pipeline.ValueKit.Acc

@[expose] public section

set_option maxRecDepth 16384

noncomputable section

namespace Cert.Post.Ker

open Idealize.ShloMosaic Idealize.ShloMosaic.TcCoe Idealize.SL.Sem Cert.PostIdeal Cert.PostIdeal.Gen Cert.Post Cert.Post.Pick
open Idealize.ShloMosaic.Pipeline (Dat)

variable (m : (ℓ : Loc nD τ sig) → Buf (Elt Ideal) ℓ) (c : Dev nD)

/-- The sums of batch `b`. -/
abbrev rows (A : S2x2048x8.Idx → EReal) (b : Fin 2) : Sums := fun i k => A (ix3 b i k)

/-- The five results. -/
def lwArr (A : S2x2048x8.Idx → EReal) : S2x2048x1.Idx → BitVec 32 := fun y =>
  width 0x43000000#32 2#32 256#32 (imp (rows A (y 0))) (y 1)
def fwArr (A : S2x2048x8.Idx → EReal) : S2x2048x1.Idx → BitVec 32 := fun y =>
  width 0x42800000#32 1#32 64#32 (mean (rows A (y 0)) 5) (y 1)
def kpArr (A : S2x2048x8.Idx → EReal) : S2x2048x1.Idx → BitVec 32 := fun y => key (chg (rows A (y 0))) (y 1)
def gcArr (A : S2x2048x8.Idx → EReal) (B : S2x1x1.Idx → EReal) : S2x2048x1.Idx → BitVec 32 := fun y =>
  chosen (norm (glob (rows A (y 0)) (B (ix3 (y 0) 0 0)))) (y 1)
def anyArr (A : S2x2048x8.Idx → EReal) : S2x1x1.Idx → BitVec 32 := fun y => keyAny (chg (rows A (y 0)))

/-- The batch of a grid point. -/
def bat (t : Fin cfg0.N) : Fin 2 := grid0.coords t 0

theorem maps0 : ∀ t : Fin grid0.N, win0_0.index t 0 = (grid0.coords t 0).val ∧ win0_0.index t 1 = 0 ∧ win0_0.index t 2 = 0 := by decide +kernel
theorem maps1 : ∀ t : Fin grid0.N, win0_1.index t 0 = (grid0.coords t 0).val ∧ win0_1.index t 1 = 0 ∧ win0_1.index t 2 = 0 := by decide +kernel
theorem maps2 : ∀ t : Fin grid0.N, win0_2.index t 0 = (grid0.coords t 0).val ∧ win0_2.index t 1 = 0 ∧ win0_2.index t 2 = 0 := by decide +kernel
theorem maps3 : ∀ t : Fin grid0.N, win0_3.index t 0 = (grid0.coords t 0).val ∧ win0_3.index t 1 = 0 ∧ win0_3.index t 2 = 0 := by decide +kernel
theorem maps4 : ∀ t : Fin grid0.N, win0_4.index t 0 = (grid0.coords t 0).val ∧ win0_4.index t 1 = 0 ∧ win0_4.index t 2 = 0 := by decide +kernel
theorem maps5 : ∀ t : Fin grid0.N, win0_5.index t 0 = (grid0.coords t 0).val ∧ win0_5.index t 1 = 0 ∧ win0_5.index t 2 = 0 := by decide +kernel
theorem maps6 : ∀ t : Fin grid0.N, win0_6.index t 0 = (grid0.coords t 0).val ∧ win0_6.index t 1 = 0 ∧ win0_6.index t 2 = 0 := by decide +kernel
theorem point_of : ∀ b : Fin 2, ∃ t : Fin grid0.N, (grid0.coords t 0).val = b.val := by decide +kernel

theorem emb0 (t : Fin cfg0.N) (i : Fin 2048) (k : Fin 8) : (win0_0.rect t).emb (ix3 0 i k) = ix3 (bat t) i k := by
  obtain ⟨h0, h1, h2⟩ := maps0 t
  refine (eq_ix3 _).trans (congr (congrArg₂ ix3 (Fin.ext ?_) (Fin.ext ?_)) (Fin.ext ?_))
  · show win0_0.index t 0 * 1 + 1 * 0 = (grid0.coords t 0).val
    omega
  · show win0_0.index t 1 * 2048 + 1 * i.val = i.val
    omega
  · show win0_0.index t 2 * 8 + 1 * k.val = k.val
    omega

theorem emb1 (t : Fin cfg0.N) : (win0_1.rect t).emb (ix3 0 0 0) = ix3 (bat t) 0 0 := by
  obtain ⟨h0, h1, h2⟩ := maps1 t
  refine (eq_ix3 _).trans (congr (congrArg₂ ix3 (Fin.ext ?_) (Fin.ext ?_)) (Fin.ext ?_))
  · show win0_1.index t 0 * 1 + 1 * 0 = (grid0.coords t 0).val
    omega
  · show win0_1.index t 1 * 1 + 1 * 0 = 0
    omega
  · show win0_1.index t 2 * 1 + 1 * 0 = 0
    omega

theorem emb2 (t : Fin cfg0.N) (i : Fin 2048) : (win0_2.rect t).emb (ix3 0 i 0) = ix3 (bat t) i 0 := by
  obtain ⟨h0, h1, h2⟩ := maps2 t
  refine (eq_ix3 _).trans (congr (congrArg₂ ix3 (Fin.ext ?_) (Fin.ext ?_)) (Fin.ext ?_))
  · show win0_2.index t 0 * 1 + 1 * 0 = (grid0.coords t 0).val
    omega
  · show win0_2.index t 1 * 2048 + 1 * i.val = i.val
    omega
  · show win0_2.index t 2 * 1 + 1 * 0 = 0
    omega

theorem emb3 (t : Fin cfg0.N) (i : Fin 2048) : (win0_3.rect t).emb (ix3 0 i 0) = ix3 (bat t) i 0 := by
  obtain ⟨h0, h1, h2⟩ := maps3 t
  refine (eq_ix3 _).trans (congr (congrArg₂ ix3 (Fin.ext ?_) (Fin.ext ?_)) (Fin.ext ?_))
  · show win0_3.index t 0 * 1 + 1 * 0 = (grid0.coords t 0).val
    omega
  · show win0_3.index t 1 * 2048 + 1 * i.val = i.val
    omega
  · show win0_3.index t 2 * 1 + 1 * 0 = 0
    omega

theorem emb4 (t : Fin cfg0.N) (i : Fin 2048) : (win0_4.rect t).emb (ix3 0 i 0) = ix3 (bat t) i 0 := by
  obtain ⟨h0, h1, h2⟩ := maps4 t
  refine (eq_ix3 _).trans (congr (congrArg₂ ix3 (Fin.ext ?_) (Fin.ext ?_)) (Fin.ext ?_))
  · show win0_4.index t 0 * 1 + 1 * 0 = (grid0.coords t 0).val
    omega
  · show win0_4.index t 1 * 2048 + 1 * i.val = i.val
    omega
  · show win0_4.index t 2 * 1 + 1 * 0 = 0
    omega

theorem emb5 (t : Fin cfg0.N) (i : Fin 2048) : (win0_5.rect t).emb (ix3 0 i 0) = ix3 (bat t) i 0 := by
  obtain ⟨h0, h1, h2⟩ := maps5 t
  refine (eq_ix3 _).trans (congr (congrArg₂ ix3 (Fin.ext ?_) (Fin.ext ?_)) (Fin.ext ?_))
  · show win0_5.index t 0 * 1 + 1 * 0 = (grid0.coords t 0).val
    omega
  · show win0_5.index t 1 * 2048 + 1 * i.val = i.val
    omega
  · show win0_5.index t 2 * 1 + 1 * 0 = 0
    omega

theorem emb6 (t : Fin cfg0.N) : (win0_6.rect t).emb (ix3 0 0 0) = ix3 (bat t) 0 0 := by
  obtain ⟨h0, h1, h2⟩ := maps6 t
  refine (eq_ix3 _).trans (congr (congrArg₂ ix3 (Fin.ext ?_) (Fin.ext ?_)) (Fin.ext ?_))
  · show win0_6.index t 0 * 1 + 1 * 0 = (grid0.coords t 0).val
    omega
  · show win0_6.index t 1 * 1 + 1 * 0 = 0
    omega
  · show win0_6.index t 2 * 1 + 1 * 0 = 0
    omega

/-- A grid point's blocks are its batch of the arguments. -/
theorem sums_blk (t : Fin cfg0.N) : sums (iblk m c 0 t) = rows (V m c main_arg0) (bat t) :=
  funext fun i => funext fun k => congrArg (V m c main_arg0) (emb0 t i k)

theorem freq_blk (t : Fin cfg0.N) : (iblk m c 1 t : Vec Ideal S1x1x1 .f32) (ix3 0 0 0) = V m c main_arg1 (ix3 (bat t) 0 0) :=
  congrArg (V m c main_arg1) (emb1 t)

section
variable (x0 : Vec Ideal S1x2048x8 .f32) (x1 : Vec Ideal S1x1x1 .f32)

theorem out2 (i : Fin 2048) : out0_2 x0 x1 (ix3 0 i 0) = width 0x43000000#32 2#32 256#32 (imp (sums x0)) i := by
  frame_out
  exact lw_eq x0 i

theorem out3 (i : Fin 2048) : out0_3 x0 x1 (ix3 0 i 0) = width 0x42800000#32 1#32 64#32 (mean (sums x0) 5) i := by
  frame_out
  exact fw_eq x0 i

theorem out4 (i : Fin 2048) : out0_4 x0 x1 (ix3 0 i 0) = key (chg (sums x0)) i := by
  unfold_out out0_4
  frame_out
  refine Eq.trans ?_ (kp_eq x0 i)
  pointwise [k0_pay21]

theorem out6 : out0_6 x0 x1 (ix3 0 0 0) = keyAny (chg (sums x0)) := by
  unfold_out out0_6
  frame_out
  exact any_eq x0

theorem whole0 : View.ld x0 r0_0 = x0 := View.ld_unit_zero (by decide) _ x0
theorem whole1 : View.ld x1 r0_1 = x1 := View.ld_unit_zero (by decide) _ x1

/-- The series the columns are chosen from. -/
theorem glob_series : (fun i => k0_pay58 x0 x1 (ix2 i 0)) = glob (sums x0) (x1 (ix3 0 0 0)) :=
  funext fun i => by
    unfold k0_pay58 k0_pay54 k0_pay53 k0_pay49
    rw [whole0, whole1]
    exact glob_eq x0 x1 i

theorem norm_series (i : Fin 2048) : k0_pay61 x0 x1 (ix2 i 0) = norm (glob (sums x0) (x1 (ix3 0 0 0))) i := by
  rw [← glob_series]
  exact norm_eq (k0_pay58 x0 x1) i

theorem out5 (i : Fin 2048) : out0_5 x0 x1 (ix3 0 i 0) = chosen (norm (glob (sums x0) (x1 (ix3 0 0 0)))) i := by
  have hn := norm_series x0 x1
  generalize norm (glob (sums x0) (x1 (ix3 0 0 0))) = f at hn ⊢
  unfold out0_5
  refine View.canon_apply_of_pieces (fun y : S1x2048x1.Idx => chosen f (y 1)) _ ?_ _
    (cover0_5 (F := Ideal) _ _ _ _ _)
  intro pc hpc
  rcases List.mem_cons.mp hpc with rfl | hpc
  · intro y
    obtain ⟨u, r, e, rfl⟩ : ∃ (u : Fin 1) (r : Fin 512) (e : Fin 1), y = ix3 u r e := ⟨_, _, _, eq_ix3 y⟩
    obtain rfl : u = 0 := Subsingleton.elim _ _
    obtain rfl : e = 0 := Subsingleton.elim _ _
    refine (congrFun (four3 (k0_pay61 x0 x1)) (ix3 0 r 0)).trans ((seg_marks f 3 _ (fun r => ?_) r).trans (congrArg (chosen f) (Fin.ext ?_)))
    · pointwise [seg]
      exact hn _
    · show 512 * 3 + r.val = 1536 + 1 * r.val
      omega
  rcases List.mem_cons.mp hpc with rfl | hpc
  · intro y
    obtain ⟨u, r, e, rfl⟩ : ∃ (u : Fin 1) (r : Fin 512) (e : Fin 1), y = ix3 u r e := ⟨_, _, _, eq_ix3 y⟩
    obtain rfl : u = 0 := Subsingleton.elim _ _
    obtain rfl : e = 0 := Subsingleton.elim _ _
    refine (congrFun (four2 (k0_pay61 x0 x1)) (ix3 0 r 0)).trans ((seg_marks f 2 _ (fun r => ?_) r).trans (congrArg (chosen f) (Fin.ext ?_)))
    · pointwise [seg]
      exact hn _
    · show 512 * 2 + r.val = 1024 + 1 * r.val
      omega
  rcases List.mem_cons.mp hpc with rfl | hpc
  · intro y
    obtain ⟨u, r, e, rfl⟩ : ∃ (u : Fin 1) (r : Fin 512) (e : Fin 1), y = ix3 u r e := ⟨_, _, _, eq_ix3 y⟩
    obtain rfl : u = 0 := Subsingleton.elim _ _
    obtain rfl : e = 0 := Subsingleton.elim _ _
    refine (congrFun (four1 (k0_pay61 x0 x1)) (ix3 0 r 0)).trans ((seg_marks f 1 _ (fun r => ?_) r).trans (congrArg (chosen f) (Fin.ext ?_)))
    · pointwise [seg]
      exact hn _
    · show 512 * 1 + r.val = 512 + 1 * r.val
      omega
  obtain rfl := List.mem_singleton.mp hpc
  · intro y
    obtain ⟨u, r, e, rfl⟩ : ∃ (u : Fin 1) (r : Fin 512) (e : Fin 1), y = ix3 u r e := ⟨_, _, _, eq_ix3 y⟩
    obtain rfl : u = 0 := Subsingleton.elim _ _
    obtain rfl : e = 0 := Subsingleton.elim _ _
    refine (congrFun (four0 (k0_pay58 x0 x1) (k0_pay59 x0 x1)) (ix3 0 r 0)).trans ((seg_marks f 0 _ (fun r => ?_) r).trans (congrArg (chosen f) (Fin.ext ?_)))
    · pointwise [seg]
      exact hn _
    · show 512 * 0 + r.val = 0 + 1 * r.val
      omega

end

theorem arr2 : (dats m 0 c).arrAt 2 cfg0.N = lwArr (V m c main_arg0) := by
  refine (dats m 0 c).arrAt_eq_of_cover 2 (lwArr (V m c main_arg0)) (fun t hf => ?_) (fun i => ?_)
  · show (cfg0.win 2).cut (grid0.coords t) ((dats m 0 c).after 2 t) = _
    rw [after0_2]
    refine funext fun y => ?_
    obtain ⟨u, r, e, rfl⟩ : ∃ u r e, y = ix3 u r e := ⟨_, _, _, eq_ix3 y⟩
    obtain rfl : u = 0 := Subsingleton.elim _ _
    obtain rfl : e = 0 := Subsingleton.elim _ _
    refine (out2 (iblk m c 0 t) (iblk m c 1 t) r).trans (Eq.trans ?_ (congrArg (lwArr (V m c main_arg0)) (emb2 t r)).symm)
    rw [sums_blk]; rfl
  · obtain ⟨b, r, e, rfl⟩ : ∃ b r e, i = ix3 b r e := ⟨_, _, _, eq_ix3 i⟩
    obtain rfl : e = 0 := Subsingleton.elim _ _
    obtain ⟨t, hb⟩ := point_of b
    refine ⟨t, flush0_2 t, ?_⟩
    show _ ∈ ((View.whole main_v0_0).slice (win0_2.rect t)).set
    rw [View.set_slice_whole]
    have h := emb2 t r
    rw [show bat t = b from Fin.ext hb] at h
    rw [← h]
    exact (win0_2.rect t).idx_mem _

theorem arr3 : (dats m 0 c).arrAt 3 cfg0.N = fwArr (V m c main_arg0) := by
  refine (dats m 0 c).arrAt_eq_of_cover 3 (fwArr (V m c main_arg0)) (fun t hf => ?_) (fun i => ?_)
  · show (cfg0.win 3).cut (grid0.coords t) ((dats m 0 c).after 3 t) = _
    rw [after0_3]
    refine funext fun y => ?_
    obtain ⟨u, r, e, rfl⟩ : ∃ u r e, y = ix3 u r e := ⟨_, _, _, eq_ix3 y⟩
    obtain rfl : u = 0 := Subsingleton.elim _ _
    obtain rfl : e = 0 := Subsingleton.elim _ _
    refine (out3 (iblk m c 0 t) (iblk m c 1 t) r).trans (Eq.trans ?_ (congrArg (fwArr (V m c main_arg0)) (emb3 t r)).symm)
    rw [sums_blk]; rfl
  · obtain ⟨b, r, e, rfl⟩ : ∃ b r e, i = ix3 b r e := ⟨_, _, _, eq_ix3 i⟩
    obtain rfl : e = 0 := Subsingleton.elim _ _
    obtain ⟨t, hb⟩ := point_of b
    refine ⟨t, flush0_3 t, ?_⟩
    show _ ∈ ((View.whole main_v0_1).slice (win0_3.rect t)).set
    rw [View.set_slice_whole]
    have h := emb3 t r
    rw [show bat t = b from Fin.ext hb] at h
    rw [← h]
    exact (win0_3.rect t).idx_mem _

theorem arr4 : (dats m 0 c).arrAt 4 cfg0.N = kpArr (V m c main_arg0) := by
  refine (dats m 0 c).arrAt_eq_of_cover 4 (kpArr (V m c main_arg0)) (fun t hf => ?_) (fun i => ?_)
  · show (cfg0.win 4).cut (grid0.coords t) ((dats m 0 c).after 4 t) = _
    rw [after0_4]
    refine funext fun y => ?_
    obtain ⟨u, r, e, rfl⟩ : ∃ u r e, y = ix3 u r e := ⟨_, _, _, eq_ix3 y⟩
    obtain rfl : u = 0 := Subsingleton.elim _ _
    obtain rfl : e = 0 := Subsingleton.elim _ _
    refine (out4 (iblk m c 0 t) (iblk m c 1 t) r).trans (Eq.trans ?_ (congrArg (kpArr (V m c main_arg0)) (emb4 t r)).symm)
    rw [sums_blk]; rfl
  · obtain ⟨b, r, e, rfl⟩ : ∃ b r e, i = ix3 b r e := ⟨_, _, _, eq_ix3 i⟩
    obtain rfl : e = 0 := Subsingleton.elim _ _
    obtain ⟨t, hb⟩ := point_of b
    refine ⟨t, flush0_4 t, ?_⟩
    show _ ∈ ((View.whole main_v0_2).slice (win0_4.rect t)).set
    rw [View.set_slice_whole]
    have h := emb4 t r
    rw [show bat t = b from Fin.ext hb] at h
    rw [← h]
    exact (win0_4.rect t).idx_mem _

theorem arr5 : (dats m 0 c).arrAt 5 cfg0.N = gcArr (V m c main_arg0) (V m c main_arg1) := by
  refine (dats m 0 c).arrAt_eq_of_cover 5 (gcArr (V m c main_arg0) (V m c main_arg1)) (fun t hf => ?_) (fun i => ?_)
  · show (cfg0.win 5).cut (grid0.coords t) ((dats m 0 c).after 5 t) = _
    rw [after0_5]
    refine funext fun y => ?_
    obtain ⟨u, r, e, rfl⟩ : ∃ u r e, y = ix3 u r e := ⟨_, _, _, eq_ix3 y⟩
    obtain rfl : u = 0 := Subsingleton.elim _ _
    obtain rfl : e = 0 := Subsingleton.elim _ _
    refine (out5 (iblk m c 0 t) (iblk m c 1 t) r).trans (Eq.trans ?_ (congrArg (gcArr (V m c main_arg0) (V m c main_arg1)) (emb5 t r)).symm)
    rw [sums_blk, freq_blk]; rfl
  · obtain ⟨b, r, e, rfl⟩ : ∃ b r e, i = ix3 b r e := ⟨_, _, _, eq_ix3 i⟩
    obtain rfl : e = 0 := Subsingleton.elim _ _
    obtain ⟨t, hb⟩ := point_of b
    refine ⟨t, flush0_5 t, ?_⟩
    show _ ∈ ((View.whole main_v0_3).slice (win0_5.rect t)).set
    rw [View.set_slice_whole]
    have h := emb5 t r
    rw [show bat t = b from Fin.ext hb] at h
    rw [← h]
    exact (win0_5.rect t).idx_mem _

theorem arr6 : (dats m 0 c).arrAt 6 cfg0.N = anyArr (V m c main_arg0) := by
  refine (dats m 0 c).arrAt_eq_of_cover 6 (anyArr (V m c main_arg0)) (fun t hf => ?_) (fun i => ?_)
  · show (cfg0.win 6).cut (grid0.coords t) ((dats m 0 c).after 6 t) = _
    rw [after0_6]
    refine funext fun y => ?_
    obtain ⟨u, r, e, rfl⟩ : ∃ u r e, y = ix3 u r e := ⟨_, _, _, eq_ix3 y⟩
    obtain rfl : u = 0 := Subsingleton.elim _ _
    obtain rfl : r = 0 := Subsingleton.elim _ _
    obtain rfl : e = 0 := Subsingleton.elim _ _
    refine (out6 (iblk m c 0 t) (iblk m c 1 t)).trans (Eq.trans ?_ (congrArg (anyArr (V m c main_arg0)) (emb6 t)).symm)
    rw [sums_blk]; rfl
  · obtain ⟨b, r, e, rfl⟩ : ∃ b r e, i = ix3 b r e := ⟨_, _, _, eq_ix3 i⟩
    obtain rfl : r = 0 := Subsingleton.elim _ _
    obtain rfl : e = 0 := Subsingleton.elim _ _
    obtain ⟨t, hb⟩ := point_of b
    refine ⟨t, flush0_6 t, ?_⟩
    show _ ∈ ((View.whole main_v0_4).slice (win0_6.rect t)).set
    rw [View.set_slice_whole]
    have h := emb6 t
    rw [show bat t = b from Fin.ext hb] at h
    rw [← h]
    exact (win0_6.rect t).idx_mem _

end Cert.Post.Ker

end
-- ==== Proof.PoRef.lean ====
/- The post reference's five results at an index. -/
module

public import proofs.«01_k».proof.Proof.PoSpec
public import proofs.«01_k».proof.Proof.Gen.PostReferenceIdeal.Read
public import Idealize.ShloMosaic.Lib.Pointwise

@[expose] public section

set_option maxRecDepth 16384

noncomputable section

namespace Cert.Post.Ref

open Idealize.ShloMosaic Idealize.ShloMosaic.TcCoe Idealize.SL.Sem Cert.PostReferenceIdeal Cert.PostReferenceIdeal.Gen Cert.PostReferenceIdeal.Value Cert.Post Cert.Post.Pick

variable (V0 : Valuation τ sig (Elt Ideal)) (b : Fin 2)

/-- The sums of batch `b`. -/
abbrev rows (A : S2x2048x8.Idx → EReal) (b : Fin 2) : Sums := fun i k => A (ix3 b i k)

theorem bits_1024 : Ideal.ofBits .f32 0x44800000#32 = ((1024 : ℝ) : EReal) := by
  simp [Ideal.ofBits, Ideal.ieee, -EReal.coe_mul]; norm_num

theorem bits_1024th : Ideal.ofBits .f32 0x3A800000#32 = ((1 / 1024 : ℝ) : EReal) := by
  simp [Ideal.ofBits, Ideal.ieee, -EReal.coe_mul]; norm_num

theorem bits_2047 : Ideal.ofBits .f32 0x44FFE000#32 = ((2047 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

theorem div_1024 (x : EReal) : Ideal.div x (Ideal.ofBits .f32 0x44800000#32) = x * Ideal.ofBits .f32 0x3A800000#32 := by
  rw [bits_1024, Ideal.div_coe (by norm_num), bits_1024th]

theorem int_zero : FloatOps.sitofp (F := Ideal) FTy.f32 (0#32) = (0 : EReal) := by
  show (((0#32 : BitVec 32).toInt : ℝ) : EReal) = 0
  simp

theorem int_one : FloatOps.sitofp (F := Ideal) FTy.f32 (1#32) = ((1 : ℝ) : EReal) := by
  show (((1#32 : BitVec 32).toInt : ℝ) : EReal) = ((1 : ℝ) : EReal)
  simp

theorem row_fold {α : Type} (op : α → α → α) [Std.Commutative op] [Std.Associative op] (z : α) (x : S2x2048.Idx → α)
    (dp : DecidablePred fun i : S2x2048.Idx => reducesTo_S2x2048_S2_d1.drop i = ix1 b) :
    Finset.fold op z x (@Finset.filter _ (fun i => reducesTo_S2x2048_S2_d1.drop i = ix1 b) dp Finset.univ) = Finset.univ.fold op z fun r : Fin 2048 => x (ix2 b r) := by
  have e : @Finset.filter _ (fun i : S2x2048.Idx => reducesTo_S2x2048_S2_d1.drop i = ix1 b) dp Finset.univ
      = Finset.univ.map ⟨fun r : Fin 2048 => (ix2 b r : S2x2048.Idx), fun r r' h => congrFun h 1⟩ := by
    ext i
    rw [Finset.mem_filter, Finset.mem_map]
    constructor
    · rintro ⟨_, h⟩
      refine ⟨i 1, Finset.mem_univ _, ?_⟩
      have hv : (reducesTo_S2x2048_S2_d1.drop i 0 : Nat) = i 0 := Shape.ReducesTo.drop_apply_val reducesTo_S2x2048_S2_d1 i 0
      rw [h] at hv
      refine ((eq_ix2 i).trans (congrArg₂ ix2 (Fin.ext hv.symm) rfl)).symm
    · rintro ⟨r, _, rfl⟩
      refine ⟨Finset.mem_univ _, (eq_ix1 _).trans (congrArg ix1 (Fin.ext ?_))⟩
      exact Shape.ReducesTo.drop_apply_val reducesTo_S2x2048_S2_d1 (ix2 b r) 0
  rw [e, Finset.fold_map]
  rfl

theorem least (x : S2x2048.Idx → EReal) (dp) (f : Ser) (h : ∀ i, x (ix2 b i) = f i) :
    Finset.fold min (Ideal.ofBits .f32 0x7F800000#32) x (@Finset.filter _ (fun i => reducesTo_S2x2048_S2_d1.drop i = ix1 b) dp Finset.univ) = lo f := by
  rw [row_fold, lo_eq]
  exact congrArg (Finset.univ.fold min _) (funext h)

theorem greatest (x : S2x2048.Idx → EReal) (dp) (f : Ser) (h : ∀ i, x (ix2 b i) = f i) :
    Finset.fold max (Ideal.ofBits .f32 0xFF800000#32) x (@Finset.filter _ (fun i => reducesTo_S2x2048_S2_d1.drop i = ix1 b) dp Finset.univ) = hi f := by
  rw [row_fold, hi_eq]
  exact congrArg (Finset.univ.fold max _) (funext h)

theorem v1_eq (i : Fin 2048) (k : Fin 8) : res_main_v1 V0 (ix3 b i k) = mean (rows (V0 (Proc.devRef .tc main_arg0)) b) k i := by
  pointwise [res_main_v1, mean]
  rw [bits_1024, Ideal.div_coe (by norm_num), bits_1024th]

theorem v3_eq (i : Fin 2048) : res_main_v3 V0 (ix2 b i) = mean (rows (V0 (Proc.devRef .tc main_arg0)) b) 0 i := by
  pointwise [res_main_v3, v1_eq]

theorem v5_eq (i : Fin 2048) : res_main_v5 V0 (ix2 b i) = mean (rows (V0 (Proc.devRef .tc main_arg0)) b) 1 i := by
  pointwise [res_main_v5, v1_eq]

theorem v19_eq (i : Fin 2048) : res_main_v19 V0 (ix2 b i) = imp (rows (V0 (Proc.devRef .tc main_arg0)) b) i := by
  pointwise [res_main_v19, v3_eq, v5_eq, v1_eq, imp]

theorem v21_eq : res_main_v21 V0 (ix2 b 0) = lo (imp (rows (V0 (Proc.devRef .tc main_arg0)) b)) := by
  pointwise [res_main_v21]
  exact least b _ _ _ (fun i => v19_eq V0 b i)

theorem v41_eq (i : Fin 2048) : res_main_v41 V0 (ix2 b i) = mean (rows (V0 (Proc.devRef .tc main_arg0)) b) 5 i := by
  pointwise [res_main_v41, v1_eq]

theorem v72_eq (i : Fin 2048) : res_main_v72 V0 (ix2 b i) = chg (rows (V0 (Proc.devRef .tc main_arg0)) b) i := by
  pointwise [res_main_v72, v3_eq, v5_eq, v1_eq, chg]

theorem v79_eq : res_main_v79 V0 (ix1 b) = thr (chg (rows (V0 (Proc.devRef .tc main_arg0)) b)) := by
  pointwise [res_main_v79, res_main_call4_call0_v8, res_main_call4_call0_v5, v72_eq, thr, avg]
  rw [bits_2048, bits_2047, int_one, ← EReal.coe_sub, show (2048 : ℝ) - 1 = 2047 by norm_num, if_pos (EReal.coe_pos.2 (by norm_num))]

theorem v43_eq : res_main_v43 V0 (ix2 b 0) = lo (mean (rows (V0 (Proc.devRef .tc main_arg0)) b) 5) := by
  pointwise [res_main_v43]
  exact least b _ _ _ (fun i => v41_eq V0 b i)

open Classical in
/-- Whether a position is a key point, as a bit. -/
def keyBit (f : Ser) (i : Fin 2048) : BitVec 1 := if Key f i then 1#1 else 0#1

theorem bit_of (p : Prop) [Decidable p] : BitVec.ofBool (decide p) = if p then 1#1 else 0#1 := by
  by_cases h : p <;> simp [h]

theorem bit_and (p q r : Prop) [Decidable p] [Decidable q] [Decidable r] :
    IntOp.andi (IntOp.andi (BitVec.ofBool (decide p)) (BitVec.ofBool (decide q))) (BitVec.ofBool (decide r))
      = if r ∧ p ∧ q then 1#1 else 0#1 := by
  by_cases hp : p <;> by_cases hq : q <;> by_cases hr : r <;> simp [hp, hq, hr] <;> decide

theorem bit_edge (f : Ser) (i : Fin 2048) (h : i.val = 0 ∨ i.val = 2047) : keyBit f i = if thr f < f i then 1#1 else 0#1 := by
  unfold keyBit
  classical exact if_congr ⟨fun e => e.1, fun e => ⟨e, fun h' => by omega⟩⟩ rfl rfl

theorem bit_inner (f : Ser) (i : Fin 2048) (h : 0 < i.val ∧ i.val < 2047) :
    keyBit f i = if thr f < f i ∧ f ⟨i.val - 1, by omega⟩ < f i ∧ f ⟨i.val + 1, by omega⟩ < f i then 1#1 else 0#1 := by
  unfold keyBit
  classical exact if_congr ⟨fun e => ⟨e.1, e.2 h⟩, fun e => ⟨e.1, fun _ => e.2⟩⟩ rfl rfl

theorem v98_eq (i : Fin 2048) : res_main_v98 V0 (ix2 b i) = keyBit (chg (rows (V0 (Proc.devRef .tc main_arg0)) b)) i := by
  pointwise [res_main_v98, v72_eq, v79_eq]
  generalize chg (rows (V0 (Proc.devRef .tc main_arg0)) b) = f
  have hi := i.isLt
  by_cases h0 : i.val < 1
  · rw [dif_pos h0, bit_edge f i (Or.inl (by omega)), bit_of]
  · rw [dif_neg h0]
    by_cases h1 : i.val - 1 < 2046
    · rw [dif_pos h1]
      have e1 : (⟨1 + (i.val - 1), by omega⟩ : Fin 2048) = i := Fin.ext (by show 1 + (i.val - 1) = i.val; omega)
      have e2 : (⟨2 + (i.val - 1), by omega⟩ : Fin 2048) = ⟨i.val + 1, by omega⟩ := Fin.ext (by show 2 + (i.val - 1) = i.val + 1; omega)
      rw [e1, e2, bit_inner f i (by omega)]
      exact bit_and _ _ _
    · rw [dif_neg h1]
      have e3 : (⟨2047 + (i.val - 1 - 2046), by omega⟩ : Fin 2048) = i := Fin.ext (by show 2047 + (i.val - 1 - 2046) = i.val; omega)
      rw [e3, bit_edge f i (Or.inr (by omega)), bit_of]

theorem v120_eq (i : Fin 2048) : res_main_v120 V0 (ix2 b i)
    = glob (rows (V0 (Proc.devRef .tc main_arg0)) b) ((V0 (Proc.devRef .tc main_arg1) : S2x1x1.Idx → EReal) (ix3 b 0 0)) i := by
  pointwise [res_main_v120, v3_eq, v1_eq, glob]
  refine congrArg₂ (· + ·) rfl ?_
  by_cases h : 0 < i.val ∧ i.val < 2047
  · rw [dif_pos (show 1 ≤ i.val ∧ i.val - 1 < 2046 by omega), if_pos h, div_1024]
    exact congrArg (fun k => _ * Ideal.div (mean _ 7 k) _) (Fin.ext (by show 1 + (i.val - 1) = i.val; omega))
  · rw [dif_neg (fun e => h (by omega)), if_neg h, int_zero, mul_zero]

theorem v122_eq : res_main_v122 V0 (ix2 b 0)
    = lo (glob (rows (V0 (Proc.devRef .tc main_arg0)) b) ((V0 (Proc.devRef .tc main_arg1) : S2x1x1.Idx → EReal) (ix3 b 0 0))) := by
  pointwise [res_main_v122]
  exact least b _ _ _ (fun i => v120_eq V0 b i)

theorem v132_eq (s : Fin 4) (r : Fin 512) : res_main_v132 V0 (ix3 b s r)
    = seg (norm (glob (rows (V0 (Proc.devRef .tc main_arg0)) b) ((V0 (Proc.devRef .tc main_arg1) : S2x1x1.Idx → EReal) (ix3 b 0 0)))) s r := by
  pointwise [res_main_v132, v122_eq, v120_eq, seg, norm]
  rw [show (⟨s.val * 512 + r.val, by omega⟩ : Fin 2048) = ⟨512 * s.val + r.val, by omega⟩ from Fin.ext (by dsimp only; omega)]
  refine congrArg (Ideal.div _) ?_
  refine congrArg₂ (· + ·) (congrArg₂ (· - ·) ?_ rfl) rfl
  exact greatest b _ _ _ fun i => v120_eq V0 b i

open Classical in
/-- The disjunction of bits. -/
theorem any_bit {ι : Type} (g : ι → BitVec 1) (t : Finset ι) : t.fold IntOp.ori 0#1 g = if ∃ i ∈ t, g i = 1#1 then 1#1 else 0#1 := by
  induction t using Finset.induction_on with
  | empty => simp
  | insert a t ha ih =>
    rw [Finset.fold_insert ha, ih]
    rcases bit_cases (g a) with h | h
    · by_cases h' : ∃ i ∈ t, g i = 1#1
      · rw [if_pos h', if_pos ?_, h]
        · rfl
        · obtain ⟨i, hi, e⟩ := h'
          exact ⟨i, Finset.mem_insert_of_mem hi, e⟩
      · rw [if_neg h', if_neg ?_, h]
        · rfl
        · rintro ⟨i, hi, e⟩
          rcases Finset.mem_insert.mp hi with rfl | hi
          · rw [h] at e
            exact absurd e (by decide)
          · exact h' ⟨i, hi, e⟩
    · rw [if_pos (show ∃ i ∈ insert a t, g i = 1#1 from ⟨a, Finset.mem_insert_self a t, h⟩), h]
      split <;> rfl

theorem word_eq (a r : Fin 512) : IntOp.cmpi .eq (BitVec.ofNat 32 a.val) (BitVec.ofNat 32 r.val) = 1#1 ↔ a = r := by
  show BitVec.ofBool (BitVec.ofNat 32 a.val == BitVec.ofNat 32 r.val) = 1#1 ↔ a = r
  constructor
  · intro h
    by_contra hn
    rw [beq_eq_false_iff_ne.mpr fun e => hn (Fin.ext ?_)] at h
    · exact absurd h (by decide)
    · have e' := congrArg BitVec.toNat e
      rw [BitVec.toNat_ofNat, BitVec.toNat_ofNat, Nat.mod_eq_of_lt (by omega), Nat.mod_eq_of_lt (by omega)] at e'
      exact e'
  · rintro rfl
    rw [beq_self_eq_true]
    rfl

theorem along_row (s : Fin 4) (k r : Fin 512) : (ix3 b s k : S2x4x512.Idx).along 2 r = ix3 b s r := by
  refine (eq_ix3 _).trans (congr (congrArg₂ ix3 ?_ ?_) ?_)
  · rfl
  · rfl
  · rfl

/-- The `j`-th greatest of a segment, as a position: the stable descending sort's `j`-th. -/
theorem top_index (x : S2x4x512.Idx → EReal) (s j : Fin 4) :
    (Host.topK S2x4x4 2 (FloatOps.cmpfTotal (F := Ideal) (φ := .f32) .gt) x sliceFits_S2x4x512_S2x4x4).2 (ix3 b s j)
      = BitVec.ofNat 32 (sortedFrom (fun a c : Fin 512 => decide (x (ix3 b s c) < x (ix3 b s a))) (j.castLE (by omega))).val := by
  have key : ∀ J : S2x4x512.Idx, J = ix3 b s (j.castLE (by omega)) →
      (Host.sort2 S2x4x512 2 (fun l r => FloatOps.cmpfTotal (F := Ideal) (φ := .f32) .gt l.1 r.1) x
        (fun i => if hd : 2 < S2x4x512.rank then iotaInDim S2x4x512 32 ⟨2, hd⟩ i else 0#32)).2 J
      = BitVec.ofNat 32 (sortedFrom (fun a c : Fin 512 => decide (x (ix3 b s c) < x (ix3 b s a))) (j.castLE (by omega))).val := by
    rintro _ rfl
    unfold Host.sort2
    rw [dif_pos (show 2 < S2x4x512.rank by decide)]
    dsimp only
    rw [dif_pos (show 2 < S2x4x512.rank by decide)]
    refine congrArg (fun z : Fin 512 => BitVec.ofNat 32 z.val) ((Function.update_self _ _ _).trans ?_)
    refine congrArg (fun B : Fin 512 → Fin 512 → Bool => sortedFrom B (Fin.castLE (show 4 ≤ 512 by omega) j)) (funext fun a => funext fun c => ?_)
    refine (congrArg₂ (fun p q => FloatOps.cmpfTotal (F := Ideal) (φ := .f32) .gt (x p) (x q) == 1#1) (along_row b s _ a) (along_row b s _ c)).trans ?_
    show (BitVec.ofBool (decide (x (ix3 b s c) < x (ix3 b s a))) == 1#1) = _
    cases decide (x (ix3 b s c) < x (ix3 b s a)) <;> rfl
  exact key _ ((eq_ix3 _).trans (congr (congrArg₂ ix3 (Fin.ext (Nat.zero_add _)) (Fin.ext (Nat.zero_add _))) (Fin.ext (Nat.zero_add _))))

theorem lw_eq (i : Fin 2048) : Read.val_main_v141 (F := Ideal) (V0 (Proc.devRef .tc main_arg0)) (ix3 b i 0)
    = width 0x43000000#32 2#32 256#32 (imp (rows (V0 (Proc.devRef .tc main_arg0)) b)) i := by
  rw [← Read.val_main_v141_eq]
  pointwise [v19_eq, v21_eq, width, norm]
  refine congrArg (FloatOps.fptosi 32) (congrArg₂ min rfl (congrArg₂ max rfl (congrArg (Ideal.liftRound Ideal.roundHalfEven)
    (congrArg₂ (· * ·) rfl (congrArg₂ (· + ·) rfl (congrArg₂ (· * ·) rfl (congrArg₂ Ideal.div rfl
      (congrArg₂ (· + ·) (congrArg₂ (· - ·) ?_ rfl) rfl))))))))
  exact greatest b _ _ _ fun i => v19_eq V0 b i

theorem fw_eq (i : Fin 2048) : Read.val_main_v142 (F := Ideal) (V0 (Proc.devRef .tc main_arg0)) (ix3 b i 0)
    = width 0x42800000#32 1#32 64#32 (mean (rows (V0 (Proc.devRef .tc main_arg0)) b) 5) i := by
  rw [← Read.val_main_v142_eq]
  pointwise [v41_eq, v43_eq, width, norm]
  refine congrArg (FloatOps.fptosi 32) (congrArg₂ min rfl (congrArg₂ max rfl (congrArg (Ideal.liftRound Ideal.roundHalfEven)
    (congrArg₂ (· * ·) rfl (congrArg₂ (· + ·) rfl (congrArg₂ (· * ·) rfl (congrArg₂ Ideal.div rfl
      (congrArg₂ (· + ·) (congrArg₂ (· - ·) ?_ rfl) rfl))))))))
  exact greatest b _ _ _ fun i => v41_eq V0 b i

theorem kp_eq (i : Fin 2048) : Read.val_main_v144 (F := Ideal) (V0 (Proc.devRef .tc main_arg0)) (ix3 b i 0)
    = key (chg (rows (V0 (Proc.devRef .tc main_arg0)) b)) i := by
  rw [← Read.val_main_v144_eq]
  pointwise [v98_eq]
  unfold key keyBit
  split <;> rfl

theorem any_eq : Read.val_main_v149 (F := Ideal) (V0 (Proc.devRef .tc main_arg0)) (ix3 b 0 0)
    = keyAny (chg (rows (V0 (Proc.devRef .tc main_arg0)) b)) := by
  rw [← Read.val_main_v149_eq]
  pointwise []
  refine (congrArg (BitVec.setWidth 32) ((row_fold b IntOp.ori 0#1 (res_main_v98 V0) _).trans (any_bit _ _))).trans ?_
  simp only [v98_eq]
  generalize chg (rows (V0 (Proc.devRef .tc main_arg0)) b) = f
  unfold keyAny
  by_cases h : ∃ i, Key f i
  · rw [if_pos h, if_pos ?_]
    · rfl
    · obtain ⟨i, hi⟩ := h
      exact ⟨i, Finset.mem_univ i, if_pos hi⟩
  · rw [if_neg h, if_neg ?_]
    · rfl
    · rintro ⟨i, _, hi⟩
      unfold keyBit at hi
      split at hi
      · exact h ⟨i, by assumption⟩
      · exact absurd hi (by decide)

theorem gc_eq (s : Fin 4) (r : Fin 512) : Read.val_main_v146 (F := Ideal) (V0 (Proc.devRef .tc main_arg0)) (V0 (Proc.devRef .tc main_arg1))
      (ix3 b ⟨512 * s.val + r.val, by omega⟩ 0)
    = chosen (norm (glob (rows (V0 (Proc.devRef .tc main_arg0)) b) ((V0 (Proc.devRef .tc main_arg1) : S2x1x1.Idx → EReal) (ix3 b 0 0)))) ⟨512 * s.val + r.val, by omega⟩ := by
  rw [← Read.val_main_v146_eq]
  pointwise []
  have hs : (⟨(512 * s.val + r.val) / 512, by omega⟩ : Fin 4) = s := Fin.ext (by show (512 * s.val + r.val) / 512 = s.val; omega)
  have hr : (⟨(512 * s.val + r.val) % 512, by omega⟩ : Fin 512) = r := Fin.ext (by show (512 * s.val + r.val) % 512 = r.val; omega)
  refine (congrArg (BitVec.setWidth 32) (any_bit _ _)).trans ?_
  simp only [top_index, v132_eq]
  generalize norm _ = f
  unfold chosen
  rw [hs, hr]
  by_cases h : Chosen f s r
  · rw [if_pos h, if_pos ?_]
    · rfl
    · obtain ⟨j, hj⟩ := h
      exact ⟨j, Finset.mem_univ j, (word_eq _ _).mpr hj⟩
  · rw [if_neg h, if_neg ?_]
    · rfl
    · rintro ⟨j, _, hj⟩
      exact h ⟨j, (word_eq _ _).mp hj⟩

end Cert.Post.Ref

end
-- ==== Proof.PoMain.lean ====
/- The post call and its reference: both leave the same five arrays. -/
module

public import proofs.«01_k».proof.Defs
public import proofs.«01_k».proof.Proof.PoAcc
public import proofs.«01_k».proof.Proof.PoRef

@[expose] public section

set_option maxRecDepth 16384

noncomputable section

namespace Cert.Post.Main

open Idealize.ShloMosaic Idealize.SL.Sem

section
variable (V0 : Valuation Cert.PostReferenceIdeal.τ Cert.PostReferenceIdeal.sig (Elt Ideal))

theorem lw_arr : Cert.PostReferenceIdeal.Read.val_main_v141 (F := Ideal) (V0 (Proc.devRef .tc Cert.PostReferenceIdeal.main_arg0))
    = Cert.Post.Ker.lwArr (V0 (Proc.devRef .tc Cert.PostReferenceIdeal.main_arg0)) :=
  funext fun y => by
    obtain ⟨b, i, e, rfl⟩ : ∃ b i e, y = ix3 b i e := ⟨_, _, _, eq_ix3 y⟩
    obtain rfl : e = 0 := Subsingleton.elim _ _
    exact Cert.Post.Ref.lw_eq V0 b i

theorem fw_arr : Cert.PostReferenceIdeal.Read.val_main_v142 (F := Ideal) (V0 (Proc.devRef .tc Cert.PostReferenceIdeal.main_arg0))
    = Cert.Post.Ker.fwArr (V0 (Proc.devRef .tc Cert.PostReferenceIdeal.main_arg0)) :=
  funext fun y => by
    obtain ⟨b, i, e, rfl⟩ : ∃ b i e, y = ix3 b i e := ⟨_, _, _, eq_ix3 y⟩
    obtain rfl : e = 0 := Subsingleton.elim _ _
    exact Cert.Post.Ref.fw_eq V0 b i

theorem kp_arr : Cert.PostReferenceIdeal.Read.val_main_v144 (F := Ideal) (V0 (Proc.devRef .tc Cert.PostReferenceIdeal.main_arg0))
    = Cert.Post.Ker.kpArr (V0 (Proc.devRef .tc Cert.PostReferenceIdeal.main_arg0)) :=
  funext fun y => by
    obtain ⟨b, i, e, rfl⟩ : ∃ b i e, y = ix3 b i e := ⟨_, _, _, eq_ix3 y⟩
    obtain rfl : e = 0 := Subsingleton.elim _ _
    exact Cert.Post.Ref.kp_eq V0 b i

theorem any_arr : Cert.PostReferenceIdeal.Read.val_main_v149 (F := Ideal) (V0 (Proc.devRef .tc Cert.PostReferenceIdeal.main_arg0))
    = Cert.Post.Ker.anyArr (V0 (Proc.devRef .tc Cert.PostReferenceIdeal.main_arg0)) :=
  funext fun y => by
    obtain ⟨b, i, e, rfl⟩ : ∃ b i e, y = ix3 b i e := ⟨_, _, _, eq_ix3 y⟩
    obtain rfl : i = 0 := Subsingleton.elim _ _
    obtain rfl : e = 0 := Subsingleton.elim _ _
    exact Cert.Post.Ref.any_eq V0 b

theorem gc_arr : Cert.PostReferenceIdeal.Read.val_main_v146 (F := Ideal) (V0 (Proc.devRef .tc Cert.PostReferenceIdeal.main_arg0))
      (V0 (Proc.devRef .tc Cert.PostReferenceIdeal.main_arg1))
    = Cert.Post.Ker.gcArr (V0 (Proc.devRef .tc Cert.PostReferenceIdeal.main_arg0)) (V0 (Proc.devRef .tc Cert.PostReferenceIdeal.main_arg1)) :=
  funext fun y => by
    obtain ⟨b, i, e, rfl⟩ : ∃ (b : Fin 2) (i : Fin 2048) (e : Fin 1), y = ix3 b i e := ⟨_, _, _, eq_ix3 y⟩
    obtain rfl : e = 0 := Subsingleton.elim _ _
    obtain ⟨s, r, rfl⟩ : ∃ (s : Fin 4) (r : Fin 512), i = ⟨512 * s.val + r.val, by omega⟩ :=
      ⟨⟨i.val / 512, by omega⟩, ⟨i.val % 512, by omega⟩, Fin.ext (by dsimp only; omega)⟩
    exact Cert.Post.Ref.gc_eq V0 b s r

end

/-- The reference ends with its arguments unchanged and its counters, of which it has none, at zero. -/
theorem reference_frame : quiescent_PostReferenceIdeal (hPostReferenceIdeal := Cert.PostReferenceIdeal.Gen.facts) := by
  intro m g _
  exact (θ_run Cert.PostReferenceIdeal.defs _ _).mono
    (fun r h => ⟨fun c => (h c).2.2.2.2.2, sem_eq_zero_of_no_sems (by decide) r.2⟩) (Cert.PostReferenceIdeal.Value.run (F := Ideal) m g)

/-- The kernel's call and the reference end with equal results. -/
theorem algebraic : algebraic_PostIdeal_PostReferenceIdeal (hPostIdeal := Cert.PostIdeal.Gen.facts)
    (hPostReferenceIdeal := Cert.PostReferenceIdeal.Gen.facts) := by
  intro m g m' g' _ hagree
  refine ⟨fun c => Cert.Post.Ker.lwArr (m ((c.tc : Thread Cert.PostIdeal.nD Cert.PostIdeal.τ).loc Cert.PostIdeal.main_arg0)),
    fun c => Cert.Post.Ker.fwArr (m ((c.tc : Thread Cert.PostIdeal.nD Cert.PostIdeal.τ).loc Cert.PostIdeal.main_arg0)),
    fun c => Cert.Post.Ker.kpArr (m ((c.tc : Thread Cert.PostIdeal.nD Cert.PostIdeal.τ).loc Cert.PostIdeal.main_arg0)),
    fun c => Cert.Post.Ker.gcArr (m ((c.tc : Thread Cert.PostIdeal.nD Cert.PostIdeal.τ).loc Cert.PostIdeal.main_arg0))
      (m ((c.tc : Thread Cert.PostIdeal.nD Cert.PostIdeal.τ).loc Cert.PostIdeal.main_arg1)),
    fun c => Cert.Post.Ker.anyArr (m ((c.tc : Thread Cert.PostIdeal.nD Cert.PostIdeal.τ).loc Cert.PostIdeal.main_arg0)),
    (θ_run Cert.PostIdeal.defs _ _).mono (fun r h c => ?_) (Cert.PostIdeal.Value.run_blocks (F := Ideal) m g),
    (θ_run Cert.PostReferenceIdeal.defs _ _).mono (fun r h c => ?_) (Cert.PostReferenceIdeal.Value.run (F := Ideal) m' g')⟩
  · obtain ⟨h0, h1, h2, h3, h4, h5⟩ := h c
    exact ⟨h0.trans (Cert.Post.Ker.arr2 m c), h1.trans (Cert.Post.Ker.arr3 m c), h2.trans (Cert.Post.Ker.arr4 m c),
      h3.trans (Cert.Post.Ker.arr5 m c), h4.trans (Cert.Post.Ker.arr6 m c), h5⟩
  · obtain ⟨h0, h1, h2, h3, h4, h5⟩ := h c
    obtain ⟨e0, e1⟩ := hagree c
    refine ⟨h0.trans ((Cert.PostReferenceIdeal.Read.val_main_v141_eq _).trans ((lw_arr _).trans (congrArg Cert.Post.Ker.lwArr e0))),
      h1.trans ((Cert.PostReferenceIdeal.Read.val_main_v142_eq _).trans ((fw_arr _).trans (congrArg Cert.Post.Ker.fwArr e0))),
      h2.trans ((Cert.PostReferenceIdeal.Read.val_main_v144_eq _).trans ((kp_arr _).trans (congrArg Cert.Post.Ker.kpArr e0))),
      h3.trans ((Cert.PostReferenceIdeal.Read.val_main_v146_eq _).trans ((gc_arr _).trans (congrArg₂ Cert.Post.Ker.gcArr e0 e1))),
      h4.trans ((Cert.PostReferenceIdeal.Read.val_main_v149_eq _).trans ((any_arr _).trans (congrArg Cert.Post.Ker.anyArr e0))), h5⟩

end Cert.Post.Main

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.KHost
public import proofs.«01_k».proof.Proof.Gen.Stats
public import proofs.«01_k».proof.Proof.Gen.Stats.Skeleton
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.StMain
public import proofs.«01_k».proof.Proof.PoMain
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.StatsIdeal.Value
public import Idealize.ShloMosaic.Adequacy
public import Idealize.ShloMosaic.Init

@[expose] public section

set_option maxRecDepth 16384

noncomputable section

namespace Cert.Proof

open Idealize.ShloMosaic Idealize.SL.Sem

/-- The contents the idealized kernel and the reference both leave in their result on device `c`. -/
def resultOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v14) :=
  Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))

/-- The precondition gives what the value proof uses. -/
theorem sound_of_pre (m : (ℓ : Loc Cert.KernelIdeal.nD Cert.KernelIdeal.τ Cert.KernelIdeal.sig) → Buf (Elt Ideal) ℓ)
    (h : Pre_KernelIdeal_finite (hPre_finite := Cert.Attn.Pre.facts) m) (c : Dev Cert.KernelIdeal.nD) :
    Cert.Attn.Pre.Sound (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) :=
  haveI := Cert.Attn.Pre.facts
  Cert.Attn.Pre.sound _ _ _ _ _ _ _ _ _ _ _ _ _ _ _ _ _ _ _ _ _ _ _ _ (h c)

/-- The idealized kernel ends with `resultOf` in its result and its arguments unchanged. -/
theorem kernel_run (m : (ℓ : Loc Cert.KernelIdeal.nD Cert.KernelIdeal.τ Cert.KernelIdeal.sig) → Buf (Elt Ideal) ℓ) (g : Dev Cert.KernelIdeal.nD → PrngReg)
    (h : Pre_KernelIdeal_finite (hPre_finite := Cert.Attn.Pre.facts) m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v14) = resultOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)) :=
  (θ_run _ _ _).mono (fun r hr c =>
    ⟨(hr.1 c _ (Cert.KernelIdeal.Gen.mem_uc Cert.KernelIdeal.main_v14 (by decide))).trans (Cert.Attn.Ker.result_eq m g c (sound_of_pre m h c)),
     (hr.1 c _ (Cert.KernelIdeal.Gen.mem_uc Cert.KernelIdeal.main_arg0 (by decide))).trans (Cert.KernelIdeal.Gen.W4_main_arg0 m g c),
     (hr.1 c _ (Cert.KernelIdeal.Gen.mem_uc Cert.KernelIdeal.main_arg1 (by decide))).trans (Cert.KernelIdeal.Gen.W4_main_arg1 m g c),
     (hr.1 c _ (Cert.KernelIdeal.Gen.mem_uc Cert.KernelIdeal.main_arg2 (by decide))).trans (Cert.KernelIdeal.Gen.W4_main_arg2 m g c),
     (hr.1 c _ (Cert.KernelIdeal.Gen.mem_uc Cert.KernelIdeal.main_arg3 (by decide))).trans (Cert.KernelIdeal.Gen.W4_main_arg3 m g c),
     (hr.1 c _ (Cert.KernelIdeal.Gen.mem_uc Cert.KernelIdeal.main_arg4 (by decide))).trans (Cert.KernelIdeal.Gen.W4_main_arg4 m g c),
     (hr.1 c _ (Cert.KernelIdeal.Gen.mem_uc Cert.KernelIdeal.main_arg5 (by decide))).trans (Cert.KernelIdeal.Gen.W4_main_arg5 m g c),
     (hr.1 c _ (Cert.KernelIdeal.Gen.mem_uc Cert.KernelIdeal.main_arg6 (by decide))).trans (Cert.KernelIdeal.Gen.W4_main_arg6 m g c),
     (hr.1 c _ (Cert.KernelIdeal.Gen.mem_uc Cert.KernelIdeal.main_arg7 (by decide))).trans (Cert.KernelIdeal.Gen.W4_main_arg7 m g c),
     (hr.1 c _ (Cert.KernelIdeal.Gen.mem_uc Cert.KernelIdeal.main_arg8 (by decide))).trans (Cert.KernelIdeal.Gen.W4_main_arg8 m g c),
     (hr.1 c _ (Cert.KernelIdeal.Gen.mem_uc Cert.KernelIdeal.main_arg9 (by decide))).trans (Cert.KernelIdeal.Gen.W4_main_arg9 m g c),
     (hr.1 c _ (Cert.KernelIdeal.Gen.mem_uc Cert.KernelIdeal.main_arg10 (by decide))).trans (Cert.KernelIdeal.Gen.W4_main_arg10 m g c),
     (hr.1 c _ (Cert.KernelIdeal.Gen.mem_uc Cert.KernelIdeal.main_arg11 (by decide))).trans (Cert.KernelIdeal.Gen.W4_main_arg11 m g c),
     (hr.1 c _ (Cert.KernelIdeal.Gen.mem_uc Cert.KernelIdeal.main_arg12 (by decide))).trans (Cert.KernelIdeal.Gen.W4_main_arg12 m g c),
     (hr.1 c _ (Cert.KernelIdeal.Gen.mem_uc Cert.KernelIdeal.main_arg13 (by decide))).trans (Cert.KernelIdeal.Gen.W4_main_arg13 m g c),
     (hr.1 c _ (Cert.KernelIdeal.Gen.mem_uc Cert.KernelIdeal.main_arg14 (by decide))).trans (Cert.KernelIdeal.Gen.W4_main_arg14 m g c),
     (hr.1 c _ (Cert.KernelIdeal.Gen.mem_uc Cert.KernelIdeal.main_arg15 (by decide))).trans (Cert.KernelIdeal.Gen.W4_main_arg15 m g c),
     (hr.1 c _ (Cert.KernelIdeal.Gen.mem_uc Cert.KernelIdeal.main_arg16 (by decide))).trans (Cert.KernelIdeal.Gen.W4_main_arg16 m g c),
     (hr.1 c _ (Cert.KernelIdeal.Gen.mem_uc Cert.KernelIdeal.main_arg17 (by decide))).trans (Cert.KernelIdeal.Gen.W4_main_arg17 m g c),
     (hr.1 c _ (Cert.KernelIdeal.Gen.mem_uc Cert.KernelIdeal.main_arg18 (by decide))).trans (Cert.KernelIdeal.Gen.W4_main_arg18 m g c),
     (hr.1 c _ (Cert.KernelIdeal.Gen.mem_uc Cert.KernelIdeal.main_arg19 (by decide))).trans (Cert.KernelIdeal.Gen.W4_main_arg19 m g c),
     (hr.1 c _ (Cert.KernelIdeal.Gen.mem_uc Cert.KernelIdeal.main_arg20 (by decide))).trans (Cert.KernelIdeal.Gen.W4_main_arg20 m g c),
     (hr.1 c _ (Cert.KernelIdeal.Gen.mem_uc Cert.KernelIdeal.main_arg21 (by decide))).trans (Cert.KernelIdeal.Gen.W4_main_arg21 m g c),
     (hr.1 c _ (Cert.KernelIdeal.Gen.mem_uc Cert.KernelIdeal.main_arg22 (by decide))).trans (Cert.KernelIdeal.Gen.W4_main_arg22 m g c),
     (hr.1 c _ (Cert.KernelIdeal.Gen.mem_uc Cert.KernelIdeal.main_arg23 (by decide))).trans (Cert.KernelIdeal.Gen.W4_main_arg23 m g c)⟩)
    (Cert.Attn.Ker.run_all m g)

/-- The reference ends with its argument arrays unchanged and its counters, of which it has none, at zero. -/
theorem reference_frame : quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run (F := Ideal) m g)

/-- The idealized kernel and the reference end with equal results, on the precondition. -/
theorem algebraic : algebraic_KernelIdeal_ReferenceIdeal_pre_finite (hKernelIdeal := Cert.KernelIdeal.Gen.facts)
    (hReferenceIdeal := Cert.ReferenceIdeal.Gen.facts) (hPre_finite := Cert.Attn.Pre.facts) := by
  intro m g m' g' hpre hagree
  refine ⟨resultOf m, kernel_run m g hpre, (θ_run Cert.ReferenceIdeal.defs _ _).mono (fun r h c => ⟨(h c).1.trans ?_, (h c).2⟩)
    (Cert.ReferenceIdeal.Value.run (F := Ideal) m' g')⟩
  refine (Cert.ReferenceIdeal.Read.val_main_v173_eq _).trans ?_
  obtain ⟨a0, a1, a2, a3, a4, a5, a6, a7, a8, a9, a10, a11, a12, a13, a14, a15, a16, a17, a18, a19, a20, a21, a22, a23⟩ := hagree c
  show Cert.ReferenceIdeal.Read.val_main_v173 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = resultOf m c
  rw [a0, a1, a2, a3, a4, a5, a6, a7, a8, a9, a10, a11, a12, a13, a14, a15, a16, a17, a18, a19, a20, a21, a22, a23]
  rfl

theorem claim : Cert.Claim :=
  ⟨Cert.Kernel.Gen.facts, Cert.KernelIdeal.Gen.facts, Cert.ReferenceIdeal.Gen.facts, Cert.Stats.Gen.facts, Cert.StatsIdeal.Gen.facts,
    Cert.StatsReferenceIdeal.Gen.facts, Cert.Post.Gen.facts, Cert.PostIdeal.Gen.facts, Cert.PostReferenceIdeal.Gen.facts, Cert.Attn.Pre.facts, Cert.Stats.Main.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Stats.Gen.frame m ρ, fun m ρ _ => Cert.StatsIdeal.Gen.frame m ρ, fun m ρ _ => Cert.StatsIdeal.Gen.frame m ρ,
    Cert.Stats.Main.reference_frame, fun m ρ _ => Cert.Stats.Main.reference_frame m ρ trivial,
    fun m ρ _ => Cert.Post.Gen.frame m ρ, fun m ρ _ => Cert.PostIdeal.Gen.frame m ρ, Cert.Post.Main.reference_frame,
    IdealRules.named_const.statement Cert.KernelIdeal.κ "mask" .f32 0xCE6E6B28#32 ⊥ rfl,
    algebraic,
    ⟨IdealRules.named_const.statement Cert.StatsIdeal.κ "third" .f32 0x3EAAAAAB#32 ((3⁻¹ : ℝ) : EReal) rfl,
      IdealRules.named_const.statement Cert.StatsIdeal.κ "fifth" .f32 0x3E4CCCCD#32 ((5⁻¹ : ℝ) : EReal) rfl⟩,
    Cert.Stats.Main.algebraic,
    IdealRules.named_const.statement Cert.PostIdeal.κ "low" .f32 0xF149F2CA#32 ⊥ rfl,
    Cert.Post.Main.algebraic⟩

end Cert.Proof

end
